-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_PlainMixIdeal (m : (ℓ : Loc Cert.PlainMixIdeal.nD Cert.PlainMixIdeal.τ Cert.PlainMixIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_PlainFfnIdeal (m : (ℓ : Loc Cert.PlainFfnIdeal.nD Cert.PlainFfnIdeal.τ Cert.PlainFfnIdeal.sig) → Buf (Elt Ideal) ℓ) : Prop :=
  True

def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_PlainMemIdeal (m : (ℓ : Loc Cert.PlainMemIdeal.nD Cert.PlainMemIdeal.τ Cert.PlainMemIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_PlainFrontIdeal (m : (ℓ : Loc Cert.PlainFrontIdeal.nD Cert.PlainFrontIdeal.τ Cert.PlainFrontIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_PlainBackIdeal (m : (ℓ : Loc Cert.PlainBackIdeal.nD Cert.PlainBackIdeal.τ Cert.PlainBackIdeal.sig) → Buf (Elt Ideal) ℓ) : Prop :=
  True

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_PlainMixIdeal [hPlainMixIdeal : Cert.PlainMixIdeal.Facts] : Prop :=
  ∀ (m : (ℓ : Loc Cert.PlainMixIdeal.nD Cert.PlainMixIdeal.τ Cert.PlainMixIdeal.sig) → Buf (Elt Ideal) ℓ) (g : Dev Cert.PlainMixIdeal.nD → PrngReg), Pre_PlainMixIdeal m →
    θ_run (Cert.PlainMixIdeal.defs (F := Ideal)) (onTc (τ := Cert.PlainMixIdeal.τ) (Cert.PlainMixIdeal.main (F := Ideal))) ⟨m, fun _ => 0, g⟩ (fun r => (∀ c : Dev Cert.PlainMixIdeal.nD,
      r.2.mem ((c.tc : Thread Cert.PlainMixIdeal.nD Cert.PlainMixIdeal.τ).loc Cert.PlainMixIdeal.main_arg0) = m ((c.tc : Thread Cert.PlainMixIdeal.nD Cert.PlainMixIdeal.τ).loc Cert.PlainMixIdeal.main_arg0)
      ∧ r.2.mem ((c.tc : Thread Cert.PlainMixIdeal.nD Cert.PlainMixIdeal.τ).loc Cert.PlainMixIdeal.main_arg1) = m ((c.tc : Thread Cert.PlainMixIdeal.nD Cert.PlainMixIdeal.τ).loc Cert.PlainMixIdeal.main_arg1)
      ∧ r.2.mem ((c.tc : Thread Cert.PlainMixIdeal.nD Cert.PlainMixIdeal.τ).loc Cert.PlainMixIdeal.main_arg2) = m ((c.tc : Thread Cert.PlainMixIdeal.nD Cert.PlainMixIdeal.τ).loc Cert.PlainMixIdeal.main_arg2)
      ∧ r.2.mem ((c.tc : Thread Cert.PlainMixIdeal.nD Cert.PlainMixIdeal.τ).loc Cert.PlainMixIdeal.main_arg3) = m ((c.tc : Thread Cert.PlainMixIdeal.nD Cert.PlainMixIdeal.τ).loc Cert.PlainMixIdeal.main_arg3)
      ∧ r.2.mem ((c.tc : Thread Cert.PlainMixIdeal.nD Cert.PlainMixIdeal.τ).loc Cert.PlainMixIdeal.main_arg4) = m ((c.tc : Thread Cert.PlainMixIdeal.nD Cert.PlainMixIdeal.τ).loc Cert.PlainMixIdeal.main_arg4)
      ∧ r.2.mem ((c.tc : Thread Cert.PlainMixIdeal.nD Cert.PlainMixIdeal.τ).loc Cert.PlainMixIdeal.main_arg5) = m ((c.tc : Thread Cert.PlainMixIdeal.nD Cert.PlainMixIdeal.τ).loc Cert.PlainMixIdeal.main_arg5)
      ∧ r.2.mem ((c.tc : Thread Cert.PlainMixIdeal.nD Cert.PlainMixIdeal.τ).loc Cert.PlainMixIdeal.main_arg6) = m ((c.tc : Thread Cert.PlainMixIdeal.nD Cert.PlainMixIdeal.τ).loc Cert.PlainMixIdeal.main_arg6)
      ∧ r.2.mem ((c.tc : Thread Cert.PlainMixIdeal.nD Cert.PlainMixIdeal.τ).loc Cert.PlainMixIdeal.main_arg7) = m ((c.tc : Thread Cert.PlainMixIdeal.nD Cert.PlainMixIdeal.τ).loc Cert.PlainMixIdeal.main_arg7)
      ∧ r.2.mem ((c.tc : Thread Cert.PlainMixIdeal.nD Cert.PlainMixIdeal.τ).loc Cert.PlainMixIdeal.main_arg8) = m ((c.tc : Thread Cert.PlainMixIdeal.nD Cert.PlainMixIdeal.τ).loc Cert.PlainMixIdeal.main_arg8)
      ∧ r.2.mem ((c.tc : Thread Cert.PlainMixIdeal.nD Cert.PlainMixIdeal.τ).loc Cert.PlainMixIdeal.main_arg9) = m ((c.tc : Thread Cert.PlainMixIdeal.nD Cert.PlainMixIdeal.τ).loc Cert.PlainMixIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_PlainFfnIdeal [hPlainFfnIdeal : Cert.PlainFfnIdeal.Facts] : Prop :=
  ∀ (m : (ℓ : Loc Cert.PlainFfnIdeal.nD Cert.PlainFfnIdeal.τ Cert.PlainFfnIdeal.sig) → Buf (Elt Ideal) ℓ) (g : Dev Cert.PlainFfnIdeal.nD → PrngReg), Pre_PlainFfnIdeal m →
    θ_run (Cert.PlainFfnIdeal.defs (F := Ideal)) (onTc (τ := Cert.PlainFfnIdeal.τ) (Cert.PlainFfnIdeal.main (F := Ideal))) ⟨m, fun _ => 0, g⟩ (fun r => (∀ c : Dev Cert.PlainFfnIdeal.nD,
      r.2.mem ((c.tc : Thread Cert.PlainFfnIdeal.nD Cert.PlainFfnIdeal.τ).loc Cert.PlainFfnIdeal.main_arg0) = m ((c.tc : Thread Cert.PlainFfnIdeal.nD Cert.PlainFfnIdeal.τ).loc Cert.PlainFfnIdeal.main_arg0)
      ∧ r.2.mem ((c.tc : Thread Cert.PlainFfnIdeal.nD Cert.PlainFfnIdeal.τ).loc Cert.PlainFfnIdeal.main_arg1) = m ((c.tc : Thread Cert.PlainFfnIdeal.nD Cert.PlainFfnIdeal.τ).loc Cert.PlainFfnIdeal.main_arg1)
      ∧ r.2.mem ((c.tc : Thread Cert.PlainFfnIdeal.nD Cert.PlainFfnIdeal.τ).loc Cert.PlainFfnIdeal.main_arg2) = m ((c.tc : Thread Cert.PlainFfnIdeal.nD Cert.PlainFfnIdeal.τ).loc Cert.PlainFfnIdeal.main_arg2)
      ∧ r.2.mem ((c.tc : Thread Cert.PlainFfnIdeal.nD Cert.PlainFfnIdeal.τ).loc Cert.PlainFfnIdeal.main_arg3) = m ((c.tc : Thread Cert.PlainFfnIdeal.nD Cert.PlainFfnIdeal.τ).loc Cert.PlainFfnIdeal.main_arg3)
      ∧ r.2.mem ((c.tc : Thread Cert.PlainFfnIdeal.nD Cert.PlainFfnIdeal.τ).loc Cert.PlainFfnIdeal.main_arg4) = m ((c.tc : Thread Cert.PlainFfnIdeal.nD Cert.PlainFfnIdeal.τ).loc Cert.PlainFfnIdeal.main_arg4)
      ∧ r.2.mem ((c.tc : Thread Cert.PlainFfnIdeal.nD Cert.PlainFfnIdeal.τ).loc Cert.PlainFfnIdeal.main_arg5) = m ((c.tc : Thread Cert.PlainFfnIdeal.nD Cert.PlainFfnIdeal.τ).loc Cert.PlainFfnIdeal.main_arg5))
      ∧ r.2.sem = fun _ => 0)

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1)
      ∧ r.2.mem ((c.tc : Thread Cert.Mem.nD Cert.Mem.τ).loc Cert.Mem.main_arg2) = m ((c.tc : Thread Cert.Mem.nD Cert.Mem.τ).loc Cert.Mem.main_arg2)
      ∧ r.2.mem ((c.tc : Thread Cert.Mem.nD Cert.Mem.τ).loc Cert.Mem.main_arg3) = m ((c.tc : Thread Cert.Mem.nD Cert.Mem.τ).loc Cert.Mem.main_arg3))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
      ∧ r.2.mem ((c.tc : Thread Cert.MemIdeal.nD Cert.MemIdeal.τ).loc Cert.MemIdeal.main_arg3) = m ((c.tc : Thread Cert.MemIdeal.nD Cert.MemIdeal.τ).loc Cert.MemIdeal.main_arg3))
      ∧ r.2.sem = fun _ => 0)

def quiescent_PlainMemIdeal [hPlainMemIdeal : Cert.PlainMemIdeal.Facts] : Prop :=
  ∀ (m : (ℓ : Loc Cert.PlainMemIdeal.nD Cert.PlainMemIdeal.τ Cert.PlainMemIdeal.sig) → Buf (Elt Ideal) ℓ) (g : Dev Cert.PlainMemIdeal.nD → PrngReg), Pre_PlainMemIdeal m →
    θ_run (Cert.PlainMemIdeal.defs (F := Ideal)) (onTc (τ := Cert.PlainMemIdeal.τ) (Cert.PlainMemIdeal.main (F := Ideal))) ⟨m, fun _ => 0, g⟩ (fun r => (∀ c : Dev Cert.PlainMemIdeal.nD,
      r.2.mem ((c.tc : Thread Cert.PlainMemIdeal.nD Cert.PlainMemIdeal.τ).loc Cert.PlainMemIdeal.main_arg0) = m ((c.tc : Thread Cert.PlainMemIdeal.nD Cert.PlainMemIdeal.τ).loc Cert.PlainMemIdeal.main_arg0)
      ∧ r.2.mem ((c.tc : Thread Cert.PlainMemIdeal.nD Cert.PlainMemIdeal.τ).loc Cert.PlainMemIdeal.main_arg1) = m ((c.tc : Thread Cert.PlainMemIdeal.nD Cert.PlainMemIdeal.τ).loc Cert.PlainMemIdeal.main_arg1)
      ∧ r.2.mem ((c.tc : Thread Cert.PlainMemIdeal.nD Cert.PlainMemIdeal.τ).loc Cert.PlainMemIdeal.main_arg2) = m ((c.tc : Thread Cert.PlainMemIdeal.nD Cert.PlainMemIdeal.τ).loc Cert.PlainMemIdeal.main_arg2)
      ∧ r.2.mem ((c.tc : Thread Cert.PlainMemIdeal.nD Cert.PlainMemIdeal.τ).loc Cert.PlainMemIdeal.main_arg3) = m ((c.tc : Thread Cert.PlainMemIdeal.nD Cert.PlainMemIdeal.τ).loc Cert.PlainMemIdeal.main_arg3))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7)
      ∧ r.2.mem ((c.tc : Thread Cert.Front.nD Cert.Front.τ).loc Cert.Front.main_arg8) = m ((c.tc : Thread Cert.Front.nD Cert.Front.τ).loc Cert.Front.main_arg8)
      ∧ r.2.mem ((c.tc : Thread Cert.Front.nD Cert.Front.τ).loc Cert.Front.main_arg9) = m ((c.tc : Thread Cert.Front.nD Cert.Front.τ).loc Cert.Front.main_arg9)
      ∧ r.2.mem ((c.tc : Thread Cert.Front.nD Cert.Front.τ).loc Cert.Front.main_arg10) = m ((c.tc : Thread Cert.Front.nD Cert.Front.τ).loc Cert.Front.main_arg10))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
      ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
      ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10))
      ∧ r.2.sem = fun _ => 0)

def quiescent_PlainFrontIdeal [hPlainFrontIdeal : Cert.PlainFrontIdeal.Facts] : Prop :=
  ∀ (m : (ℓ : Loc Cert.PlainFrontIdeal.nD Cert.PlainFrontIdeal.τ Cert.PlainFrontIdeal.sig) → Buf (Elt Ideal) ℓ) (g : Dev Cert.PlainFrontIdeal.nD → PrngReg), Pre_PlainFrontIdeal m →
    θ_run (Cert.PlainFrontIdeal.defs (F := Ideal)) (onTc (τ := Cert.PlainFrontIdeal.τ) (Cert.PlainFrontIdeal.main (F := Ideal))) ⟨m, fun _ => 0, g⟩ (fun r => (∀ c : Dev Cert.PlainFrontIdeal.nD,
      r.2.mem ((c.tc : Thread Cert.PlainFrontIdeal.nD Cert.PlainFrontIdeal.τ).loc Cert.PlainFrontIdeal.main_arg0) = m ((c.tc : Thread Cert.PlainFrontIdeal.nD Cert.PlainFrontIdeal.τ).loc Cert.PlainFrontIdeal.main_arg0)
      ∧ r.2.mem ((c.tc : Thread Cert.PlainFrontIdeal.nD Cert.PlainFrontIdeal.τ).loc Cert.PlainFrontIdeal.main_arg1) = m ((c.tc : Thread Cert.PlainFrontIdeal.nD Cert.PlainFrontIdeal.τ).loc Cert.PlainFrontIdeal.main_arg1)
      ∧ r.2.mem ((c.tc : Thread Cert.PlainFrontIdeal.nD Cert.PlainFrontIdeal.τ).loc Cert.PlainFrontIdeal.main_arg2) = m ((c.tc : Thread Cert.PlainFrontIdeal.nD Cert.PlainFrontIdeal.τ).loc Cert.PlainFrontIdeal.main_arg2)
      ∧ r.2.mem ((c.tc : Thread Cert.PlainFrontIdeal.nD Cert.PlainFrontIdeal.τ).loc Cert.PlainFrontIdeal.main_arg3) = m ((c.tc : Thread Cert.PlainFrontIdeal.nD Cert.PlainFrontIdeal.τ).loc Cert.PlainFrontIdeal.main_arg3)
      ∧ r.2.mem ((c.tc : Thread Cert.PlainFrontIdeal.nD Cert.PlainFrontIdeal.τ).loc Cert.PlainFrontIdeal.main_arg4) = m ((c.tc : Thread Cert.PlainFrontIdeal.nD Cert.PlainFrontIdeal.τ).loc Cert.PlainFrontIdeal.main_arg4)
      ∧ r.2.mem ((c.tc : Thread Cert.PlainFrontIdeal.nD Cert.PlainFrontIdeal.τ).loc Cert.PlainFrontIdeal.main_arg5) = m ((c.tc : Thread Cert.PlainFrontIdeal.nD Cert.PlainFrontIdeal.τ).loc Cert.PlainFrontIdeal.main_arg5)
      ∧ r.2.mem ((c.tc : Thread Cert.PlainFrontIdeal.nD Cert.PlainFrontIdeal.τ).loc Cert.PlainFrontIdeal.main_arg6) = m ((c.tc : Thread Cert.PlainFrontIdeal.nD Cert.PlainFrontIdeal.τ).loc Cert.PlainFrontIdeal.main_arg6)
      ∧ r.2.mem ((c.tc : Thread Cert.PlainFrontIdeal.nD Cert.PlainFrontIdeal.τ).loc Cert.PlainFrontIdeal.main_arg7) = m ((c.tc : Thread Cert.PlainFrontIdeal.nD Cert.PlainFrontIdeal.τ).loc Cert.PlainFrontIdeal.main_arg7)
      ∧ r.2.mem ((c.tc : Thread Cert.PlainFrontIdeal.nD Cert.PlainFrontIdeal.τ).loc Cert.PlainFrontIdeal.main_arg8) = m ((c.tc : Thread Cert.PlainFrontIdeal.nD Cert.PlainFrontIdeal.τ).loc Cert.PlainFrontIdeal.main_arg8)
      ∧ r.2.mem ((c.tc : Thread Cert.PlainFrontIdeal.nD Cert.PlainFrontIdeal.τ).loc Cert.PlainFrontIdeal.main_arg9) = m ((c.tc : Thread Cert.PlainFrontIdeal.nD Cert.PlainFrontIdeal.τ).loc Cert.PlainFrontIdeal.main_arg9)
      ∧ r.2.mem ((c.tc : Thread Cert.PlainFrontIdeal.nD Cert.PlainFrontIdeal.τ).loc Cert.PlainFrontIdeal.main_arg10) = m ((c.tc : Thread Cert.PlainFrontIdeal.nD Cert.PlainFrontIdeal.τ).loc Cert.PlainFrontIdeal.main_arg10))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4)
      ∧ r.2.mem ((c.tc : Thread Cert.Back.nD Cert.Back.τ).loc Cert.Back.main_arg5) = m ((c.tc : Thread Cert.Back.nD Cert.Back.τ).loc Cert.Back.main_arg5)
      ∧ r.2.mem ((c.tc : Thread Cert.Back.nD Cert.Back.τ).loc Cert.Back.main_arg6) = m ((c.tc : Thread Cert.Back.nD Cert.Back.τ).loc Cert.Back.main_arg6)
      ∧ r.2.mem ((c.tc : Thread Cert.Back.nD Cert.Back.τ).loc Cert.Back.main_arg7) = m ((c.tc : Thread Cert.Back.nD Cert.Back.τ).loc Cert.Back.main_arg7)
      ∧ r.2.mem ((c.tc : Thread Cert.Back.nD Cert.Back.τ).loc Cert.Back.main_arg8) = m ((c.tc : Thread Cert.Back.nD Cert.Back.τ).loc Cert.Back.main_arg8)
      ∧ r.2.mem ((c.tc : Thread Cert.Back.nD Cert.Back.τ).loc Cert.Back.main_arg9) = m ((c.tc : Thread Cert.Back.nD Cert.Back.τ).loc Cert.Back.main_arg9)
      ∧ r.2.mem ((c.tc : Thread Cert.Back.nD Cert.Back.τ).loc Cert.Back.main_arg10) = m ((c.tc : Thread Cert.Back.nD Cert.Back.τ).loc Cert.Back.main_arg10)
      ∧ r.2.mem ((c.tc : Thread Cert.Back.nD Cert.Back.τ).loc Cert.Back.main_arg11) = m ((c.tc : Thread Cert.Back.nD Cert.Back.τ).loc Cert.Back.main_arg11)
      ∧ r.2.mem ((c.tc : Thread Cert.Back.nD Cert.Back.τ).loc Cert.Back.main_arg12) = m ((c.tc : Thread Cert.Back.nD Cert.Back.τ).loc Cert.Back.main_arg12)
      ∧ r.2.mem ((c.tc : Thread Cert.Back.nD Cert.Back.τ).loc Cert.Back.main_arg13) = m ((c.tc : Thread Cert.Back.nD Cert.Back.τ).loc Cert.Back.main_arg13)
      ∧ r.2.mem ((c.tc : Thread Cert.Back.nD Cert.Back.τ).loc Cert.Back.main_arg14) = m ((c.tc : Thread Cert.Back.nD Cert.Back.τ).loc Cert.Back.main_arg14)
      ∧ r.2.mem ((c.tc : Thread Cert.Back.nD Cert.Back.τ).loc Cert.Back.main_arg15) = m ((c.tc : Thread Cert.Back.nD Cert.Back.τ).loc Cert.Back.main_arg15)
      ∧ r.2.mem ((c.tc : Thread Cert.Back.nD Cert.Back.τ).loc Cert.Back.main_arg16) = m ((c.tc : Thread Cert.Back.nD Cert.Back.τ).loc Cert.Back.main_arg16)
      ∧ r.2.mem ((c.tc : Thread Cert.Back.nD Cert.Back.τ).loc Cert.Back.main_arg17) = m ((c.tc : Thread Cert.Back.nD Cert.Back.τ).loc Cert.Back.main_arg17))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
      ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
      ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
      ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
      ∧ r.2.mem ((c.tc : Thread Cert.BackIdeal.nD Cert.BackIdeal.τ).loc Cert.BackIdeal.main_arg10) = m ((c.tc : Thread Cert.BackIdeal.nD Cert.BackIdeal.τ).loc Cert.BackIdeal.main_arg10)
      ∧ r.2.mem ((c.tc : Thread Cert.BackIdeal.nD Cert.BackIdeal.τ).loc Cert.BackIdeal.main_arg11) = m ((c.tc : Thread Cert.BackIdeal.nD Cert.BackIdeal.τ).loc Cert.BackIdeal.main_arg11)
      ∧ r.2.mem ((c.tc : Thread Cert.BackIdeal.nD Cert.BackIdeal.τ).loc Cert.BackIdeal.main_arg12) = m ((c.tc : Thread Cert.BackIdeal.nD Cert.BackIdeal.τ).loc Cert.BackIdeal.main_arg12)
      ∧ r.2.mem ((c.tc : Thread Cert.BackIdeal.nD Cert.BackIdeal.τ).loc Cert.BackIdeal.main_arg13) = m ((c.tc : Thread Cert.BackIdeal.nD Cert.BackIdeal.τ).loc Cert.BackIdeal.main_arg13)
      ∧ r.2.mem ((c.tc : Thread Cert.BackIdeal.nD Cert.BackIdeal.τ).loc Cert.BackIdeal.main_arg14) = m ((c.tc : Thread Cert.BackIdeal.nD Cert.BackIdeal.τ).loc Cert.BackIdeal.main_arg14)
      ∧ r.2.mem ((c.tc : Thread Cert.BackIdeal.nD Cert.BackIdeal.τ).loc Cert.BackIdeal.main_arg15) = m ((c.tc : Thread Cert.BackIdeal.nD Cert.BackIdeal.τ).loc Cert.BackIdeal.main_arg15)
      ∧ r.2.mem ((c.tc : Thread Cert.BackIdeal.nD Cert.BackIdeal.τ).loc Cert.BackIdeal.main_arg16) = m ((c.tc : Thread Cert.BackIdeal.nD Cert.BackIdeal.τ).loc Cert.BackIdeal.main_arg16)
      ∧ r.2.mem ((c.tc : Thread Cert.BackIdeal.nD Cert.BackIdeal.τ).loc Cert.BackIdeal.main_arg17) = m ((c.tc : Thread Cert.BackIdeal.nD Cert.BackIdeal.τ).loc Cert.BackIdeal.main_arg17))
      ∧ r.2.sem = fun _ => 0)

def quiescent_PlainBackIdeal [hPlainBackIdeal : Cert.PlainBackIdeal.Facts] : Prop :=
  ∀ (m : (ℓ : Loc Cert.PlainBackIdeal.nD Cert.PlainBackIdeal.τ Cert.PlainBackIdeal.sig) → Buf (Elt Ideal) ℓ) (g : Dev Cert.PlainBackIdeal.nD → PrngReg), Pre_PlainBackIdeal m →
    θ_run (Cert.PlainBackIdeal.defs (F := Ideal)) (onTc (τ := Cert.PlainBackIdeal.τ) (Cert.PlainBackIdeal.main (F := Ideal))) ⟨m, fun _ => 0, g⟩ (fun r => (∀ c : Dev Cert.PlainBackIdeal.nD,
      r.2.mem ((c.tc : Thread Cert.PlainBackIdeal.nD Cert.PlainBackIdeal.τ).loc Cert.PlainBackIdeal.main_arg0) = m ((c.tc : Thread Cert.PlainBackIdeal.nD Cert.PlainBackIdeal.τ).loc Cert.PlainBackIdeal.main_arg0)
      ∧ r.2.mem ((c.tc : Thread Cert.PlainBackIdeal.nD Cert.PlainBackIdeal.τ).loc Cert.PlainBackIdeal.main_arg1) = m ((c.tc : Thread Cert.PlainBackIdeal.nD Cert.PlainBackIdeal.τ).loc Cert.PlainBackIdeal.main_arg1)
      ∧ r.2.mem ((c.tc : Thread Cert.PlainBackIdeal.nD Cert.PlainBackIdeal.τ).loc Cert.PlainBackIdeal.main_arg2) = m ((c.tc : Thread Cert.PlainBackIdeal.nD Cert.PlainBackIdeal.τ).loc Cert.PlainBackIdeal.main_arg2)
      ∧ r.2.mem ((c.tc : Thread Cert.PlainBackIdeal.nD Cert.PlainBackIdeal.τ).loc Cert.PlainBackIdeal.main_arg3) = m ((c.tc : Thread Cert.PlainBackIdeal.nD Cert.PlainBackIdeal.τ).loc Cert.PlainBackIdeal.main_arg3)
      ∧ r.2.mem ((c.tc : Thread Cert.PlainBackIdeal.nD Cert.PlainBackIdeal.τ).loc Cert.PlainBackIdeal.main_arg4) = m ((c.tc : Thread Cert.PlainBackIdeal.nD Cert.PlainBackIdeal.τ).loc Cert.PlainBackIdeal.main_arg4)
      ∧ r.2.mem ((c.tc : Thread Cert.PlainBackIdeal.nD Cert.PlainBackIdeal.τ).loc Cert.PlainBackIdeal.main_arg5) = m ((c.tc : Thread Cert.PlainBackIdeal.nD Cert.PlainBackIdeal.τ).loc Cert.PlainBackIdeal.main_arg5)
      ∧ r.2.mem ((c.tc : Thread Cert.PlainBackIdeal.nD Cert.PlainBackIdeal.τ).loc Cert.PlainBackIdeal.main_arg6) = m ((c.tc : Thread Cert.PlainBackIdeal.nD Cert.PlainBackIdeal.τ).loc Cert.PlainBackIdeal.main_arg6)
      ∧ r.2.mem ((c.tc : Thread Cert.PlainBackIdeal.nD Cert.PlainBackIdeal.τ).loc Cert.PlainBackIdeal.main_arg7) = m ((c.tc : Thread Cert.PlainBackIdeal.nD Cert.PlainBackIdeal.τ).loc Cert.PlainBackIdeal.main_arg7)
      ∧ r.2.mem ((c.tc : Thread Cert.PlainBackIdeal.nD Cert.PlainBackIdeal.τ).loc Cert.PlainBackIdeal.main_arg8) = m ((c.tc : Thread Cert.PlainBackIdeal.nD Cert.PlainBackIdeal.τ).loc Cert.PlainBackIdeal.main_arg8)
      ∧ r.2.mem ((c.tc : Thread Cert.PlainBackIdeal.nD Cert.PlainBackIdeal.τ).loc Cert.PlainBackIdeal.main_arg9) = m ((c.tc : Thread Cert.PlainBackIdeal.nD Cert.PlainBackIdeal.τ).loc Cert.PlainBackIdeal.main_arg9)
      ∧ r.2.mem ((c.tc : Thread Cert.PlainBackIdeal.nD Cert.PlainBackIdeal.τ).loc Cert.PlainBackIdeal.main_arg10) = m ((c.tc : Thread Cert.PlainBackIdeal.nD Cert.PlainBackIdeal.τ).loc Cert.PlainBackIdeal.main_arg10)
      ∧ r.2.mem ((c.tc : Thread Cert.PlainBackIdeal.nD Cert.PlainBackIdeal.τ).loc Cert.PlainBackIdeal.main_arg11) = m ((c.tc : Thread Cert.PlainBackIdeal.nD Cert.PlainBackIdeal.τ).loc Cert.PlainBackIdeal.main_arg11)
      ∧ r.2.mem ((c.tc : Thread Cert.PlainBackIdeal.nD Cert.PlainBackIdeal.τ).loc Cert.PlainBackIdeal.main_arg12) = m ((c.tc : Thread Cert.PlainBackIdeal.nD Cert.PlainBackIdeal.τ).loc Cert.PlainBackIdeal.main_arg12)
      ∧ r.2.mem ((c.tc : Thread Cert.PlainBackIdeal.nD Cert.PlainBackIdeal.τ).loc Cert.PlainBackIdeal.main_arg13) = m ((c.tc : Thread Cert.PlainBackIdeal.nD Cert.PlainBackIdeal.τ).loc Cert.PlainBackIdeal.main_arg13)
      ∧ r.2.mem ((c.tc : Thread Cert.PlainBackIdeal.nD Cert.PlainBackIdeal.τ).loc Cert.PlainBackIdeal.main_arg14) = m ((c.tc : Thread Cert.PlainBackIdeal.nD Cert.PlainBackIdeal.τ).loc Cert.PlainBackIdeal.main_arg14)
      ∧ r.2.mem ((c.tc : Thread Cert.PlainBackIdeal.nD Cert.PlainBackIdeal.τ).loc Cert.PlainBackIdeal.main_arg15) = m ((c.tc : Thread Cert.PlainBackIdeal.nD Cert.PlainBackIdeal.τ).loc Cert.PlainBackIdeal.main_arg15)
      ∧ r.2.mem ((c.tc : Thread Cert.PlainBackIdeal.nD Cert.PlainBackIdeal.τ).loc Cert.PlainBackIdeal.main_arg16) = m ((c.tc : Thread Cert.PlainBackIdeal.nD Cert.PlainBackIdeal.τ).loc Cert.PlainBackIdeal.main_arg16)
      ∧ r.2.mem ((c.tc : Thread Cert.PlainBackIdeal.nD Cert.PlainBackIdeal.τ).loc Cert.PlainBackIdeal.main_arg17) = m ((c.tc : Thread Cert.PlainBackIdeal.nD Cert.PlainBackIdeal.τ).loc Cert.PlainBackIdeal.main_arg17))
      ∧ r.2.sem = fun _ => 0)

def preserves_Mix_MixIdeal : Prop :=
  True

def algebraic_MixIdeal_PlainMixIdeal [hMixIdeal : Cert.MixIdeal.Facts] [hPlainMixIdeal : Cert.PlainMixIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.PlainMixIdeal.nD Cert.PlainMixIdeal.τ Cert.PlainMixIdeal.sig) → Buf (Elt Ideal) ℓ) (g' : Dev Cert.PlainMixIdeal.nD → PrngReg), Pre_MixIdeal m →
    (∀ c : Dev Cert.MixIdeal.nD,
      m' ((c.tc : Thread Cert.PlainMixIdeal.nD Cert.PlainMixIdeal.τ).loc Cert.PlainMixIdeal.main_arg0) = m ((c.tc : Thread Cert.MixIdeal.nD Cert.MixIdeal.τ).loc Cert.MixIdeal.main_arg0)
      ∧ m' ((c.tc : Thread Cert.PlainMixIdeal.nD Cert.PlainMixIdeal.τ).loc Cert.PlainMixIdeal.main_arg1) = m ((c.tc : Thread Cert.MixIdeal.nD Cert.MixIdeal.τ).loc Cert.MixIdeal.main_arg1)
      ∧ m' ((c.tc : Thread Cert.PlainMixIdeal.nD Cert.PlainMixIdeal.τ).loc Cert.PlainMixIdeal.main_arg2) = m ((c.tc : Thread Cert.MixIdeal.nD Cert.MixIdeal.τ).loc Cert.MixIdeal.main_arg2)
      ∧ m' ((c.tc : Thread Cert.PlainMixIdeal.nD Cert.PlainMixIdeal.τ).loc Cert.PlainMixIdeal.main_arg3) = m ((c.tc : Thread Cert.MixIdeal.nD Cert.MixIdeal.τ).loc Cert.MixIdeal.main_arg3)
      ∧ m' ((c.tc : Thread Cert.PlainMixIdeal.nD Cert.PlainMixIdeal.τ).loc Cert.PlainMixIdeal.main_arg4) = m ((c.tc : Thread Cert.MixIdeal.nD Cert.MixIdeal.τ).loc Cert.MixIdeal.main_arg4)
      ∧ m' ((c.tc : Thread Cert.PlainMixIdeal.nD Cert.PlainMixIdeal.τ).loc Cert.PlainMixIdeal.main_arg5) = m ((c.tc : Thread Cert.MixIdeal.nD Cert.MixIdeal.τ).loc Cert.MixIdeal.main_arg5)
      ∧ m' ((c.tc : Thread Cert.PlainMixIdeal.nD Cert.PlainMixIdeal.τ).loc Cert.PlainMixIdeal.main_arg6) = m ((c.tc : Thread Cert.MixIdeal.nD Cert.MixIdeal.τ).loc Cert.MixIdeal.main_arg6)
      ∧ m' ((c.tc : Thread Cert.PlainMixIdeal.nD Cert.PlainMixIdeal.τ).loc Cert.PlainMixIdeal.main_arg7) = m ((c.tc : Thread Cert.MixIdeal.nD Cert.MixIdeal.τ).loc Cert.MixIdeal.main_arg7)
      ∧ m' ((c.tc : Thread Cert.PlainMixIdeal.nD Cert.PlainMixIdeal.τ).loc Cert.PlainMixIdeal.main_arg8) = m ((c.tc : Thread Cert.MixIdeal.nD Cert.MixIdeal.τ).loc Cert.MixIdeal.main_arg8)
      ∧ m' ((c.tc : Thread Cert.PlainMixIdeal.nD Cert.PlainMixIdeal.τ).loc Cert.PlainMixIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v19_0)) (v1 : (c : Dev Cert.MixIdeal.nD) → Buf (Elt Ideal) ((c.tc : Thread Cert.MixIdeal.nD Cert.MixIdeal.τ).loc Cert.MixIdeal.main_v19_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v19_0) = v0 c
          ∧ r.2.mem ((c.tc : Thread Cert.MixIdeal.nD Cert.MixIdeal.τ).loc Cert.MixIdeal.main_v19_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.PlainMixIdeal.defs (F := Ideal)) (onTc (τ := Cert.PlainMixIdeal.τ) (Cert.PlainMixIdeal.main (F := Ideal))) ⟨m', fun _ => 0, g'⟩ (fun r => ∀ c : Dev Cert.PlainMixIdeal.nD,
          r.2.mem ((c.tc : Thread Cert.PlainMixIdeal.nD Cert.PlainMixIdeal.τ).loc Cert.PlainMixIdeal.main_v91) = v0 c
          ∧ r.2.mem ((c.tc : Thread Cert.PlainMixIdeal.nD Cert.PlainMixIdeal.τ).loc Cert.PlainMixIdeal.main_v48) = v1 c
          ∧ r.2.mem ((c.tc : Thread Cert.PlainMixIdeal.nD Cert.PlainMixIdeal.τ).loc Cert.PlainMixIdeal.main_arg0) = m' ((c.tc : Thread Cert.PlainMixIdeal.nD Cert.PlainMixIdeal.τ).loc Cert.PlainMixIdeal.main_arg0)
          ∧ r.2.mem ((c.tc : Thread Cert.PlainMixIdeal.nD Cert.PlainMixIdeal.τ).loc Cert.PlainMixIdeal.main_arg1) = m' ((c.tc : Thread Cert.PlainMixIdeal.nD Cert.PlainMixIdeal.τ).loc Cert.PlainMixIdeal.main_arg1)
          ∧ r.2.mem ((c.tc : Thread Cert.PlainMixIdeal.nD Cert.PlainMixIdeal.τ).loc Cert.PlainMixIdeal.main_arg2) = m' ((c.tc : Thread Cert.PlainMixIdeal.nD Cert.PlainMixIdeal.τ).loc Cert.PlainMixIdeal.main_arg2)
          ∧ r.2.mem ((c.tc : Thread Cert.PlainMixIdeal.nD Cert.PlainMixIdeal.τ).loc Cert.PlainMixIdeal.main_arg3) = m' ((c.tc : Thread Cert.PlainMixIdeal.nD Cert.PlainMixIdeal.τ).loc Cert.PlainMixIdeal.main_arg3)
          ∧ r.2.mem ((c.tc : Thread Cert.PlainMixIdeal.nD Cert.PlainMixIdeal.τ).loc Cert.PlainMixIdeal.main_arg4) = m' ((c.tc : Thread Cert.PlainMixIdeal.nD Cert.PlainMixIdeal.τ).loc Cert.PlainMixIdeal.main_arg4)
          ∧ r.2.mem ((c.tc : Thread Cert.PlainMixIdeal.nD Cert.PlainMixIdeal.τ).loc Cert.PlainMixIdeal.main_arg5) = m' ((c.tc : Thread Cert.PlainMixIdeal.nD Cert.PlainMixIdeal.τ).loc Cert.PlainMixIdeal.main_arg5)
          ∧ r.2.mem ((c.tc : Thread Cert.PlainMixIdeal.nD Cert.PlainMixIdeal.τ).loc Cert.PlainMixIdeal.main_arg6) = m' ((c.tc : Thread Cert.PlainMixIdeal.nD Cert.PlainMixIdeal.τ).loc Cert.PlainMixIdeal.main_arg6)
          ∧ r.2.mem ((c.tc : Thread Cert.PlainMixIdeal.nD Cert.PlainMixIdeal.τ).loc Cert.PlainMixIdeal.main_arg7) = m' ((c.tc : Thread Cert.PlainMixIdeal.nD Cert.PlainMixIdeal.τ).loc Cert.PlainMixIdeal.main_arg7)
          ∧ r.2.mem ((c.tc : Thread Cert.PlainMixIdeal.nD Cert.PlainMixIdeal.τ).loc Cert.PlainMixIdeal.main_arg8) = m' ((c.tc : Thread Cert.PlainMixIdeal.nD Cert.PlainMixIdeal.τ).loc Cert.PlainMixIdeal.main_arg8)
          ∧ r.2.mem ((c.tc : Thread Cert.PlainMixIdeal.nD Cert.PlainMixIdeal.τ).loc Cert.PlainMixIdeal.main_arg9) = m' ((c.tc : Thread Cert.PlainMixIdeal.nD Cert.PlainMixIdeal.τ).loc Cert.PlainMixIdeal.main_arg9))

def preserves_Ffn_FfnIdeal : Prop :=
  True

def algebraic_FfnIdeal_PlainFfnIdeal [hFfnIdeal : Cert.FfnIdeal.Facts] [hPlainFfnIdeal : Cert.PlainFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.PlainFfnIdeal.nD Cert.PlainFfnIdeal.τ Cert.PlainFfnIdeal.sig) → Buf (Elt Ideal) ℓ) (g' : Dev Cert.PlainFfnIdeal.nD → PrngReg), Pre_FfnIdeal m →
    (∀ c : Dev Cert.FfnIdeal.nD,
      m' ((c.tc : Thread Cert.PlainFfnIdeal.nD Cert.PlainFfnIdeal.τ).loc Cert.PlainFfnIdeal.main_arg0) = m ((c.tc : Thread Cert.FfnIdeal.nD Cert.FfnIdeal.τ).loc Cert.FfnIdeal.main_arg0)
      ∧ m' ((c.tc : Thread Cert.PlainFfnIdeal.nD Cert.PlainFfnIdeal.τ).loc Cert.PlainFfnIdeal.main_arg1) = m ((c.tc : Thread Cert.FfnIdeal.nD Cert.FfnIdeal.τ).loc Cert.FfnIdeal.main_arg1)
      ∧ m' ((c.tc : Thread Cert.PlainFfnIdeal.nD Cert.PlainFfnIdeal.τ).loc Cert.PlainFfnIdeal.main_arg2) = m ((c.tc : Thread Cert.FfnIdeal.nD Cert.FfnIdeal.τ).loc Cert.FfnIdeal.main_arg2)
      ∧ m' ((c.tc : Thread Cert.PlainFfnIdeal.nD Cert.PlainFfnIdeal.τ).loc Cert.PlainFfnIdeal.main_arg3) = m ((c.tc : Thread Cert.FfnIdeal.nD Cert.FfnIdeal.τ).loc Cert.FfnIdeal.main_arg3)
      ∧ m' ((c.tc : Thread Cert.PlainFfnIdeal.nD Cert.PlainFfnIdeal.τ).loc Cert.PlainFfnIdeal.main_arg4) = m ((c.tc : Thread Cert.FfnIdeal.nD Cert.FfnIdeal.τ).loc Cert.FfnIdeal.main_arg4)
      ∧ m' ((c.tc : Thread Cert.PlainFfnIdeal.nD Cert.PlainFfnIdeal.τ).loc Cert.PlainFfnIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.PlainFfnIdeal.defs (F := Ideal)) (onTc (τ := Cert.PlainFfnIdeal.τ) (Cert.PlainFfnIdeal.main (F := Ideal))) ⟨m', fun _ => 0, g'⟩ (fun r => ∀ c : Dev Cert.PlainFfnIdeal.nD,
          r.2.mem ((c.tc : Thread Cert.PlainFfnIdeal.nD Cert.PlainFfnIdeal.τ).loc Cert.PlainFfnIdeal.main_v35) = v0 c
          ∧ r.2.mem ((c.tc : Thread Cert.PlainFfnIdeal.nD Cert.PlainFfnIdeal.τ).loc Cert.PlainFfnIdeal.main_arg0) = m' ((c.tc : Thread Cert.PlainFfnIdeal.nD Cert.PlainFfnIdeal.τ).loc Cert.PlainFfnIdeal.main_arg0)
          ∧ r.2.mem ((c.tc : Thread Cert.PlainFfnIdeal.nD Cert.PlainFfnIdeal.τ).loc Cert.PlainFfnIdeal.main_arg1) = m' ((c.tc : Thread Cert.PlainFfnIdeal.nD Cert.PlainFfnIdeal.τ).loc Cert.PlainFfnIdeal.main_arg1)
          ∧ r.2.mem ((c.tc : Thread Cert.PlainFfnIdeal.nD Cert.PlainFfnIdeal.τ).loc Cert.PlainFfnIdeal.main_arg2) = m' ((c.tc : Thread Cert.PlainFfnIdeal.nD Cert.PlainFfnIdeal.τ).loc Cert.PlainFfnIdeal.main_arg2)
          ∧ r.2.mem ((c.tc : Thread Cert.PlainFfnIdeal.nD Cert.PlainFfnIdeal.τ).loc Cert.PlainFfnIdeal.main_arg3) = m' ((c.tc : Thread Cert.PlainFfnIdeal.nD Cert.PlainFfnIdeal.τ).loc Cert.PlainFfnIdeal.main_arg3)
          ∧ r.2.mem ((c.tc : Thread Cert.PlainFfnIdeal.nD Cert.PlainFfnIdeal.τ).loc Cert.PlainFfnIdeal.main_arg4) = m' ((c.tc : Thread Cert.PlainFfnIdeal.nD Cert.PlainFfnIdeal.τ).loc Cert.PlainFfnIdeal.main_arg4)
          ∧ r.2.mem ((c.tc : Thread Cert.PlainFfnIdeal.nD Cert.PlainFfnIdeal.τ).loc Cert.PlainFfnIdeal.main_arg5) = m' ((c.tc : Thread Cert.PlainFfnIdeal.nD Cert.PlainFfnIdeal.τ).loc Cert.PlainFfnIdeal.main_arg5))

def preserves_Mem_MemIdeal : Prop :=
  True

def algebraic_MemIdeal_PlainMemIdeal [hMemIdeal : Cert.MemIdeal.Facts] [hPlainMemIdeal : Cert.PlainMemIdeal.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.PlainMemIdeal.nD Cert.PlainMemIdeal.τ Cert.PlainMemIdeal.sig) → Buf (Elt Ideal) ℓ) (g' : Dev Cert.PlainMemIdeal.nD → PrngReg), Pre_MemIdeal m →
    (∀ c : Dev Cert.MemIdeal.nD,
      m' ((c.tc : Thread Cert.PlainMemIdeal.nD Cert.PlainMemIdeal.τ).loc Cert.PlainMemIdeal.main_arg0) = m ((c.tc : Thread Cert.MemIdeal.nD Cert.MemIdeal.τ).loc Cert.MemIdeal.main_arg0)
      ∧ m' ((c.tc : Thread Cert.PlainMemIdeal.nD Cert.PlainMemIdeal.τ).loc Cert.PlainMemIdeal.main_arg1) = m ((c.tc : Thread Cert.MemIdeal.nD Cert.MemIdeal.τ).loc Cert.MemIdeal.main_arg1)
      ∧ m' ((c.tc : Thread Cert.PlainMemIdeal.nD Cert.PlainMemIdeal.τ).loc Cert.PlainMemIdeal.main_arg2) = m ((c.tc : Thread Cert.MemIdeal.nD Cert.MemIdeal.τ).loc Cert.MemIdeal.main_arg2)
      ∧ m' ((c.tc : Thread Cert.PlainMemIdeal.nD Cert.PlainMemIdeal.τ).loc Cert.PlainMemIdeal.main_arg3) = m ((c.tc : Thread Cert.MemIdeal.nD Cert.MemIdeal.τ).loc Cert.MemIdeal.main_arg3)) →
    ∃ (v0 : (c : Dev Cert.MemIdeal.nD) → Buf (Elt Ideal) ((c.tc : Thread Cert.MemIdeal.nD Cert.MemIdeal.τ).loc Cert.MemIdeal.main_v6_0)) (v1 : (c : Dev Cert.MemIdeal.nD) → Buf (Elt Ideal) ((c.tc : Thread Cert.MemIdeal.nD Cert.MemIdeal.τ).loc Cert.MemIdeal.main_v6_1)) (v2 : (c : Dev Cert.MemIdeal.nD) → Buf (Elt Ideal) ((c.tc : Thread Cert.MemIdeal.nD Cert.MemIdeal.τ).loc Cert.MemIdeal.main_v6_2)) (v3 : (c : Dev Cert.MemIdeal.nD) → Buf (Elt Ideal) ((c.tc : Thread Cert.MemIdeal.nD Cert.MemIdeal.τ).loc Cert.MemIdeal.main_v6_3)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v6_0) = v0 c
          ∧ r.2.mem ((c.tc : Thread Cert.MemIdeal.nD Cert.MemIdeal.τ).loc Cert.MemIdeal.main_v6_1) = v1 c
          ∧ r.2.mem ((c.tc : Thread Cert.MemIdeal.nD Cert.MemIdeal.τ).loc Cert.MemIdeal.main_v6_2) = v2 c
          ∧ r.2.mem ((c.tc : Thread Cert.MemIdeal.nD Cert.MemIdeal.τ).loc Cert.MemIdeal.main_v6_3) = v3 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
          ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
          ∧ r.2.mem ((c.tc : Thread Cert.MemIdeal.nD Cert.MemIdeal.τ).loc Cert.MemIdeal.main_arg3) = m ((c.tc : Thread Cert.MemIdeal.nD Cert.MemIdeal.τ).loc Cert.MemIdeal.main_arg3))
      ∧ θ_run (Cert.PlainMemIdeal.defs (F := Ideal)) (onTc (τ := Cert.PlainMemIdeal.τ) (Cert.PlainMemIdeal.main (F := Ideal))) ⟨m', fun _ => 0, g'⟩ (fun r => ∀ c : Dev Cert.PlainMemIdeal.nD,
          r.2.mem ((c.tc : Thread Cert.PlainMemIdeal.nD Cert.PlainMemIdeal.τ).loc Cert.PlainMemIdeal.main_v15) = v0 c
          ∧ r.2.mem ((c.tc : Thread Cert.PlainMemIdeal.nD Cert.PlainMemIdeal.τ).loc Cert.PlainMemIdeal.main_v17) = v1 c
          ∧ r.2.mem ((c.tc : Thread Cert.PlainMemIdeal.nD Cert.PlainMemIdeal.τ).loc Cert.PlainMemIdeal.main_v18) = v2 c
          ∧ r.2.mem ((c.tc : Thread Cert.PlainMemIdeal.nD Cert.PlainMemIdeal.τ).loc Cert.PlainMemIdeal.main_v19) = v3 c
          ∧ r.2.mem ((c.tc : Thread Cert.PlainMemIdeal.nD Cert.PlainMemIdeal.τ).loc Cert.PlainMemIdeal.main_arg0) = m' ((c.tc : Thread Cert.PlainMemIdeal.nD Cert.PlainMemIdeal.τ).loc Cert.PlainMemIdeal.main_arg0)
          ∧ r.2.mem ((c.tc : Thread Cert.PlainMemIdeal.nD Cert.PlainMemIdeal.τ).loc Cert.PlainMemIdeal.main_arg1) = m' ((c.tc : Thread Cert.PlainMemIdeal.nD Cert.PlainMemIdeal.τ).loc Cert.PlainMemIdeal.main_arg1)
          ∧ r.2.mem ((c.tc : Thread Cert.PlainMemIdeal.nD Cert.PlainMemIdeal.τ).loc Cert.PlainMemIdeal.main_arg2) = m' ((c.tc : Thread Cert.PlainMemIdeal.nD Cert.PlainMemIdeal.τ).loc Cert.PlainMemIdeal.main_arg2)
          ∧ r.2.mem ((c.tc : Thread Cert.PlainMemIdeal.nD Cert.PlainMemIdeal.τ).loc Cert.PlainMemIdeal.main_arg3) = m' ((c.tc : Thread Cert.PlainMemIdeal.nD Cert.PlainMemIdeal.τ).loc Cert.PlainMemIdeal.main_arg3))

def preserves_Front_FrontIdeal : Prop :=
  True

def algebraic_FrontIdeal_PlainFrontIdeal [hFrontIdeal : Cert.FrontIdeal.Facts] [hPlainFrontIdeal : Cert.PlainFrontIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.PlainFrontIdeal.nD Cert.PlainFrontIdeal.τ Cert.PlainFrontIdeal.sig) → Buf (Elt Ideal) ℓ) (g' : Dev Cert.PlainFrontIdeal.nD → PrngReg), Pre_FrontIdeal m →
    (∀ c : Dev Cert.FrontIdeal.nD,
      m' ((c.tc : Thread Cert.PlainFrontIdeal.nD Cert.PlainFrontIdeal.τ).loc Cert.PlainFrontIdeal.main_arg0) = m ((c.tc : Thread Cert.FrontIdeal.nD Cert.FrontIdeal.τ).loc Cert.FrontIdeal.main_arg0)
      ∧ m' ((c.tc : Thread Cert.PlainFrontIdeal.nD Cert.PlainFrontIdeal.τ).loc Cert.PlainFrontIdeal.main_arg1) = m ((c.tc : Thread Cert.FrontIdeal.nD Cert.FrontIdeal.τ).loc Cert.FrontIdeal.main_arg1)
      ∧ m' ((c.tc : Thread Cert.PlainFrontIdeal.nD Cert.PlainFrontIdeal.τ).loc Cert.PlainFrontIdeal.main_arg2) = m ((c.tc : Thread Cert.FrontIdeal.nD Cert.FrontIdeal.τ).loc Cert.FrontIdeal.main_arg2)
      ∧ m' ((c.tc : Thread Cert.PlainFrontIdeal.nD Cert.PlainFrontIdeal.τ).loc Cert.PlainFrontIdeal.main_arg3) = m ((c.tc : Thread Cert.FrontIdeal.nD Cert.FrontIdeal.τ).loc Cert.FrontIdeal.main_arg3)
      ∧ m' ((c.tc : Thread Cert.PlainFrontIdeal.nD Cert.PlainFrontIdeal.τ).loc Cert.PlainFrontIdeal.main_arg4) = m ((c.tc : Thread Cert.FrontIdeal.nD Cert.FrontIdeal.τ).loc Cert.FrontIdeal.main_arg4)
      ∧ m' ((c.tc : Thread Cert.PlainFrontIdeal.nD Cert.PlainFrontIdeal.τ).loc Cert.PlainFrontIdeal.main_arg5) = m ((c.tc : Thread Cert.FrontIdeal.nD Cert.FrontIdeal.τ).loc Cert.FrontIdeal.main_arg5)
      ∧ m' ((c.tc : Thread Cert.PlainFrontIdeal.nD Cert.PlainFrontIdeal.τ).loc Cert.PlainFrontIdeal.main_arg6) = m ((c.tc : Thread Cert.FrontIdeal.nD Cert.FrontIdeal.τ).loc Cert.FrontIdeal.main_arg6)
      ∧ m' ((c.tc : Thread Cert.PlainFrontIdeal.nD Cert.PlainFrontIdeal.τ).loc Cert.PlainFrontIdeal.main_arg7) = m ((c.tc : Thread Cert.FrontIdeal.nD Cert.FrontIdeal.τ).loc Cert.FrontIdeal.main_arg7)
      ∧ m' ((c.tc : Thread Cert.PlainFrontIdeal.nD Cert.PlainFrontIdeal.τ).loc Cert.PlainFrontIdeal.main_arg8) = m ((c.tc : Thread Cert.FrontIdeal.nD Cert.FrontIdeal.τ).loc Cert.FrontIdeal.main_arg8)
      ∧ m' ((c.tc : Thread Cert.PlainFrontIdeal.nD Cert.PlainFrontIdeal.τ).loc Cert.PlainFrontIdeal.main_arg9) = m ((c.tc : Thread Cert.FrontIdeal.nD Cert.FrontIdeal.τ).loc Cert.FrontIdeal.main_arg9)
      ∧ m' ((c.tc : Thread Cert.PlainFrontIdeal.nD Cert.PlainFrontIdeal.τ).loc Cert.PlainFrontIdeal.main_arg10) = m ((c.tc : Thread Cert.FrontIdeal.nD Cert.FrontIdeal.τ).loc Cert.FrontIdeal.main_arg10)) →
    ∃ (v0 : (c : Dev Cert.FrontIdeal.nD) → Buf (Elt Ideal) ((c.tc : Thread Cert.FrontIdeal.nD Cert.FrontIdeal.τ).loc Cert.FrontIdeal.main_v42_0)) (v1 : (c : Dev Cert.FrontIdeal.nD) → Buf (Elt Ideal) ((c.tc : Thread Cert.FrontIdeal.nD Cert.FrontIdeal.τ).loc Cert.FrontIdeal.main_v42_1)) (v2 : (c : Dev Cert.FrontIdeal.nD) → Buf (Elt Ideal) ((c.tc : Thread Cert.FrontIdeal.nD Cert.FrontIdeal.τ).loc Cert.FrontIdeal.main_v42_2)) (v3 : (c : Dev Cert.FrontIdeal.nD) → Buf (Elt Ideal) ((c.tc : Thread Cert.FrontIdeal.nD Cert.FrontIdeal.τ).loc Cert.FrontIdeal.main_v42_3)) (v4 : (c : Dev Cert.FrontIdeal.nD) → Buf (Elt Ideal) ((c.tc : Thread Cert.FrontIdeal.nD Cert.FrontIdeal.τ).loc Cert.FrontIdeal.main_v42_4)) (v5 : (c : Dev Cert.FrontIdeal.nD) → Buf (Elt Ideal) ((c.tc : Thread Cert.FrontIdeal.nD Cert.FrontIdeal.τ).loc Cert.FrontIdeal.main_v42_7)) (v6 : (c : Dev Cert.FrontIdeal.nD) → Buf (Elt Ideal) ((c.tc : Thread Cert.FrontIdeal.nD Cert.FrontIdeal.τ).loc Cert.FrontIdeal.main_v42_8)) (v7 : (c : Dev Cert.FrontIdeal.nD) → Buf (Elt Ideal) ((c.tc : Thread Cert.FrontIdeal.nD Cert.FrontIdeal.τ).loc Cert.FrontIdeal.main_v42_9)) (v8 : (c : Dev Cert.FrontIdeal.nD) → Buf (Elt Ideal) ((c.tc : Thread Cert.FrontIdeal.nD Cert.FrontIdeal.τ).loc Cert.FrontIdeal.main_v42_10)) (v9 : (c : Dev Cert.FrontIdeal.nD) → Buf (Elt Ideal) ((c.tc : Thread Cert.FrontIdeal.nD Cert.FrontIdeal.τ).loc Cert.FrontIdeal.main_v42_11)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v42_0) = v0 c
          ∧ r.2.mem ((c.tc : Thread Cert.FrontIdeal.nD Cert.FrontIdeal.τ).loc Cert.FrontIdeal.main_v42_1) = v1 c
          ∧ r.2.mem ((c.tc : Thread Cert.FrontIdeal.nD Cert.FrontIdeal.τ).loc Cert.FrontIdeal.main_v42_2) = v2 c
          ∧ r.2.mem ((c.tc : Thread Cert.FrontIdeal.nD Cert.FrontIdeal.τ).loc Cert.FrontIdeal.main_v42_3) = v3 c
          ∧ r.2.mem ((c.tc : Thread Cert.FrontIdeal.nD Cert.FrontIdeal.τ).loc Cert.FrontIdeal.main_v42_4) = v4 c
          ∧ r.2.mem ((c.tc : Thread Cert.FrontIdeal.nD Cert.FrontIdeal.τ).loc Cert.FrontIdeal.main_v42_7) = v5 c
          ∧ r.2.mem ((c.tc : Thread Cert.FrontIdeal.nD Cert.FrontIdeal.τ).loc Cert.FrontIdeal.main_v42_8) = v6 c
          ∧ r.2.mem ((c.tc : Thread Cert.FrontIdeal.nD Cert.FrontIdeal.τ).loc Cert.FrontIdeal.main_v42_9) = v7 c
          ∧ r.2.mem ((c.tc : Thread Cert.FrontIdeal.nD Cert.FrontIdeal.τ).loc Cert.FrontIdeal.main_v42_10) = v8 c
          ∧ r.2.mem ((c.tc : Thread Cert.FrontIdeal.nD Cert.FrontIdeal.τ).loc Cert.FrontIdeal.main_v42_11) = v9 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
          ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
          ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
          ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10))
      ∧ θ_run (Cert.PlainFrontIdeal.defs (F := Ideal)) (onTc (τ := Cert.PlainFrontIdeal.τ) (Cert.PlainFrontIdeal.main (F := Ideal))) ⟨m', fun _ => 0, g'⟩ (fun r => ∀ c : Dev Cert.PlainFrontIdeal.nD,
          r.2.mem ((c.tc : Thread Cert.PlainFrontIdeal.nD Cert.PlainFrontIdeal.τ).loc Cert.PlainFrontIdeal.main_v101) = v0 c
          ∧ r.2.mem ((c.tc : Thread Cert.PlainFrontIdeal.nD Cert.PlainFrontIdeal.τ).loc Cert.PlainFrontIdeal.main_v102) = v1 c
          ∧ r.2.mem ((c.tc : Thread Cert.PlainFrontIdeal.nD Cert.PlainFrontIdeal.τ).loc Cert.PlainFrontIdeal.main_v103) = v2 c
          ∧ r.2.mem ((c.tc : Thread Cert.PlainFrontIdeal.nD Cert.PlainFrontIdeal.τ).loc Cert.PlainFrontIdeal.main_v104) = v3 c
          ∧ r.2.mem ((c.tc : Thread Cert.PlainFrontIdeal.nD Cert.PlainFrontIdeal.τ).loc Cert.PlainFrontIdeal.main_v105) = v4 c
          ∧ r.2.mem ((c.tc : Thread Cert.PlainFrontIdeal.nD Cert.PlainFrontIdeal.τ).loc Cert.PlainFrontIdeal.main_v106) = v5 c
          ∧ r.2.mem ((c.tc : Thread Cert.PlainFrontIdeal.nD Cert.PlainFrontIdeal.τ).loc Cert.PlainFrontIdeal.main_v107) = v6 c
          ∧ r.2.mem ((c.tc : Thread Cert.PlainFrontIdeal.nD Cert.PlainFrontIdeal.τ).loc Cert.PlainFrontIdeal.main_v108) = v7 c
          ∧ r.2.mem ((c.tc : Thread Cert.PlainFrontIdeal.nD Cert.PlainFrontIdeal.τ).loc Cert.PlainFrontIdeal.main_v109) = v8 c
          ∧ r.2.mem ((c.tc : Thread Cert.PlainFrontIdeal.nD Cert.PlainFrontIdeal.τ).loc Cert.PlainFrontIdeal.main_v110) = v9 c
          ∧ r.2.mem ((c.tc : Thread Cert.PlainFrontIdeal.nD Cert.PlainFrontIdeal.τ).loc Cert.PlainFrontIdeal.main_arg0) = m' ((c.tc : Thread Cert.PlainFrontIdeal.nD Cert.PlainFrontIdeal.τ).loc Cert.PlainFrontIdeal.main_arg0)
          ∧ r.2.mem ((c.tc : Thread Cert.PlainFrontIdeal.nD Cert.PlainFrontIdeal.τ).loc Cert.PlainFrontIdeal.main_arg1) = m' ((c.tc : Thread Cert.PlainFrontIdeal.nD Cert.PlainFrontIdeal.τ).loc Cert.PlainFrontIdeal.main_arg1)
          ∧ r.2.mem ((c.tc : Thread Cert.PlainFrontIdeal.nD Cert.PlainFrontIdeal.τ).loc Cert.PlainFrontIdeal.main_arg2) = m' ((c.tc : Thread Cert.PlainFrontIdeal.nD Cert.PlainFrontIdeal.τ).loc Cert.PlainFrontIdeal.main_arg2)
          ∧ r.2.mem ((c.tc : Thread Cert.PlainFrontIdeal.nD Cert.PlainFrontIdeal.τ).loc Cert.PlainFrontIdeal.main_arg3) = m' ((c.tc : Thread Cert.PlainFrontIdeal.nD Cert.PlainFrontIdeal.τ).loc Cert.PlainFrontIdeal.main_arg3)
          ∧ r.2.mem ((c.tc : Thread Cert.PlainFrontIdeal.nD Cert.PlainFrontIdeal.τ).loc Cert.PlainFrontIdeal.main_arg4) = m' ((c.tc : Thread Cert.PlainFrontIdeal.nD Cert.PlainFrontIdeal.τ).loc Cert.PlainFrontIdeal.main_arg4)
          ∧ r.2.mem ((c.tc : Thread Cert.PlainFrontIdeal.nD Cert.PlainFrontIdeal.τ).loc Cert.PlainFrontIdeal.main_arg5) = m' ((c.tc : Thread Cert.PlainFrontIdeal.nD Cert.PlainFrontIdeal.τ).loc Cert.PlainFrontIdeal.main_arg5)
          ∧ r.2.mem ((c.tc : Thread Cert.PlainFrontIdeal.nD Cert.PlainFrontIdeal.τ).loc Cert.PlainFrontIdeal.main_arg6) = m' ((c.tc : Thread Cert.PlainFrontIdeal.nD Cert.PlainFrontIdeal.τ).loc Cert.PlainFrontIdeal.main_arg6)
          ∧ r.2.mem ((c.tc : Thread Cert.PlainFrontIdeal.nD Cert.PlainFrontIdeal.τ).loc Cert.PlainFrontIdeal.main_arg7) = m' ((c.tc : Thread Cert.PlainFrontIdeal.nD Cert.PlainFrontIdeal.τ).loc Cert.PlainFrontIdeal.main_arg7)
          ∧ r.2.mem ((c.tc : Thread Cert.PlainFrontIdeal.nD Cert.PlainFrontIdeal.τ).loc Cert.PlainFrontIdeal.main_arg8) = m' ((c.tc : Thread Cert.PlainFrontIdeal.nD Cert.PlainFrontIdeal.τ).loc Cert.PlainFrontIdeal.main_arg8)
          ∧ r.2.mem ((c.tc : Thread Cert.PlainFrontIdeal.nD Cert.PlainFrontIdeal.τ).loc Cert.PlainFrontIdeal.main_arg9) = m' ((c.tc : Thread Cert.PlainFrontIdeal.nD Cert.PlainFrontIdeal.τ).loc Cert.PlainFrontIdeal.main_arg9)
          ∧ r.2.mem ((c.tc : Thread Cert.PlainFrontIdeal.nD Cert.PlainFrontIdeal.τ).loc Cert.PlainFrontIdeal.main_arg10) = m' ((c.tc : Thread Cert.PlainFrontIdeal.nD Cert.PlainFrontIdeal.τ).loc Cert.PlainFrontIdeal.main_arg10))

def preserves_Back_BackIdeal : Prop :=
  True

def algebraic_BackIdeal_PlainBackIdeal [hBackIdeal : Cert.BackIdeal.Facts] [hPlainBackIdeal : Cert.PlainBackIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.PlainBackIdeal.nD Cert.PlainBackIdeal.τ Cert.PlainBackIdeal.sig) → Buf (Elt Ideal) ℓ) (g' : Dev Cert.PlainBackIdeal.nD → PrngReg), Pre_BackIdeal m →
    (∀ c : Dev Cert.BackIdeal.nD,
      m' ((c.tc : Thread Cert.PlainBackIdeal.nD Cert.PlainBackIdeal.τ).loc Cert.PlainBackIdeal.main_arg0) = m ((c.tc : Thread Cert.BackIdeal.nD Cert.BackIdeal.τ).loc Cert.BackIdeal.main_arg0)
      ∧ m' ((c.tc : Thread Cert.PlainBackIdeal.nD Cert.PlainBackIdeal.τ).loc Cert.PlainBackIdeal.main_arg1) = m ((c.tc : Thread Cert.BackIdeal.nD Cert.BackIdeal.τ).loc Cert.BackIdeal.main_arg1)
      ∧ m' ((c.tc : Thread Cert.PlainBackIdeal.nD Cert.PlainBackIdeal.τ).loc Cert.PlainBackIdeal.main_arg2) = m ((c.tc : Thread Cert.BackIdeal.nD Cert.BackIdeal.τ).loc Cert.BackIdeal.main_arg2)
      ∧ m' ((c.tc : Thread Cert.PlainBackIdeal.nD Cert.PlainBackIdeal.τ).loc Cert.PlainBackIdeal.main_arg3) = m ((c.tc : Thread Cert.BackIdeal.nD Cert.BackIdeal.τ).loc Cert.BackIdeal.main_arg3)
      ∧ m' ((c.tc : Thread Cert.PlainBackIdeal.nD Cert.PlainBackIdeal.τ).loc Cert.PlainBackIdeal.main_arg4) = m ((c.tc : Thread Cert.BackIdeal.nD Cert.BackIdeal.τ).loc Cert.BackIdeal.main_arg4)
      ∧ m' ((c.tc : Thread Cert.PlainBackIdeal.nD Cert.PlainBackIdeal.τ).loc Cert.PlainBackIdeal.main_arg5) = m ((c.tc : Thread Cert.BackIdeal.nD Cert.BackIdeal.τ).loc Cert.BackIdeal.main_arg5)
      ∧ m' ((c.tc : Thread Cert.PlainBackIdeal.nD Cert.PlainBackIdeal.τ).loc Cert.PlainBackIdeal.main_arg6) = m ((c.tc : Thread Cert.BackIdeal.nD Cert.BackIdeal.τ).loc Cert.BackIdeal.main_arg6)
      ∧ m' ((c.tc : Thread Cert.PlainBackIdeal.nD Cert.PlainBackIdeal.τ).loc Cert.PlainBackIdeal.main_arg7) = m ((c.tc : Thread Cert.BackIdeal.nD Cert.BackIdeal.τ).loc Cert.BackIdeal.main_arg7)
      ∧ m' ((c.tc : Thread Cert.PlainBackIdeal.nD Cert.PlainBackIdeal.τ).loc Cert.PlainBackIdeal.main_arg8) = m ((c.tc : Thread Cert.BackIdeal.nD Cert.BackIdeal.τ).loc Cert.BackIdeal.main_arg8)
      ∧ m' ((c.tc : Thread Cert.PlainBackIdeal.nD Cert.PlainBackIdeal.τ).loc Cert.PlainBackIdeal.main_arg9) = m ((c.tc : Thread Cert.BackIdeal.nD Cert.BackIdeal.τ).loc Cert.BackIdeal.main_arg9)
      ∧ m' ((c.tc : Thread Cert.PlainBackIdeal.nD Cert.PlainBackIdeal.τ).loc Cert.PlainBackIdeal.main_arg10) = m ((c.tc : Thread Cert.BackIdeal.nD Cert.BackIdeal.τ).loc Cert.BackIdeal.main_arg10)
      ∧ m' ((c.tc : Thread Cert.PlainBackIdeal.nD Cert.PlainBackIdeal.τ).loc Cert.PlainBackIdeal.main_arg11) = m ((c.tc : Thread Cert.BackIdeal.nD Cert.BackIdeal.τ).loc Cert.BackIdeal.main_arg11)
      ∧ m' ((c.tc : Thread Cert.PlainBackIdeal.nD Cert.PlainBackIdeal.τ).loc Cert.PlainBackIdeal.main_arg12) = m ((c.tc : Thread Cert.BackIdeal.nD Cert.BackIdeal.τ).loc Cert.BackIdeal.main_arg12)
      ∧ m' ((c.tc : Thread Cert.PlainBackIdeal.nD Cert.PlainBackIdeal.τ).loc Cert.PlainBackIdeal.main_arg13) = m ((c.tc : Thread Cert.BackIdeal.nD Cert.BackIdeal.τ).loc Cert.BackIdeal.main_arg13)
      ∧ m' ((c.tc : Thread Cert.PlainBackIdeal.nD Cert.PlainBackIdeal.τ).loc Cert.PlainBackIdeal.main_arg14) = m ((c.tc : Thread Cert.BackIdeal.nD Cert.BackIdeal.τ).loc Cert.BackIdeal.main_arg14)
      ∧ m' ((c.tc : Thread Cert.PlainBackIdeal.nD Cert.PlainBackIdeal.τ).loc Cert.PlainBackIdeal.main_arg15) = m ((c.tc : Thread Cert.BackIdeal.nD Cert.BackIdeal.τ).loc Cert.BackIdeal.main_arg15)
      ∧ m' ((c.tc : Thread Cert.PlainBackIdeal.nD Cert.PlainBackIdeal.τ).loc Cert.PlainBackIdeal.main_arg16) = m ((c.tc : Thread Cert.BackIdeal.nD Cert.BackIdeal.τ).loc Cert.BackIdeal.main_arg16)
      ∧ m' ((c.tc : Thread Cert.PlainBackIdeal.nD Cert.PlainBackIdeal.τ).loc Cert.PlainBackIdeal.main_arg17) = m ((c.tc : Thread Cert.BackIdeal.nD Cert.BackIdeal.τ).loc Cert.BackIdeal.main_arg17)) →
    ∃ (v0 : (c : Dev Cert.BackIdeal.nD) → Buf (Elt Ideal) ((c.tc : Thread Cert.BackIdeal.nD Cert.BackIdeal.τ).loc Cert.BackIdeal.main_v22)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v22) = v0 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
          ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
          ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
          ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
          ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
          ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
          ∧ r.2.mem ((c.tc : Thread Cert.BackIdeal.nD Cert.BackIdeal.τ).loc Cert.BackIdeal.main_arg10) = m ((c.tc : Thread Cert.BackIdeal.nD Cert.BackIdeal.τ).loc Cert.BackIdeal.main_arg10)
          ∧ r.2.mem ((c.tc : Thread Cert.BackIdeal.nD Cert.BackIdeal.τ).loc Cert.BackIdeal.main_arg11) = m ((c.tc : Thread Cert.BackIdeal.nD Cert.BackIdeal.τ).loc Cert.BackIdeal.main_arg11)
          ∧ r.2.mem ((c.tc : Thread Cert.BackIdeal.nD Cert.BackIdeal.τ).loc Cert.BackIdeal.main_arg12) = m ((c.tc : Thread Cert.BackIdeal.nD Cert.BackIdeal.τ).loc Cert.BackIdeal.main_arg12)
          ∧ r.2.mem ((c.tc : Thread Cert.BackIdeal.nD Cert.BackIdeal.τ).loc Cert.BackIdeal.main_arg13) = m ((c.tc : Thread Cert.BackIdeal.nD Cert.BackIdeal.τ).loc Cert.BackIdeal.main_arg13)
          ∧ r.2.mem ((c.tc : Thread Cert.BackIdeal.nD Cert.BackIdeal.τ).loc Cert.BackIdeal.main_arg14) = m ((c.tc : Thread Cert.BackIdeal.nD Cert.BackIdeal.τ).loc Cert.BackIdeal.main_arg14)
          ∧ r.2.mem ((c.tc : Thread Cert.BackIdeal.nD Cert.BackIdeal.τ).loc Cert.BackIdeal.main_arg15) = m ((c.tc : Thread Cert.BackIdeal.nD Cert.BackIdeal.τ).loc Cert.BackIdeal.main_arg15)
          ∧ r.2.mem ((c.tc : Thread Cert.BackIdeal.nD Cert.BackIdeal.τ).loc Cert.BackIdeal.main_arg16) = m ((c.tc : Thread Cert.BackIdeal.nD Cert.BackIdeal.τ).loc Cert.BackIdeal.main_arg16)
          ∧ r.2.mem ((c.tc : Thread Cert.BackIdeal.nD Cert.BackIdeal.τ).loc Cert.BackIdeal.main_arg17) = m ((c.tc : Thread Cert.BackIdeal.nD Cert.BackIdeal.τ).loc Cert.BackIdeal.main_arg17))
      ∧ θ_run (Cert.PlainBackIdeal.defs (F := Ideal)) (onTc (τ := Cert.PlainBackIdeal.τ) (Cert.PlainBackIdeal.main (F := Ideal))) ⟨m', fun _ => 0, g'⟩ (fun r => ∀ c : Dev Cert.PlainBackIdeal.nD,
          r.2.mem ((c.tc : Thread Cert.PlainBackIdeal.nD Cert.PlainBackIdeal.τ).loc Cert.PlainBackIdeal.main_v74) = v0 c
          ∧ r.2.mem ((c.tc : Thread Cert.PlainBackIdeal.nD Cert.PlainBackIdeal.τ).loc Cert.PlainBackIdeal.main_arg0) = m' ((c.tc : Thread Cert.PlainBackIdeal.nD Cert.PlainBackIdeal.τ).loc Cert.PlainBackIdeal.main_arg0)
          ∧ r.2.mem ((c.tc : Thread Cert.PlainBackIdeal.nD Cert.PlainBackIdeal.τ).loc Cert.PlainBackIdeal.main_arg1) = m' ((c.tc : Thread Cert.PlainBackIdeal.nD Cert.PlainBackIdeal.τ).loc Cert.PlainBackIdeal.main_arg1)
          ∧ r.2.mem ((c.tc : Thread Cert.PlainBackIdeal.nD Cert.PlainBackIdeal.τ).loc Cert.PlainBackIdeal.main_arg2) = m' ((c.tc : Thread Cert.PlainBackIdeal.nD Cert.PlainBackIdeal.τ).loc Cert.PlainBackIdeal.main_arg2)
          ∧ r.2.mem ((c.tc : Thread Cert.PlainBackIdeal.nD Cert.PlainBackIdeal.τ).loc Cert.PlainBackIdeal.main_arg3) = m' ((c.tc : Thread Cert.PlainBackIdeal.nD Cert.PlainBackIdeal.τ).loc Cert.PlainBackIdeal.main_arg3)
          ∧ r.2.mem ((c.tc : Thread Cert.PlainBackIdeal.nD Cert.PlainBackIdeal.τ).loc Cert.PlainBackIdeal.main_arg4) = m' ((c.tc : Thread Cert.PlainBackIdeal.nD Cert.PlainBackIdeal.τ).loc Cert.PlainBackIdeal.main_arg4)
          ∧ r.2.mem ((c.tc : Thread Cert.PlainBackIdeal.nD Cert.PlainBackIdeal.τ).loc Cert.PlainBackIdeal.main_arg5) = m' ((c.tc : Thread Cert.PlainBackIdeal.nD Cert.PlainBackIdeal.τ).loc Cert.PlainBackIdeal.main_arg5)
          ∧ r.2.mem ((c.tc : Thread Cert.PlainBackIdeal.nD Cert.PlainBackIdeal.τ).loc Cert.PlainBackIdeal.main_arg6) = m' ((c.tc : Thread Cert.PlainBackIdeal.nD Cert.PlainBackIdeal.τ).loc Cert.PlainBackIdeal.main_arg6)
          ∧ r.2.mem ((c.tc : Thread Cert.PlainBackIdeal.nD Cert.PlainBackIdeal.τ).loc Cert.PlainBackIdeal.main_arg7) = m' ((c.tc : Thread Cert.PlainBackIdeal.nD Cert.PlainBackIdeal.τ).loc Cert.PlainBackIdeal.main_arg7)
          ∧ r.2.mem ((c.tc : Thread Cert.PlainBackIdeal.nD Cert.PlainBackIdeal.τ).loc Cert.PlainBackIdeal.main_arg8) = m' ((c.tc : Thread Cert.PlainBackIdeal.nD Cert.PlainBackIdeal.τ).loc Cert.PlainBackIdeal.main_arg8)
          ∧ r.2.mem ((c.tc : Thread Cert.PlainBackIdeal.nD Cert.PlainBackIdeal.τ).loc Cert.PlainBackIdeal.main_arg9) = m' ((c.tc : Thread Cert.PlainBackIdeal.nD Cert.PlainBackIdeal.τ).loc Cert.PlainBackIdeal.main_arg9)
          ∧ r.2.mem ((c.tc : Thread Cert.PlainBackIdeal.nD Cert.PlainBackIdeal.τ).loc Cert.PlainBackIdeal.main_arg10) = m' ((c.tc : Thread Cert.PlainBackIdeal.nD Cert.PlainBackIdeal.τ).loc Cert.PlainBackIdeal.main_arg10)
          ∧ r.2.mem ((c.tc : Thread Cert.PlainBackIdeal.nD Cert.PlainBackIdeal.τ).loc Cert.PlainBackIdeal.main_arg11) = m' ((c.tc : Thread Cert.PlainBackIdeal.nD Cert.PlainBackIdeal.τ).loc Cert.PlainBackIdeal.main_arg11)
          ∧ r.2.mem ((c.tc : Thread Cert.PlainBackIdeal.nD Cert.PlainBackIdeal.τ).loc Cert.PlainBackIdeal.main_arg12) = m' ((c.tc : Thread Cert.PlainBackIdeal.nD Cert.PlainBackIdeal.τ).loc Cert.PlainBackIdeal.main_arg12)
          ∧ r.2.mem ((c.tc : Thread Cert.PlainBackIdeal.nD Cert.PlainBackIdeal.τ).loc Cert.PlainBackIdeal.main_arg13) = m' ((c.tc : Thread Cert.PlainBackIdeal.nD Cert.PlainBackIdeal.τ).loc Cert.PlainBackIdeal.main_arg13)
          ∧ r.2.mem ((c.tc : Thread Cert.PlainBackIdeal.nD Cert.PlainBackIdeal.τ).loc Cert.PlainBackIdeal.main_arg14) = m' ((c.tc : Thread Cert.PlainBackIdeal.nD Cert.PlainBackIdeal.τ).loc Cert.PlainBackIdeal.main_arg14)
          ∧ r.2.mem ((c.tc : Thread Cert.PlainBackIdeal.nD Cert.PlainBackIdeal.τ).loc Cert.PlainBackIdeal.main_arg15) = m' ((c.tc : Thread Cert.PlainBackIdeal.nD Cert.PlainBackIdeal.τ).loc Cert.PlainBackIdeal.main_arg15)
          ∧ r.2.mem ((c.tc : Thread Cert.PlainBackIdeal.nD Cert.PlainBackIdeal.τ).loc Cert.PlainBackIdeal.main_arg16) = m' ((c.tc : Thread Cert.PlainBackIdeal.nD Cert.PlainBackIdeal.τ).loc Cert.PlainBackIdeal.main_arg16)
          ∧ r.2.mem ((c.tc : Thread Cert.PlainBackIdeal.nD Cert.PlainBackIdeal.τ).loc Cert.PlainBackIdeal.main_arg17) = m' ((c.tc : Thread Cert.PlainBackIdeal.nD Cert.PlainBackIdeal.τ).loc Cert.PlainBackIdeal.main_arg17))

def Claim : Prop :=
  ∃ (hMix : Cert.Mix.Facts) (hMixIdeal : Cert.MixIdeal.Facts) (hPlainMixIdeal : Cert.PlainMixIdeal.Facts) (hFfn : Cert.Ffn.Facts) (hFfnIdeal : Cert.FfnIdeal.Facts) (hPlainFfnIdeal : Cert.PlainFfnIdeal.Facts) (hMem : Cert.Mem.Facts) (hMemIdeal : Cert.MemIdeal.Facts) (hPlainMemIdeal : Cert.PlainMemIdeal.Facts) (hFront : Cert.Front.Facts) (hFrontIdeal : Cert.FrontIdeal.Facts) (hPlainFrontIdeal : Cert.PlainFrontIdeal.Facts) (hBack : Cert.Back.Facts) (hBackIdeal : Cert.BackIdeal.Facts) (hPlainBackIdeal : Cert.PlainBackIdeal.Facts),
    quiescent_Mix (hMix := hMix)
    ∧ quiescent_MixIdeal (hMixIdeal := hMixIdeal)
    ∧ quiescent_PlainMixIdeal (hPlainMixIdeal := hPlainMixIdeal)
    ∧ quiescent_Ffn (hFfn := hFfn)
    ∧ quiescent_FfnIdeal (hFfnIdeal := hFfnIdeal)
    ∧ quiescent_PlainFfnIdeal (hPlainFfnIdeal := hPlainFfnIdeal)
    ∧ quiescent_Mem (hMem := hMem)
    ∧ quiescent_MemIdeal (hMemIdeal := hMemIdeal)
    ∧ quiescent_PlainMemIdeal (hPlainMemIdeal := hPlainMemIdeal)
    ∧ quiescent_Front (hFront := hFront)
    ∧ quiescent_FrontIdeal (hFrontIdeal := hFrontIdeal)
    ∧ quiescent_PlainFrontIdeal (hPlainFrontIdeal := hPlainFrontIdeal)
    ∧ quiescent_Back (hBack := hBack)
    ∧ quiescent_BackIdeal (hBackIdeal := hBackIdeal)
    ∧ quiescent_PlainBackIdeal (hPlainBackIdeal := hPlainBackIdeal)
    ∧ preserves_Mix_MixIdeal
    ∧ algebraic_MixIdeal_PlainMixIdeal (hMixIdeal := hMixIdeal) (hPlainMixIdeal := hPlainMixIdeal)
    ∧ preserves_Ffn_FfnIdeal
    ∧ algebraic_FfnIdeal_PlainFfnIdeal (hFfnIdeal := hFfnIdeal) (hPlainFfnIdeal := hPlainFfnIdeal)
    ∧ preserves_Mem_MemIdeal
    ∧ algebraic_MemIdeal_PlainMemIdeal (hMemIdeal := hMemIdeal) (hPlainMemIdeal := hPlainMemIdeal)
    ∧ preserves_Front_FrontIdeal
    ∧ algebraic_FrontIdeal_PlainFrontIdeal (hFrontIdeal := hFrontIdeal) (hPlainFrontIdeal := hPlainFrontIdeal)
    ∧ preserves_Back_BackIdeal
    ∧ algebraic_BackIdeal_PlainBackIdeal (hBackIdeal := hBackIdeal) (hPlainBackIdeal := hPlainBackIdeal)
-- ==== Mix.lean ====
abbrev S8x2048x1024 : Shape := ⟨3, ![8, 2048, 1024]⟩
abbrev S8x256x1024 : Shape := ⟨3, ![8, 256, 1024]⟩
abbrev S1x1024 : Shape := ⟨2, ![1, 1024]⟩
abbrev S1x1024x12320 : Shape := ⟨3, ![1, 1024, 12320]⟩
abbrev S1x3x1024 : Shape := ⟨3, ![1, 3, 1024]⟩
abbrev S1x1024x1024 : Shape := ⟨3, ![1, 1024, 1024]⟩
abbrev S1024x12320 : Shape := ⟨2, ![1024, 12320]⟩
abbrev S1024x3072 : Shape := ⟨2, ![1024, 3072]⟩
abbrev S1024x1024 : Shape := ⟨2, ![1024, 1024]⟩
abbrev S1024x2048 : Shape := ⟨2, ![1024, 2048]⟩
abbrev S1024 : Shape := ⟨1, ![1024]⟩
abbrev S3x1024 : Shape := ⟨2, ![3, 1024]⟩
abbrev S8x2x1024 : Shape := ⟨3, ![8, 2, 1024]⟩
abbrev S1x256x1024 : Shape := ⟨3, ![1, 256, 1024]⟩
abbrev S1x2x1024 : Shape := ⟨3, ![1, 2, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S248x1024 : Shape := ⟨2, ![248, 1024]⟩
abbrev S256x256 : Shape := ⟨2, ![256, 256]⟩
abbrev S1x256x256 : Shape := ⟨3, ![1, 256, 256]⟩
abbrev S2x1024 : Shape := ⟨2, ![2, 1024]⟩

abbrev nBuf : Space → Nat
  | .hbm => 31
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x256x1024, .bf16⟩
  | .hbm, ⟨3, _⟩ => ⟨S8x256x1024, .bf16⟩
  | .hbm, ⟨4, _⟩ => ⟨S1x1024, .f32⟩
  | .hbm, ⟨5, _⟩ => ⟨S1x1024x12320, .f32⟩
  | .hbm, ⟨6, _⟩ => ⟨S1x3x1024, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S1024x12320, .f32⟩
  | .hbm, ⟨11, _⟩ => ⟨S1024x3072, .f32⟩
  | .hbm, ⟨12, _⟩ => ⟨S1024x3072, .bf16⟩
  | .hbm, ⟨13, _⟩ => ⟨S1024x1024, .f32⟩
  | .hbm, ⟨14, _⟩ => ⟨S1024x1024, .bf16⟩
  | .hbm, ⟨15, _⟩ => ⟨S1024x3072, .f32⟩
  | .hbm, ⟨16, _⟩ => ⟨S1024x3072, .bf16⟩
  | .hbm, ⟨17, _⟩ => ⟨S1024x1024, .bf16⟩
  | .hbm, ⟨18, _⟩ => ⟨S1024x1024, .bf16⟩
  | .hbm, ⟨19, _⟩ => ⟨S1024x2048, .bf16⟩
  | .hbm, ⟨20, _⟩ => ⟨S1024, .f32⟩
  | .hbm, ⟨21, _⟩ => ⟨S1x1024, .f32⟩
  | .hbm, ⟨22, _⟩ => ⟨S3x1024, .f32⟩
  | .hbm, ⟨23, _⟩ => ⟨S1024x1024, .f32⟩
  | .hbm, ⟨24, _⟩ => ⟨S1024x1024, .bf16⟩
  | .hbm, ⟨25, _⟩ => ⟨S1024x1024, .f32⟩
  | .hbm, ⟨26, _⟩ => ⟨S1024x1024, .bf16⟩
  | .hbm, ⟨27, _⟩ => ⟨S1024x1024, .f32⟩
  | .hbm, ⟨28, _⟩ => ⟨S1024x1024, .bf16⟩
  | .hbm, ⟨29, _⟩ => ⟨S8x2048x1024, .f32⟩
  | .hbm, ⟨30, _⟩ => ⟨S8x2x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x1024, .f32⟩
  | .local _ .vmem, ⟨9, _⟩ => ⟨S1024x3072, .bf16⟩
  | .local _ .vmem, ⟨10, _⟩ => ⟨S1024x1024, .bf16⟩
  | .local _ .vmem, ⟨11, _⟩ => ⟨S1024x2048, .bf16⟩
  | .local _ .vmem, ⟨12, _⟩ => ⟨S3x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1x256x1024, .f32⟩
  | .local _ .vmem, ⟨17, _⟩ => ⟨S1x256x1024, .f32⟩
  | .local _ .vmem, ⟨18, _⟩ => ⟨S1x2x1024, .f32⟩
  | .local _ .vmem, ⟨19, _⟩ => ⟨S1x2x1024, .f32⟩
  | .local _ .vmem, ⟨20, _⟩ => ⟨S8x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v181 : BitVec 1 := Scalar.cmpi .eq arg1 c7_i32
  let v182 : BitVec 32 := Scalar.extui v181
  let c0_i32_89 : BitVec 32 := 0#32
  let v183 : BitVec 1 := Scalar.cmpi .ne v182 c0_i32_89
  v183

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== PlainMixIdeal.lean ====
abbrev S8x2048x1024 : Shape := ⟨3, ![8, 2048, 1024]⟩
abbrev S8x256x1024 : Shape := ⟨3, ![8, 256, 1024]⟩
abbrev S1x1024 : Shape := ⟨2, ![1, 1024]⟩
abbrev S1x1024x12320 : Shape := ⟨3, ![1, 1024, 12320]⟩
abbrev S1x3x1024 : Shape := ⟨3, ![1, 3, 1024]⟩
abbrev S1x1024x1024 : Shape := ⟨3, ![1, 1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x12320 : Shape := ⟨2, ![1024, 12320]⟩
abbrev S8x2048x12320 : Shape := ⟨3, ![8, 2048, 12320]⟩
abbrev S8x2048x2048 : Shape := ⟨3, ![8, 2048, 2048]⟩
abbrev S8x2048x3072 : Shape := ⟨3, ![8, 2048, 3072]⟩
abbrev S8x2048x32 : Shape := ⟨3, ![8, 2048, 32]⟩
abbrev S8x2x1024 : Shape := ⟨3, ![8, 2, 1024]⟩
abbrev S3x1024 : Shape := ⟨2, ![3, 1024]⟩
abbrev S8x2050x1024 : Shape := ⟨3, ![8, 2050, 1024]⟩
abbrev S1024x1024 : Shape := ⟨2, ![1024, 1024]⟩
abbrev S8x256x4x256 : Shape := ⟨4, ![8, 256, 4, 256]⟩
abbrev S8x2048x4x256 : Shape := ⟨4, ![8, 2048, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩

abbrev nBuf : Space → Nat
  | .hbm => 112
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x256x1024, .bf16⟩
  | .hbm, ⟨3, _⟩ => ⟨S8x256x1024, .bf16⟩
  | .hbm, ⟨4, _⟩ => ⟨S1x1024, .f32⟩
  | .hbm, ⟨5, _⟩ => ⟨S1x1024x12320, .f32⟩
  | .hbm, ⟨6, _⟩ => ⟨S1x3x1024, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S1024x12320, .f32⟩
  | .hbm, ⟨28, _⟩ => ⟨S8x2048x12320, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x2048, .f32⟩
  | .hbm, ⟨33, _⟩ => ⟨S8x2048x3072, .f32⟩
  | .hbm, ⟨34, _⟩ => ⟨S8x2048x32, .f32⟩
  | .hbm, ⟨35, _⟩ => ⟨S8x2048x1024, .f32⟩
  | .hbm, ⟨36, _⟩ => ⟨S8x2048x3072, .f32⟩
  | .hbm, ⟨37, _⟩ => ⟨S8x2048x1024, .f32⟩
  | .hbm, ⟨38, _⟩ => ⟨S_, .f32⟩
  | .hbm, ⟨39, _⟩ => ⟨S8x2x1024, .f32⟩
  | .hbm, ⟨40, _⟩ => ⟨S3x1024, .f32⟩
  | .hbm, ⟨41, _⟩ => ⟨S8x2050x1024, .f32⟩
  | .hbm, ⟨42, _⟩ => ⟨S8x2048x1024, .f32⟩
  | .hbm, ⟨43, _⟩ => ⟨S1x1024, .f32⟩
  | .hbm, ⟨44, _⟩ => ⟨S1024, .f32⟩
  | .hbm, ⟨45, _⟩ => ⟨S1x1x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S1x1024, .f32⟩
  | .hbm, ⟨50, _⟩ => ⟨S1024, .f32⟩
  | .hbm, ⟨51, _⟩ => ⟨S1x1x1024, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S1x1024, .f32⟩
  | .hbm, ⟨57, _⟩ => ⟨S1024, .f32⟩
  | .hbm, ⟨58, _⟩ => ⟨S1x1x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S8x2x1024, .f32⟩
  | .hbm, ⟨63, _⟩ => ⟨S8x2048x1024, .f32⟩
  | .hbm, ⟨64, _⟩ => ⟨S1024x1024, .f32⟩
  | .hbm, ⟨65, _⟩ => ⟨S8x2048x1024, .f32⟩
  | .hbm, ⟨66, _⟩ => ⟨S8x256x1024, .f32⟩
  | .hbm, ⟨67, _⟩ => ⟨S8x256x4x256, .f32⟩
  | .hbm, ⟨68, _⟩ => ⟨S8x256x1024, .f32⟩
  | .hbm, ⟨69, _⟩ => ⟨S8x256x4x256, .f32⟩
  | .hbm, ⟨70, _⟩ => ⟨S8x2048x4x256, .f32⟩
  | .hbm, ⟨71, _⟩ => ⟨S8x4x2048x256, .f32⟩
  | .hbm, ⟨72, _⟩ => ⟨S_, .f32⟩
  | .hbm, ⟨73, _⟩ => ⟨S8x4x2048x256, .f32⟩
  | .hbm, ⟨74, _⟩ => ⟨S8x4x2048x256, .f32⟩
  | .hbm, ⟨75, _⟩ => ⟨S_, .f32⟩
  | .hbm, ⟨76, _⟩ => ⟨S8x4x2048, .f32⟩
  | .hbm, ⟨77, _⟩ => ⟨S_, .f32⟩
  | .hbm, ⟨78, _⟩ => ⟨S8x4x2048, .f32⟩
  | .hbm, ⟨79, _⟩ => ⟨S8x4x2048, .f32⟩
  | .hbm, ⟨80, _⟩ => ⟨S8x4x2048x1, .f32⟩
  | .hbm, ⟨81, _⟩ => ⟨S8x4x2048x256, .f32⟩
  | .hbm, ⟨82, _⟩ => ⟨S8x4x2048x256, .f32⟩
  | .hbm, ⟨83, _⟩ => ⟨S8x4x2048x256, .f32⟩
  | .hbm, ⟨84, _⟩ => ⟨S_, .f32⟩
  | .hbm, ⟨85, _⟩ => ⟨S8x4x2048, .f32⟩
  | .hbm, ⟨86, _⟩ => ⟨S8x4x2048x1, .f32⟩
  | .hbm, ⟨87, _⟩ => ⟨S8x4x2048x256, .f32⟩
  | .hbm, ⟨88, _⟩ => ⟨S8x4x2048x256, .f32⟩
  | .hbm, ⟨89, _⟩ => ⟨S8x4x256x2048, .f32⟩
  | .hbm, ⟨90, _⟩ => ⟨S8x2048x4x256, .f32⟩
  | .hbm, ⟨91, _⟩ => ⟨S8x2048x1024, .f32⟩
  | .hbm, ⟨92, _⟩ => ⟨S1024x1024, .f32⟩
  | .hbm, ⟨93, _⟩ => ⟨S8x2048x1024, .f32⟩
  | .hbm, ⟨94, _⟩ => ⟨S8x2048x3072, .f32⟩
  | .hbm, ⟨95, _⟩ => ⟨S8x2048x3072, .f32⟩
  | .hbm, ⟨96, _⟩ => ⟨S_, .f32⟩
  | .hbm, ⟨97, _⟩ => ⟨S8x2048x3072, .f32⟩
  | .hbm, ⟨98, _⟩ => ⟨S8x2048x3072, .f32⟩
  | .hbm, ⟨99, _⟩ => ⟨S_, .f32⟩
  | .hbm, ⟨100, _⟩ => ⟨S8x2048x3072, .f32⟩
  | .hbm, ⟨101, _⟩ => ⟨S8x2048x3072, .f32⟩
  | .hbm, ⟨102, _⟩ => ⟨S8x2048x1024, .f32⟩
  | .hbm, ⟨103, _⟩ => ⟨S8x2048x1024, .f32⟩
  | .hbm, ⟨104, _⟩ => ⟨S8x2048x1024, .f32⟩
  | .hbm, ⟨105, _⟩ => ⟨S8x2048x1024, .f32⟩
  | .hbm, ⟨106, _⟩ => ⟨S8x2048x1024, .f32⟩
  | .hbm, ⟨107, _⟩ => ⟨S8x2048x1024, .f32⟩
  | .hbm, ⟨108, _⟩ => ⟨S8x2048x1024, .f32⟩
  | .hbm, ⟨109, _⟩ => ⟨S1024x1024, .f32⟩
  | .hbm, ⟨110, _⟩ => ⟨S8x2048x1024, .f32⟩
  | .hbm, ⟨111, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_3 : Ref sig .tc := ⟨.hbm, 72, rfl⟩
abbrev main_v58 : Ref sig .tc := ⟨.hbm, 73, rfl⟩
abbrev main_v59 : Ref sig .tc := ⟨.hbm, 74, rfl⟩
abbrev main_cst_4 : Ref sig .tc := ⟨.hbm, 75, rfl⟩
abbrev main_v60 : Ref sig .tc := ⟨.hbm, 76, rfl⟩
abbrev main_cst_5 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_6 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_7 : Ref sig .tc := ⟨.hbm, 96, rfl⟩
abbrev main_v78 : Ref sig .tc := ⟨.hbm, 97, rfl⟩
abbrev main_v79 : Ref sig .tc := ⟨.hbm, 98, rfl⟩
abbrev main_cst_8 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩

abbrev nD : Nat := 1
abbrev τ : Topo := Topo.v7x

variable {F : FTy → Type} [FloatOps F]
-- ==== Ffn.lean ====
abbrev S8x2048x1024 : Shape := ⟨3, ![8, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 16
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .f32⟩
  | .hbm, ⟨11, _⟩ => ⟨S2816x1024, .bf16⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PlainFfnIdeal.lean ====
abbrev S8x2048x1024 : Shape := ⟨3, ![8, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S8x2048x2816 : Shape := ⟨3, ![8, 2048, 2816]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S8x2048x2816, .f32⟩
  | .hbm, ⟨27, _⟩ => ⟨S8x2048x2816, .f32⟩
  | .hbm, ⟨28, _⟩ => ⟨S8x2048x2816, .f32⟩
  | .hbm, ⟨29, _⟩ => ⟨S_, .f32⟩
  | .hbm, ⟨30, _⟩ => ⟨S8x2048x2816, .f32⟩
  | .hbm, ⟨31, _⟩ => ⟨S8x2048x2816, .f32⟩
  | .hbm, ⟨32, _⟩ => ⟨S_, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S8x2048x2816, .f32⟩
  | .hbm, ⟨37, _⟩ => ⟨S8x2048x2816, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S8x2048x1, .f32⟩
  | .hbm, ⟨51, _⟩ => ⟨S8x2048x1024, .f32⟩
  | .hbm, ⟨52, _⟩ => ⟨S8x2048x1024, .f32⟩
  | .hbm, ⟨53, _⟩ => ⟨S1x1x1024, .f32⟩
  | .hbm, ⟨54, _⟩ => ⟨S8x2048x1024, .f32⟩
  | .hbm, ⟨55, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Mem.lean ====
abbrev S8x256x1024 : Shape := ⟨3, ![8, 256, 1024]⟩
abbrev S1x1024 : Shape := ⟨2, ![1, 1024]⟩
abbrev S1x1024x1024 : Shape := ⟨3, ![1, 1024, 1024]⟩
abbrev S1024 : Shape := ⟨1, ![1024]⟩
abbrev S1024x1024 : Shape := ⟨2, ![1024, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 14
  | .vmem => 13
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S1024, .f32⟩
  | .hbm, ⟨5, _⟩ => ⟨S1x1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S8x256x1024, .f32⟩
  | .hbm, ⟨11, _⟩ => ⟨S8x256x1024, .f32⟩
  | .hbm, ⟨12, _⟩ => ⟨S8x256x1024, .bf16⟩
  | .hbm, ⟨13, _⟩ => ⟨S8x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PlainMemIdeal.lean ====
abbrev S8x256x1024 : Shape := ⟨3, ![8, 256, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x1024 : Shape := ⟨2, ![1024, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S1024, .f32⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S1024x1024, .f32⟩
  | .hbm, ⟨22, _⟩ => ⟨S8x256x1024, .f32⟩
  | .hbm, ⟨23, _⟩ => ⟨S1024x1024, .f32⟩
  | .hbm, ⟨24, _⟩ => ⟨S8x256x1024, .f32⟩
  | .hbm, ⟨25, _⟩ => ⟨S8x256x1024, .bf16⟩
  | .hbm, ⟨26, _⟩ => ⟨S8x256x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Front.lean ====
abbrev S128x1x1024 : Shape := ⟨3, ![128, 1, 1024]⟩
abbrev S1x128x2x1024 : Shape := ⟨4, ![1, 128, 2, 1024]⟩
abbrev S1x128x3x3072 : Shape := ⟨4, ![1, 128, 3, 3072]⟩
abbrev S1x1024 : Shape := ⟨2, ![1, 1024]⟩
abbrev S1x1024x12320 : Shape := ⟨3, ![1, 1024, 12320]⟩
abbrev S1x3x1024 : Shape := ⟨3, ![1, 3, 1024]⟩
abbrev S1x1024x1024 : Shape := ⟨3, ![1, 1024, 1024]⟩
abbrev S1x4x3072 : Shape := ⟨3, ![1, 4, 3072]⟩
abbrev S1x3072 : Shape := ⟨2, ![1, 3072]⟩
abbrev S1x32 : Shape := ⟨2, ![1, 32]⟩
abbrev S1024x12320 : Shape := ⟨2, ![1024, 12320]⟩
abbrev S1024x3072 : Shape := ⟨2, ![1024, 3072]⟩
abbrev S1024x2048 : Shape := ⟨2, ![1024, 2048]⟩
abbrev S1024x32 : Shape := ⟨2, ![1024, 32]⟩
abbrev S_ : Shape := ⟨0, ![]⟩
abbrev S1024x128 : Shape := ⟨2, ![1024, 128]⟩
abbrev S1024x1024 : Shape := ⟨2, ![1024, 1024]⟩
abbrev S1024 : Shape := ⟨1, ![1024]⟩
abbrev S32 : Shape := ⟨1, ![32]⟩
abbrev S1x128 : Shape := ⟨2, ![1, 128]⟩
abbrev S3072 : Shape := ⟨1, ![3072]⟩
abbrev S4x3072 : Shape := ⟨2, ![4, 3072]⟩
abbrev S3x1024 : Shape := ⟨2, ![3, 1024]⟩
abbrev S128 : Shape := ⟨1, ![128]⟩
abbrev S128x1 : Shape := ⟨2, ![128, 1]⟩
abbrev S2048 : Shape := ⟨1, ![2048]⟩
abbrev S1x2048 : Shape := ⟨2, ![1, 2048]⟩
abbrev S128x2048 : Shape := ⟨2, ![128, 2048]⟩
abbrev S128x1024 : Shape := ⟨2, ![128, 1024]⟩
abbrev S128x2x1024 : Shape := ⟨3, ![128, 2, 1024]⟩
abbrev S128x3x3072 : Shape := ⟨3, ![128, 3, 3072]⟩
abbrev S128x9216 : Shape := ⟨2, ![128, 9216]⟩
abbrev S2048x128 : Shape := ⟨2, ![2048, 128]⟩
abbrev S128x128 : Shape := ⟨2, ![128, 128]⟩
abbrev S128x512 : Shape := ⟨2, ![128, 512]⟩
abbrev S1024x512 : Shape := ⟨2, ![1024, 512]⟩
abbrev S4x512 : Shape := ⟨2, ![4, 512]⟩
abbrev S1x512 : Shape := ⟨2, ![1, 512]⟩

abbrev nBuf : Space → Nat
  | .hbm => 88
  | .vmem => 29
  | .smem => 0
  | _ => 0

abbrev bufTy : (tb : Table) → Fin (tcTables nBuf tb) → BufTy
  | .hbm, ⟨0, _⟩ => ⟨S128x1x1024, .f32⟩
  | .hbm, ⟨1, _⟩ => ⟨S1x128x2x1024, .f32⟩
  | .hbm, ⟨2, _⟩ => ⟨S1x128x3x3072, .f32⟩
  | .hbm, ⟨3, _⟩ => ⟨S1x1024, .f32⟩
  | .hbm, ⟨4, _⟩ => ⟨S1x1024x12320, .f32⟩
  | .hbm, ⟨5, _⟩ => ⟨S1x3x1024, .f32⟩
  | .hbm, ⟨6, _⟩ => ⟨S1x1024x1024, .f32⟩
  | .hbm, ⟨7, _⟩ => ⟨S1x4x3072, .f32⟩
  | .hbm, ⟨8, _⟩ => ⟨S1x3072, .f32⟩
  | .hbm, ⟨9, _⟩ => ⟨S1x32, .f32⟩
  | .hbm, ⟨10, _⟩ => ⟨S1x32, .f32⟩
  | .hbm, ⟨11, _⟩ => ⟨S1024x12320, .f32⟩
  | .hbm, ⟨12, _⟩ => ⟨S1024x3072, .f32⟩
  | .hbm, ⟨13, _⟩ => ⟨S1024x3072, .bf16⟩
  | .hbm, ⟨14, _⟩ => ⟨S1024x2048, .f32⟩
  | .hbm, ⟨15, _⟩ => ⟨S1024x2048, .bf16⟩
  | .hbm, ⟨16, _⟩ => ⟨S1024x3072, .f32⟩
  | .hbm, ⟨17, _⟩ => ⟨S1024x3072, .bf16⟩
  | .hbm, ⟨18, _⟩ => ⟨S1024x32, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S1024x128, .bf16⟩
  | .hbm, ⟨23, _⟩ => ⟨S1024x1024, .f32⟩
  | .hbm, ⟨24, _⟩ => ⟨S1024x1024, .bf16⟩
  | .hbm, ⟨25, _⟩ => ⟨S1024x3072, .f32⟩
  | .hbm, ⟨26, _⟩ => ⟨S1024x3072, .bf16⟩
  | .hbm, ⟨27, _⟩ => ⟨S1024, .f32⟩
  | .hbm, ⟨28, _⟩ => ⟨S1x1024, .f32⟩
  | .hbm, ⟨29, _⟩ => ⟨S32, .f32⟩
  | .hbm, ⟨30, _⟩ => ⟨S1x32, .f32⟩
  | .hbm, ⟨31, _⟩ => ⟨S_, .i32⟩
  | .hbm, ⟨32, _⟩ => ⟨S_, .f32⟩
  | .hbm, ⟨33, _⟩ => ⟨S1x128, .f32⟩
  | .hbm, ⟨34, _⟩ => ⟨S32, .f32⟩
  | .hbm, ⟨35, _⟩ => ⟨S1x32, .f32⟩
  | .hbm, ⟨36, _⟩ => ⟨S_, .i32⟩
  | .hbm, ⟨37, _⟩ => ⟨S_, .f32⟩
  | .hbm, ⟨38, _⟩ => ⟨S1x128, .f32⟩
  | .hbm, ⟨39, _⟩ => ⟨S3072, .f32⟩
  | .hbm, ⟨40, _⟩ => ⟨S1x3072, .f32⟩
  | .hbm, ⟨41, _⟩ => ⟨S4x3072, .f32⟩
  | .hbm, ⟨42, _⟩ => ⟨S3x1024, .f32⟩
  | .hbm, ⟨43, _⟩ => ⟨S1024x1024, .f32⟩
  | .hbm, ⟨44, _⟩ => ⟨S1024x1024, .bf16⟩
  | .hbm, ⟨45, _⟩ => ⟨S128, .i32⟩
  | .hbm, ⟨46, _⟩ => ⟨S128x1, .i32⟩
  | .hbm, ⟨47, _⟩ => ⟨S2048, .i32⟩
  | .hbm, ⟨48, _⟩ => ⟨S1x2048, .i32⟩
  | .hbm, ⟨49, _⟩ => ⟨S_, .i32⟩
  | .hbm, ⟨50, _⟩ => ⟨S_, .i32⟩
  | .hbm, ⟨51, _⟩ => ⟨S1x2048, .i32⟩
  | .hbm, ⟨52, _⟩ => ⟨S1x2048, .i32⟩
  | .hbm, ⟨53, _⟩ => ⟨S1x2048, .i32⟩
  | .hbm, ⟨54, _⟩ => ⟨S_, .i32⟩
  | .hbm, ⟨55, _⟩ => ⟨S1x2048, .i32⟩
  | .hbm, ⟨56, _⟩ => ⟨S1x2048, .i1⟩
  | .hbm, ⟨57, _⟩ => ⟨S1x2048, .i32⟩
  | .hbm, ⟨58, _⟩ => ⟨S1x2048, .i32⟩
  | .hbm, ⟨59, _⟩ => ⟨S_, .i32⟩
  | .hbm, ⟨60, _⟩ => ⟨S1x2048, .i32⟩
  | .hbm, ⟨61, _⟩ => ⟨S1x2048, .i1⟩
  | .hbm, ⟨62, _⟩ => ⟨S1x2048, .i1⟩
  | .hbm, ⟨63, _⟩ => ⟨S_, .i32⟩
  | .hbm, ⟨64, _⟩ => ⟨S1x2048, .i32⟩
  | .hbm, ⟨65, _⟩ => ⟨S1x2048, .i32⟩
  | .hbm, ⟨66, _⟩ => ⟨S1x2048, .i32⟩
  | .hbm, ⟨67, _⟩ => ⟨S128x2048, .i32⟩
  | .hbm, ⟨68, _⟩ => ⟨S128x2048, .i32⟩
  | .hbm, ⟨69, _⟩ => ⟨S128x2048, .i1⟩
  | .hbm, ⟨70, _⟩ => ⟨S128x2048, .bf16⟩
  | .hbm, ⟨71, _⟩ => ⟨S128x1024, .f32⟩
  | .hbm, ⟨72, _⟩ => ⟨S128x2x1024, .f32⟩
  | .hbm, ⟨73, _⟩ => ⟨S128x2048, .f32⟩
  | .hbm, ⟨74, _⟩ => ⟨S128x3x3072, .f32⟩
  | .hbm, ⟨75, _⟩ => ⟨S128x9216, .f32⟩
  | .hbm, ⟨76, _⟩ => ⟨S128x1024, .f32⟩
  | .hbm, ⟨77, _⟩ => ⟨S128x1024, .f32⟩
  | .hbm, ⟨78, _⟩ => ⟨S128x1024, .f32⟩
  | .hbm, ⟨79, _⟩ => ⟨S128x2048, .f32⟩
  | .hbm, ⟨80, _⟩ => ⟨S128x2048, .f32⟩
  | .hbm, ⟨81, _⟩ => ⟨S2048x128, .f32⟩
  | .hbm, ⟨82, _⟩ => ⟨S128x128, .f32⟩
  | .hbm, ⟨83, _⟩ => ⟨S128x512, .f32⟩
  | .hbm, ⟨84, _⟩ => ⟨S128x512, .f32⟩
  | .hbm, ⟨85, _⟩ => ⟨S128x1024, .f32⟩
  | .hbm, ⟨86, _⟩ => ⟨S128x2048, .f32⟩
  | .hbm, ⟨87, _⟩ => ⟨S128x9216, .f32⟩
  | .local _ .vmem, ⟨0, _⟩ => ⟨S128x1024, .f32⟩
  | .local _ .vmem, ⟨1, _⟩ => ⟨S128x2048, .f32⟩
  | .local _ .vmem, ⟨2, _⟩ => ⟨S128x9216, .f32⟩
  | .local _ .vmem, ⟨3, _⟩ => ⟨S1x1024, .f32⟩
  | .local _ .vmem, ⟨4, _⟩ => ⟨S1024x3072, .bf16⟩
  | .local _ .vmem, ⟨5, _⟩ => ⟨S1024x2048, .bf16⟩
  | .local _ .vmem, ⟨6, _⟩ => ⟨S1024x3072, .bf16⟩
  | .local _ .vmem, ⟨7, _⟩ => ⟨S1024x128, .bf16⟩
  | .local _ .vmem, ⟨8, _⟩ => ⟨S1024x1024, .bf16⟩
  | .local _ .vmem, ⟨9, _⟩ => ⟨S1024x3072, .bf16⟩
  | .local _ .vmem, ⟨10, _⟩ => ⟨S3x1024, .f32⟩
  | .local _ .vmem, ⟨11, _⟩ => ⟨S4x3072, .f32⟩
  | .local _ .vmem, ⟨12, _⟩ => ⟨S1x3072, .f32⟩
  | .local _ .vmem, ⟨13, _⟩ => ⟨S1x128, .f32⟩
  | .local _ .vmem, ⟨14, _⟩ => ⟨S1x128, .f32⟩
  | .local _ .vmem, ⟨15, _⟩ => ⟨S1024x1024, .bf16⟩
  | .local _ .vmem, ⟨16, _⟩ => ⟨S128x2048, .bf16⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x2048, .f32⟩
  | .local _ .vmem, ⟨21, _⟩ => ⟨S128x2048, .f32⟩
  | .local _ .vmem, ⟨22, _⟩ => ⟨S2048x128, .f32⟩
  | .local _ .vmem, ⟨23, _⟩ => ⟨S128x128, .f32⟩
  | .local _ .vmem, ⟨24, _⟩ => ⟨S128x512, .f32⟩
  | .local _ .vmem, ⟨25, _⟩ => ⟨S128x512, .f32⟩
  | .local _ .vmem, ⟨26, _⟩ => ⟨S128x1024, .f32⟩
  | .local _ .vmem, ⟨27, _⟩ => ⟨S128x2048, .f32⟩
  | .local _ .vmem, ⟨28, _⟩ => ⟨S128x9216, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_0 : Ref sig .tc := ⟨.hbm, 31, rfl⟩
abbrev main_call1_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_1 : Ref sig .tc := ⟨.hbm, 36, rfl⟩
abbrev main_call2_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_2 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_call3_v5 : Ref sig .tc := ⟨.hbm, 55, rfl⟩
abbrev main_call3_v6 : Ref sig .tc := ⟨.hbm, 56, rfl⟩
abbrev main_call3_v7 : Ref sig .tc := ⟨.hbm, 57, rfl⟩
abbrev main_call3_v8 : Ref sig .tc := ⟨.hbm, 58, rfl⟩
abbrev main_call3_c : Ref sig .tc := ⟨.hbm, 59, rfl⟩
abbrev main_call3_v9 : Ref sig .tc := ⟨.hbm, 60, rfl⟩
abbrev main_call3_v10 : Ref sig .tc := ⟨.hbm, 61, rfl⟩
abbrev main_call3_v11 : Ref sig .tc := ⟨.hbm, 62, rfl⟩
abbrev main_call3_c_0 : Ref sig .tc := ⟨.hbm, 63, rfl⟩
abbrev main_call3_v12 : Ref sig .tc := ⟨.hbm, 64, rfl⟩
abbrev main_call3_v13 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42_0 : Ref sig .tc := ⟨.hbm, 76, rfl⟩
abbrev main_v42_1 : Ref sig .tc := ⟨.hbm, 77, rfl⟩
abbrev main_v42_2 : Ref sig .tc := ⟨.hbm, 78, rfl⟩
abbrev main_v42_3 : Ref sig .tc := ⟨.hbm, 79, rfl⟩
abbrev main_v42_4 : Ref sig .tc := ⟨.hbm, 80, rfl⟩
abbrev main_v42_5 : Ref sig .tc := ⟨.hbm, 81, rfl⟩
abbrev main_v42_6 : Ref sig .tc := ⟨.hbm, 82, rfl⟩
abbrev main_v42_7 : Ref sig .tc := ⟨.hbm, 83, rfl⟩
abbrev main_v42_8 : Ref sig .tc := ⟨.hbm, 84, rfl⟩
abbrev main_v42_9 : Ref sig .tc := ⟨.hbm, 85, rfl⟩
abbrev main_v42_10 : Ref sig .tc := ⟨.hbm, 86, rfl⟩
abbrev main_v42_11 : Ref sig .tc := ⟨.hbm, 87, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S2048x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S128x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S128x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S128x2048 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S128x9216 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]
-- ==== PlainFrontIdeal.lean ====
abbrev S128x1x1024 : Shape := ⟨3, ![128, 1, 1024]⟩
abbrev S1x128x2x1024 : Shape := ⟨4, ![1, 128, 2, 1024]⟩
abbrev S1x128x3x3072 : Shape := ⟨4, ![1, 128, 3, 3072]⟩
abbrev S1x1024 : Shape := ⟨2, ![1, 1024]⟩
abbrev S1x1024x12320 : Shape := ⟨3, ![1, 1024, 12320]⟩
abbrev S1x3x1024 : Shape := ⟨3, ![1, 3, 1024]⟩
abbrev S1x1024x1024 : Shape := ⟨3, ![1, 1024, 1024]⟩
abbrev S1x4x3072 : Shape := ⟨3, ![1, 4, 3072]⟩
abbrev S1x3072 : Shape := ⟨2, ![1, 3072]⟩
abbrev S1x32 : Shape := ⟨2, ![1, 32]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x12320 : Shape := ⟨2, ![1024, 12320]⟩
abbrev S128x1x12320 : Shape := ⟨3, ![128, 1, 12320]⟩
abbrev S128x1x2048 : Shape := ⟨3, ![128, 1, 2048]⟩
abbrev S128x1x3072 : Shape := ⟨3, ![128, 1, 3072]⟩
abbrev S128x1x32 : Shape := ⟨3, ![128, 1, 32]⟩
abbrev S128x2x1024 : Shape := ⟨3, ![128, 2, 1024]⟩
abbrev S3x1024 : Shape := ⟨2, ![3, 1024]⟩
abbrev S128x3x1024 : Shape := ⟨3, ![128, 3, 1024]⟩
abbrev S1024x1024 : Shape := ⟨2, ![1024, 1024]⟩
abbrev S128x3x3072 : Shape := ⟨3, ![128, 3, 3072]⟩
abbrev S4x3072 : Shape := ⟨2, ![4, 3072]⟩
abbrev S128x4x3072 : Shape := ⟨3, ![128, 4, 3072]⟩
abbrev S3072 : Shape := ⟨1, ![3072]⟩
abbrev S1x1x3072 : Shape := ⟨3, ![1, 1, 3072]⟩
abbrev S128x1x512 : Shape := ⟨3, ![128, 1, 512]⟩
abbrev S128x1024 : Shape := ⟨2, ![128, 1024]⟩
abbrev S128x2048 : Shape := ⟨2, ![128, 2048]⟩
abbrev S128x512 : Shape := ⟨2, ![128, 512]⟩
abbrev S128x9216 : Shape := ⟨2, ![128, 9216]⟩

abbrev nBuf : Space → Nat
  | .hbm => 135
  | .vmem => 0
  | .smem => 0
  | _ => 0

abbrev hbmTy0_0 (i : Nat) : BufTy := match i % 128 with
  | 0 => ⟨S128x1x1024, .f32⟩
  | 1 => ⟨S1x128x2x1024, .f32⟩
  | 2 => ⟨S1x128x3x3072, .f32⟩
  | 3 => ⟨S1x1024, .f32⟩
  | 4 => ⟨S1x1024x12320, .f32⟩
  | 5 => ⟨S1x3x1024, .f32⟩
  | 6 => ⟨S1x1024x1024, .f32⟩
  | 7 => ⟨S1x4x3072, .f32⟩
  | 8 => ⟨S1x3072, .f32⟩
  | 9 => ⟨S1x32, .f32⟩
  | 10 => ⟨S1x32, .f32⟩
  | 11 => ⟨S1024, .f32⟩
  | 12 => ⟨S128x1x1024, .f32⟩
  | 13 => ⟨S_, .f32⟩
  | 14 => ⟨S128x1, .f32⟩
  | 15 => ⟨S128x1x1, .f32⟩
  | 16 => ⟨S_, .f32⟩
  | 17 => ⟨S128x1x1, .f32⟩
  | 18 => ⟨S128x1x1, .f32⟩
  | 19 => ⟨S_, .f32⟩
  | 20 => ⟨S128x1x1, .f32⟩
  | 21 => ⟨S128x1x1, .f32⟩
  | 22 => ⟨S128x1x1, .f32⟩
  | 23 => ⟨S128x1x1024, .f32⟩
  | 24 => ⟨S128x1x1024, .f32⟩
  | 25 => ⟨S1x1x1024, .f32⟩
  | 26 => ⟨S128x1x1024, .f32⟩
  | 27 => ⟨S128x1x1024, .f32⟩
  | 28 => ⟨S1024x12320, .f32⟩
  | 29 => ⟨S128x1x12320, .f32⟩
  | 30 => ⟨S128x1x1024, .f32⟩
  | 31 => ⟨S128x1x1024, .f32⟩
  | 32 => ⟨S128x1x1024, .f32⟩
  | 33 => ⟨S128x1x2048, .f32⟩
  | 34 => ⟨S128x1x3072, .f32⟩
  | 35 => ⟨S128x1x32, .f32⟩
  | 36 => ⟨S128x1x1024, .f32⟩
  | 37 => ⟨S128x1x3072, .f32⟩
  | 38 => ⟨S128x1x1024, .f32⟩
  | 39 => ⟨S128x2x1024, .f32⟩
  | 40 => ⟨S3x1024, .f32⟩
  | 41 => ⟨S128x3x1024, .f32⟩
  | 42 => ⟨S128x1x1024, .f32⟩
  | 43 => ⟨S1x1024, .f32⟩
  | 44 => ⟨S1024, .f32⟩
  | 45 => ⟨S1x1x1024, .f32⟩
  | 46 => ⟨S128x1x1024, .f32⟩
  | 47 => ⟨S128x1x1024, .f32⟩
  | 48 => ⟨S128x1x1024, .f32⟩
  | 49 => ⟨S1x1024, .f32⟩
  | 50 => ⟨S1024, .f32⟩
  | 51 => ⟨S1x1x1024, .f32⟩
  | 52 => ⟨S128x1x1024, .f32⟩
  | 53 => ⟨S128x1x1024, .f32⟩
  | 54 => ⟨S128x1x1024, .f32⟩
  | 55 => ⟨S128x1x1024, .f32⟩
  | 56 => ⟨S1x1024, .f32⟩
  | 57 => ⟨S1024, .f32⟩
  | 58 => ⟨S1x1x1024, .f32⟩
  | 59 => ⟨S128x1x1024, .f32⟩
  | 60 => ⟨S128x1x1024, .f32⟩
  | 61 => ⟨S128x1x1024, .f32⟩
  | 62 => ⟨S128x2x1024, .f32⟩
  | 63 => ⟨S128x1x1024, .f32⟩
  | 64 => ⟨S1024x1024, .f32⟩
  | 65 => ⟨S128x1x1024, .f32⟩
  | 66 => ⟨S128x3x3072, .f32⟩
  | 67 => ⟨S4x3072, .f32⟩
  | 68 => ⟨S128x4x3072, .f32⟩
  | 69 => ⟨S128x1x3072, .f32⟩
  | 70 => ⟨S1x3072, .f32⟩
  | 71 => ⟨S3072, .f32⟩
  | 72 => ⟨S1x1x3072, .f32⟩
  | 73 => ⟨S128x1x3072, .f32⟩
  | 74 => ⟨S128x1x3072, .f32⟩
  | 75 => ⟨S128x1x3072, .f32⟩
  | 76 => ⟨S1x3072, .f32⟩
  | 77 => ⟨S3072, .f32⟩
  | 78 => ⟨S1x1x3072, .f32⟩
  | 79 => ⟨S128x1x3072, .f32⟩
  | 80 => ⟨S128x1x3072, .f32⟩
  | 81 => ⟨S128x1x3072, .f32⟩
  | 82 => ⟨S128x1x3072, .f32⟩
  | 83 => ⟨S1x3072, .f32⟩
  | 84 => ⟨S3072, .f32⟩
  | 85 => ⟨S1x1x3072, .f32⟩
  | 86 => ⟨S128x1x3072, .f32⟩
  | 87 => ⟨S128x1x3072, .f32⟩
  | 88 => ⟨S128x1x3072, .f32⟩
  | 89 => ⟨S128x1x3072, .f32⟩
  | 90 => ⟨S1x3072, .f32⟩
  | 91 => ⟨S3072, .f32⟩
  | 92 => ⟨S1x1x3072, .f32⟩
  | 93 => ⟨S128x1x3072, .f32⟩
  | 94 => ⟨S128x1x3072, .f32⟩
  | 95 => ⟨S128x1x3072, .f32⟩
  | 96 => ⟨S128x3x3072, .f32⟩
  | 97 => ⟨S3072, .f32⟩
  | 98 => ⟨S1x1x3072, .f32⟩
  | 99 => ⟨S128x1x3072, .f32⟩
  | 100 => ⟨S128x1x3072, .f32⟩
  | 101 => ⟨S128x1x3072, .f32⟩
  | 102 => ⟨S128x1x3072, .f32⟩
  | 103 => ⟨S_, .f32⟩
  | 104 => ⟨S128x1x3072, .f32⟩
  | 105 => ⟨S128x1x3072, .f32⟩
  | 106 => ⟨S_, .f32⟩
  | 107 => ⟨S128x1x3072, .f32⟩
  | 108 => ⟨S128x1x3072, .f32⟩
  | 109 => ⟨S128x1x3072, .f32⟩
  | 110 => ⟨S128x1x2048, .f32⟩
  | 111 => ⟨S128x1x512, .f32⟩
  | 112 => ⟨S128x1x512, .f32⟩
  | 113 => ⟨S128x1x3072, .f32⟩
  | 114 => ⟨S128x1x3072, .f32⟩
  | 115 => ⟨S_, .f32⟩
  | 116 => ⟨S128x1x3072, .f32⟩
  | 117 => ⟨S128x1x3072, .f32⟩
  | 118 => ⟨S_, .f32⟩
  | 119 => ⟨S128x1x3072, .f32⟩
  | 120 => ⟨S128x1x3072, .f32⟩
  | 121 => ⟨S128x1x1024, .f32⟩
  | 122 => ⟨S128x1x1024, .f32⟩
  | 123 => ⟨S128x1x1024, .f32⟩
  | 124 => ⟨S128x1x1024, .f32⟩
  | 125 => ⟨S128x1024, .f32⟩
  | 126 => ⟨S128x1024, .f32⟩
  | 127 => ⟨S128x1024, .f32⟩
  | _ => ⟨S128x1x1024, .f32⟩

abbrev hbmTy0_1 (i : Nat) : BufTy := match i % 128 with
  | 0 => ⟨S128x2048, .f32⟩
  | 1 => ⟨S128x2048, .f32⟩
  | 2 => ⟨S128x512, .f32⟩
  | 3 => ⟨S128x512, .f32⟩
  | 4 => ⟨S128x1024, .f32⟩
  | 5 => ⟨S128x2048, .f32⟩
  | 6 => ⟨S128x9216, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_call0_v0 : Ref sig .tc := ⟨.hbm, 101, rfl⟩
abbrev main_call0_v1 : Ref sig .tc := ⟨.hbm, 102, rfl⟩
abbrev main_call0_cst : Ref sig .tc := ⟨.hbm, 103, rfl⟩
abbrev main_call0_v2 : Ref sig .tc := ⟨.hbm, 104, rfl⟩
abbrev main_call0_v3 : Ref sig .tc := ⟨.hbm, 105, rfl⟩
abbrev main_call0_cst_0 : Ref sig .tc := ⟨.hbm, 106, rfl⟩
abbrev main_call0_v4 : Ref sig .tc := ⟨.hbm, 107, rfl⟩
abbrev main_call0_v5 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_2 : Ref sig .tc := ⟨.hbm, 115, rfl⟩
abbrev main_v93 : Ref sig .tc := ⟨.hbm, 116, rfl⟩
abbrev main_v94 : Ref sig .tc := ⟨.hbm, 117, rfl⟩
abbrev main_cst_3 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩

abbrev nD : Nat := 1
abbrev τ : Topo := Topo.v7x

variable {F : FTy → Type} [FloatOps F]
-- ==== Back.lean ====
abbrev S128x1x1024 : Shape := ⟨3, ![128, 1, 1024]⟩
abbrev S128x2048 : Shape := ⟨2, ![128, 2048]⟩
abbrev S128x1024 : Shape := ⟨2, ![128, 1024]⟩
abbrev S1x32 : Shape := ⟨2, ![1, 32]⟩
abbrev S1x2048 : Shape := ⟨2, ![1, 2048]⟩
abbrev S1x2048x1024 : Shape := ⟨3, ![1, 2048, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S32 : Shape := ⟨1, ![32]⟩
abbrev S32x64 : Shape := ⟨2, ![32, 64]⟩
abbrev S2048 : Shape := ⟨1, ![2048]⟩
abbrev S2048x1024 : Shape := ⟨2, ![2048, 1024]⟩
abbrev S1024x1024 : Shape := ⟨2, ![1024, 1024]⟩
abbrev S1024x2816 : Shape := ⟨2, ![1024, 2816]⟩
abbrev S2816x1024 : Shape := ⟨2, ![2816, 1024]⟩
abbrev S128x512 : Shape := ⟨2, ![128, 512]⟩
abbrev S128 : Shape := ⟨1, ![128]⟩
abbrev S128x1 : Shape := ⟨2, ![128, 1]⟩
abbrev S1x512 : Shape := ⟨2, ![1, 512]⟩
abbrev S128x2816 : Shape := ⟨2, ![128, 2816]⟩

abbrev nBuf : Space → Nat
  | .hbm => 41
  | .vmem => 19
  | .smem => 0
  | _ => 0

abbrev bufTy : (tb : Table) → Fin (tcTables nBuf tb) → BufTy
  | .hbm, ⟨0, _⟩ => ⟨S128x1x1024, .f32⟩
  | .hbm, ⟨1, _⟩ => ⟨S128x2048, .f32⟩
  | .hbm, ⟨2, _⟩ => ⟨S128x2048, .f32⟩
  | .hbm, ⟨3, _⟩ => ⟨S128x2048, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S1x32, .f32⟩
  | .hbm, ⟨9, _⟩ => ⟨S1x2048, .f32⟩
  | .hbm, ⟨10, _⟩ => ⟨S1x2048x1024, .f32⟩
  | .hbm, ⟨11, _⟩ => ⟨S1x1024x1024, .f32⟩
  | .hbm, ⟨12, _⟩ => ⟨S1x1024x1024, .f32⟩
  | .hbm, ⟨13, _⟩ => ⟨S1x1024, .f32⟩
  | .hbm, ⟨14, _⟩ => ⟨S1x1024x2816, .f32⟩
  | .hbm, ⟨15, _⟩ => ⟨S1x1024x2816, .f32⟩
  | .hbm, ⟨16, _⟩ => ⟨S1x2816x1024, .f32⟩
  | .hbm, ⟨17, _⟩ => ⟨S1024, .f32⟩
  | .hbm, ⟨18, _⟩ => ⟨S32, .f32⟩
  | .hbm, ⟨19, _⟩ => ⟨S32x64, .f32⟩
  | .hbm, ⟨20, _⟩ => ⟨S2048, .f32⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S2048x1024, .f32⟩
  | .hbm, ⟨25, _⟩ => ⟨S2048x1024, .bf16⟩
  | .hbm, ⟨26, _⟩ => ⟨S1024x1024, .f32⟩
  | .hbm, ⟨27, _⟩ => ⟨S1024x1024, .bf16⟩
  | .hbm, ⟨28, _⟩ => ⟨S1024x1024, .f32⟩
  | .hbm, ⟨29, _⟩ => ⟨S1024x1024, .bf16⟩
  | .hbm, ⟨30, _⟩ => ⟨S1024x2816, .f32⟩
  | .hbm, ⟨31, _⟩ => ⟨S1024x2816, .bf16⟩
  | .hbm, ⟨32, _⟩ => ⟨S1024x2816, .f32⟩
  | .hbm, ⟨33, _⟩ => ⟨S1024x2816, .bf16⟩
  | .hbm, ⟨34, _⟩ => ⟨S2816x1024, .f32⟩
  | .hbm, ⟨35, _⟩ => ⟨S2816x1024, .bf16⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S128x1024, .f32⟩
  | .hbm, ⟨40, _⟩ => ⟨S128x1024, .f32⟩
  | .local _ .vmem, ⟨0, _⟩ => ⟨S128x1024, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1x2048, .f32⟩
  | .local _ .vmem, ⟨9, _⟩ => ⟨S1x2048, .f32⟩
  | .local _ .vmem, ⟨10, _⟩ => ⟨S2048x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S1x1024, .f32⟩
  | .local _ .vmem, ⟨18, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x2816 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2816x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== PlainBackIdeal.lean ====
abbrev S128x1x1024 : Shape := ⟨3, ![128, 1, 1024]⟩
abbrev S128x2048 : Shape := ⟨2, ![128, 2048]⟩
abbrev S128x1024 : Shape := ⟨2, ![128, 1024]⟩
abbrev S1x32 : Shape := ⟨2, ![1, 32]⟩
abbrev S1x2048 : Shape := ⟨2, ![1, 2048]⟩
abbrev S1x2048x1024 : Shape := ⟨3, ![1, 2048, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S128x32x64 : Shape := ⟨3, ![128, 32, 64]⟩
abbrev S32 : Shape := ⟨1, ![32]⟩
abbrev S32x1 : Shape := ⟨2, ![32, 1]⟩
abbrev S1x32x1 : Shape := ⟨3, ![1, 32, 1]⟩
abbrev S_ : Shape := ⟨0, ![]⟩
abbrev S2048 : Shape := ⟨1, ![2048]⟩
abbrev S128x4x512 : Shape := ⟨3, ![128, 4, 512]⟩
abbrev S128x4 : Shape := ⟨2, ![128, 4]⟩
abbrev S128x4x1 : Shape := ⟨3, ![128, 4, 1]⟩
abbrev S2048x1024 : Shape := ⟨2, ![2048, 1024]⟩
abbrev S1024x1024 : Shape := ⟨2, ![1024, 1024]⟩
abbrev S128 : Shape := ⟨1, ![128]⟩
abbrev S128x1 : Shape := ⟨2, ![128, 1]⟩
abbrev S1024x2816 : Shape := ⟨2, ![1024, 2816]⟩
abbrev S2816x1024 : Shape := ⟨2, ![2816, 1024]⟩
abbrev S128x2816 : Shape := ⟨2, ![128, 2816]⟩

abbrev nBuf : Space → Nat
  | .hbm => 118
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x2048, .f32⟩
  | .hbm, ⟨2, _⟩ => ⟨S128x2048, .f32⟩
  | .hbm, ⟨3, _⟩ => ⟨S128x2048, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S1x32, .f32⟩
  | .hbm, ⟨9, _⟩ => ⟨S1x2048, .f32⟩
  | .hbm, ⟨10, _⟩ => ⟨S1x2048x1024, .f32⟩
  | .hbm, ⟨11, _⟩ => ⟨S1x1024x1024, .f32⟩
  | .hbm, ⟨12, _⟩ => ⟨S1x1024x1024, .f32⟩
  | .hbm, ⟨13, _⟩ => ⟨S1x1024, .f32⟩
  | .hbm, ⟨14, _⟩ => ⟨S1x1024x2816, .f32⟩
  | .hbm, ⟨15, _⟩ => ⟨S1x1024x2816, .f32⟩
  | .hbm, ⟨16, _⟩ => ⟨S1x2816x1024, .f32⟩
  | .hbm, ⟨17, _⟩ => ⟨S1024, .f32⟩
  | .hbm, ⟨18, _⟩ => ⟨S128x1024, .f32⟩
  | .hbm, ⟨19, _⟩ => ⟨S128x32x64, .f32⟩
  | .hbm, ⟨20, _⟩ => ⟨S128x32x64, .f32⟩
  | .hbm, ⟨21, _⟩ => ⟨S32, .f32⟩
  | .hbm, ⟨22, _⟩ => ⟨S32x1, .f32⟩
  | .hbm, ⟨23, _⟩ => ⟨S1x32x1, .f32⟩
  | .hbm, ⟨24, _⟩ => ⟨S128x32x64, .f32⟩
  | .hbm, ⟨25, _⟩ => ⟨S128x32x64, .f32⟩
  | .hbm, ⟨26, _⟩ => ⟨S128x32x64, .f32⟩
  | .hbm, ⟨27, _⟩ => ⟨S128x2048, .f32⟩
  | .hbm, ⟨28, _⟩ => ⟨S128x2048, .f32⟩
  | .hbm, ⟨29, _⟩ => ⟨S128x2048, .f32⟩
  | .hbm, ⟨30, _⟩ => ⟨S_, .f32⟩
  | .hbm, ⟨31, _⟩ => ⟨S128x2048, .f32⟩
  | .hbm, ⟨32, _⟩ => ⟨S128x2048, .f32⟩
  | .hbm, ⟨33, _⟩ => ⟨S_, .f32⟩
  | .hbm, ⟨34, _⟩ => ⟨S128x2048, .f32⟩
  | .hbm, ⟨35, _⟩ => ⟨S128x2048, .f32⟩
  | .hbm, ⟨36, _⟩ => ⟨S128x2048, .f32⟩
  | .hbm, ⟨37, _⟩ => ⟨S128x2048, .f32⟩
  | .hbm, ⟨38, _⟩ => ⟨S2048, .f32⟩
  | .hbm, ⟨39, _⟩ => ⟨S128x4x512, .f32⟩
  | .hbm, ⟨40, _⟩ => ⟨S128x4x512, .f32⟩
  | .hbm, ⟨41, _⟩ => ⟨S_, .f32⟩
  | .hbm, ⟨42, _⟩ => ⟨S128x4, .f32⟩
  | .hbm, ⟨43, _⟩ => ⟨S128x4x1, .f32⟩
  | .hbm, ⟨44, _⟩ => ⟨S_, .f32⟩
  | .hbm, ⟨45, _⟩ => ⟨S128x4x1, .f32⟩
  | .hbm, ⟨46, _⟩ => ⟨S128x4x1, .f32⟩
  | .hbm, ⟨47, _⟩ => ⟨S_, .f32⟩
  | .hbm, ⟨48, _⟩ => ⟨S128x4x1, .f32⟩
  | .hbm, ⟨49, _⟩ => ⟨S128x4x1, .f32⟩
  | .hbm, ⟨50, _⟩ => ⟨S128x4x1, .f32⟩
  | .hbm, ⟨51, _⟩ => ⟨S128x4x512, .f32⟩
  | .hbm, ⟨52, _⟩ => ⟨S128x4x512, .f32⟩
  | .hbm, ⟨53, _⟩ => ⟨S128x2048, .f32⟩
  | .hbm, ⟨54, _⟩ => ⟨S1x2048, .f32⟩
  | .hbm, ⟨55, _⟩ => ⟨S128x2048, .f32⟩
  | .hbm, ⟨56, _⟩ => ⟨S128x2048, .f32⟩
  | .hbm, ⟨57, _⟩ => ⟨S2048x1024, .f32⟩
  | .hbm, ⟨58, _⟩ => ⟨S128x1024, .f32⟩
  | .hbm, ⟨59, _⟩ => ⟨S1024x1024, .f32⟩
  | .hbm, ⟨60, _⟩ => ⟨S128x1024, .f32⟩
  | .hbm, ⟨61, _⟩ => ⟨S128x1024, .f32⟩
  | .hbm, ⟨62, _⟩ => ⟨S128x1024, .f32⟩
  | .hbm, ⟨63, _⟩ => ⟨S128x1024, .f32⟩
  | .hbm, ⟨64, _⟩ => ⟨S128x1024, .f32⟩
  | .hbm, ⟨65, _⟩ => ⟨S1024x1024, .f32⟩
  | .hbm, ⟨66, _⟩ => ⟨S128x1024, .f32⟩
  | .hbm, ⟨67, _⟩ => ⟨S128x1024, .f32⟩
  | .hbm, ⟨68, _⟩ => ⟨S1024, .f32⟩
  | .hbm, ⟨69, _⟩ => ⟨S128x1024, .f32⟩
  | .hbm, ⟨70, _⟩ => ⟨S_, .f32⟩
  | .hbm, ⟨71, _⟩ => ⟨S128, .f32⟩
  | .hbm, ⟨72, _⟩ => ⟨S128x1, .f32⟩
  | .hbm, ⟨73, _⟩ => ⟨S_, .f32⟩
  | .hbm, ⟨74, _⟩ => ⟨S128x1, .f32⟩
  | .hbm, ⟨75, _⟩ => ⟨S128x1, .f32⟩
  | .hbm, ⟨76, _⟩ => ⟨S_, .f32⟩
  | .hbm, ⟨77, _⟩ => ⟨S128x1, .f32⟩
  | .hbm, ⟨78, _⟩ => ⟨S128x1, .f32⟩
  | .hbm, ⟨79, _⟩ => ⟨S128x1, .f32⟩
  | .hbm, ⟨80, _⟩ => ⟨S128x1024, .f32⟩
  | .hbm, ⟨81, _⟩ => ⟨S128x1024, .f32⟩
  | .hbm, ⟨82, _⟩ => ⟨S1x1024, .f32⟩
  | .hbm, ⟨83, _⟩ => ⟨S128x1024, .f32⟩
  | .hbm, ⟨84, _⟩ => ⟨S128x1024, .f32⟩
  | .hbm, ⟨85, _⟩ => ⟨S1024x2816, .f32⟩
  | .hbm, ⟨86, _⟩ => ⟨S1024x2816, .f32⟩
  | .hbm, ⟨87, _⟩ => ⟨S2816x1024, .f32⟩
  | .hbm, ⟨88, _⟩ => ⟨S128x2816, .f32⟩
  | .hbm, ⟨89, _⟩ => ⟨S128x2816, .f32⟩
  | .hbm, ⟨90, _⟩ => ⟨S128x2816, .f32⟩
  | .hbm, ⟨91, _⟩ => ⟨S_, .f32⟩
  | .hbm, ⟨92, _⟩ => ⟨S128x2816, .f32⟩
  | .hbm, ⟨93, _⟩ => ⟨S128x2816, .f32⟩
  | .hbm, ⟨94, _⟩ => ⟨S_, .f32⟩
  | .hbm, ⟨95, _⟩ => ⟨S128x2816, .f32⟩
  | .hbm, ⟨96, _⟩ => ⟨S128x2816, .f32⟩
  | .hbm, ⟨97, _⟩ => ⟨S128x2816, .f32⟩
  | .hbm, ⟨98, _⟩ => ⟨S128x2816, .f32⟩
  | .hbm, ⟨99, _⟩ => ⟨S128x2816, .f32⟩
  | .hbm, ⟨100, _⟩ => ⟨S128x1024, .f32⟩
  | .hbm, ⟨101, _⟩ => ⟨S128x1024, .f32⟩
  | .hbm, ⟨102, _⟩ => ⟨S128x1024, .f32⟩
  | .hbm, ⟨103, _⟩ => ⟨S_, .f32⟩
  | .hbm, ⟨104, _⟩ => ⟨S128, .f32⟩
  | .hbm, ⟨105, _⟩ => ⟨S128x1, .f32⟩
  | .hbm, ⟨106, _⟩ => ⟨S_, .f32⟩
  | .hbm, ⟨107, _⟩ => ⟨S128x1, .f32⟩
  | .hbm, ⟨108, _⟩ => ⟨S128x1, .f32⟩
  | .hbm, ⟨109, _⟩ => ⟨S_, .f32⟩
  | .hbm, ⟨110, _⟩ => ⟨S128x1, .f32⟩
  | .hbm, ⟨111, _⟩ => ⟨S128x1, .f32⟩
  | .hbm, ⟨112, _⟩ => ⟨S128x1, .f32⟩
  | .hbm, ⟨113, _⟩ => ⟨S128x1024, .f32⟩
  | .hbm, ⟨114, _⟩ => ⟨S128x1024, .f32⟩
  | .hbm, ⟨115, _⟩ => ⟨S1x1024, .f32⟩
  | .hbm, ⟨116, _⟩ => ⟨S128x1024, .f32⟩
  | .hbm, ⟨117, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst : Ref sig .tc := ⟨.hbm, 41, rfl⟩
abbrev main_v15 : Ref sig .tc := ⟨.hbm, 42, rfl⟩
abbrev main_v16 : Ref sig .tc := ⟨.hbm, 43, rfl⟩
abbrev main_cst_0 : Ref sig .tc := ⟨.hbm, 44, rfl⟩
abbrev main_v17 : Ref sig .tc := ⟨.hbm, 45, rfl⟩
abbrev main_v18 : Ref sig .tc := ⟨.hbm, 46, rfl⟩
abbrev main_cst_1 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_2 : Ref sig .tc := ⟨.hbm, 70, rfl⟩
abbrev main_v41 : Ref sig .tc := ⟨.hbm, 71, rfl⟩
abbrev main_v42 : Ref sig .tc := ⟨.hbm, 72, rfl⟩
abbrev main_cst_3 : Ref sig .tc := ⟨.hbm, 73, rfl⟩
abbrev main_v43 : Ref sig .tc := ⟨.hbm, 74, rfl⟩
abbrev main_v44 : Ref sig .tc := ⟨.hbm, 75, rfl⟩
abbrev main_cst_4 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_call1_v5 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_5 : Ref sig .tc := ⟨.hbm, 103, rfl⟩
abbrev main_v63 : Ref sig .tc := ⟨.hbm, 104, rfl⟩
abbrev main_v64 : Ref sig .tc := ⟨.hbm, 105, rfl⟩
abbrev main_cst_6 : Ref sig .tc := ⟨.hbm, 106, rfl⟩
abbrev main_v65 : Ref sig .tc := ⟨.hbm, 107, rfl⟩
abbrev main_v66 : Ref sig .tc := ⟨.hbm, 108, rfl⟩
abbrev main_cst_7 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩

abbrev nD : Nat := 1
abbrev τ : Topo := Topo.v7x

variable {F : FTy → Type} [FloatOps F]
-- ==== Proof.Rows.lean ====
/-
  The layer's row functions over the extended reals. Each is one row's formula, stated with plain functions of
  positions and with no array shapes; the kernels and the references are both read as these.
-/
module

public import Idealize.ShloMosaic.PureOps.Ideal

@[expose] public section

noncomputable section

namespace Cert.Rows

open Idealize.ShloMosaic

/-- The constant added under the square root of a root-mean-square normalization. -/
def eps : EReal := Ideal.ofBits .f32 0x358637BD#32

/-- The number of features of a row, 1024, as the kernels and the references write it. -/
def width : EReal := Ideal.ofBits .f32 0x44800000#32

/-- Root-mean-square normalization of one row of 1024 features, scaled by the weights `w`. -/
def rms (x w : Fin 1024 → EReal) (q : Fin 1024) : EReal :=
  x q * Ideal.rsqrt (Ideal.div (∑ k, x k * x k) width + eps) * w q

/-- A row times a matrix. -/
def mm {k n : ℕ} (x : Fin k → EReal) (W : Fin k → Fin n → EReal) (j : Fin n) : EReal := ∑ i, x i * W i j

/-- The activation `x · logistic x`. -/
def silu (x : EReal) : EReal := x * Ideal.logistic x

/-- The gated feed-forward network of one row: normalization, the gate and the lifted values, the product's projection. -/
def ffn (x w : Fin 1024 → EReal) (Wg Wu : Fin 1024 → Fin 2816 → EReal) (Wd : Fin 2816 → Fin 1024 → EReal) : Fin 1024 → EReal :=
  mm (fun j => silu (mm (rms x w) Wg j) * mm (rms x w) Wu j) Wd

/-- The last stage of the layer on one row: the row plus its feed-forward network, normalized. -/
def ffnOut (x w : Fin 1024 → EReal) (Wg Wu : Fin 1024 → Fin 2816 → EReal) (Wd : Fin 2816 → Fin 1024 → EReal)
    (wf : Fin 1024 → EReal) : Fin 1024 → EReal :=
  rms (fun q => x q + ffn x w Wg Wu Wd q) wf

end Cert.Rows

end
-- ==== Proof.MixRows.lean ====
/-
  The mixing layer's row functions over the extended reals: the causal convolution over the rows of a sequence, the
  attention of one row over the memory, and the gated sum of the branches.
-/
module

public import proofs.«01_k».proof.Proof.Rows

@[expose] public section

noncomputable section

namespace Cert.Rows

open Idealize.ShloMosaic

/-- The attention scale `1/16`. -/
def scale : EReal := Ideal.ofBits .f32 0x3D800000#32

/-- The value that a row's maximum starts from. -/
def low : EReal := Ideal.ofBits .f32 0xFF800000#32

/-- A row's maximum. -/
def peak {n : ℕ} (f : Fin n → EReal) : EReal := Finset.fold max low f Finset.univ

/-- The softmax of a row. -/
def weight {n : ℕ} (f : Fin n → EReal) (k : Fin n) : EReal :=
  Ideal.div (Ideal.exp (f k - peak f)) (∑ k', Ideal.exp (f k' - peak f))

/-- The scaled scores of one query against the keys. -/
def logits (q : Fin 256 → EReal) (K : Fin 256 → Fin 256 → EReal) (k : Fin 256) : EReal := (∑ d, q d * K k d) * scale

/-- One head of attention on one row: the softmax of the scores against the values. -/
def head (q : Fin 256 → EReal) (K V : Fin 256 → Fin 256 → EReal) (d : Fin 256) : EReal :=
  ∑ k, weight (logits q K) k * V k d

/-- The column of head `h`'s entry `d`. -/
def col (h : Fin 4) (d : Fin 256) : Fin 1024 := ⟨256 * h.val + d.val, by omega⟩

/-- The head that a column belongs to. -/
def hd (j : Fin 1024) : Fin 4 := ⟨j.val / 256, by omega⟩

/-- A column's place in its head. -/
def lane (j : Fin 1024) : Fin 256 := ⟨j.val % 256, by omega⟩

/-- Attention of one row with four heads: each column's head, read at the column's place. -/
def att (q : Fin 1024 → EReal) (K V : Fin 256 → Fin 1024 → EReal) (j : Fin 1024) : EReal :=
  head (fun d => q (col (hd j) d)) (fun k d => K k (col (hd j) d)) (fun k d => V k (col (hd j) d)) (lane j)

/-- A matrix's 1024 columns from column `o` on. -/
def sec {n : ℕ} (W : Fin 1024 → Fin n → EReal) (o : ℕ) (h : o + 1024 ≤ n) (k j : Fin 1024) : EReal := W k ⟨o + j.val, by omega⟩

/-- The convolution's three taps on the values two rows back, one row back and at the row. -/
def taps (a b c : Fin 1024 → EReal) (cw : Fin 3 → Fin 1024 → EReal) (j : Fin 1024) : EReal := a j * cw 0 j + b j * cw 1 j + c j * cw 2 j

/-- The value `d` rows before row `s`, zero before the first row. -/
def past {n : ℕ} (u : Fin n → Fin 1024 → EReal) (s : Fin n) (d : ℕ) (j : Fin 1024) : EReal :=
  if d ≤ s.val then u ⟨s.val - d, by omega⟩ j else 0

/-- The causal convolution of a sequence at a row. -/
def conv {n : ℕ} (u : Fin n → Fin 1024 → EReal) (cw : Fin 3 → Fin 1024 → EReal) (s : Fin n) : Fin 1024 → EReal :=
  taps (past u s 2) (past u s 1) (u s) cw

/-- The gated product that the convolution runs over, of one normalized row. -/
def lift (n : Fin 1024 → EReal) (Wc Wx : Fin 1024 → Fin 1024 → EReal) (j : Fin 1024) : EReal := mm n Wc j * mm n Wx j

/-- The three branches' gated sum of one row, projected and added to the row: `x` the row, `n` its normalization, `v` the
    convolution, `yb` the second branch's gated value. -/
def merge (x n v yb : Fin 1024 → EReal) (Wb Wq Wga Wgc Wsc Wao Wmo : Fin 1024 → Fin 1024 → EReal) (K V : Fin 256 → Fin 1024 → EReal)
    (j : Fin 1024) : EReal :=
  x j + mm (fun i => Ideal.logistic (mm n Wga i) * mm (fun l => mm n Wb l * v l) Wsc i + yb i
    + Ideal.logistic (mm n Wgc i) * mm (att (mm n Wq) K V) Wao i) Wmo j

end Cert.Rows

end
-- ==== Proof.MixKernel.lean ====
/-
  The mixing kernel's payloads of one block of rows, read at an index as the layer's row functions.
-/
module

public import proofs.«01_k».proof.Proof.Gen.MixIdeal.Skeleton
public import proofs.«01_k».proof.Proof.MixRows
public import Idealize.ShloMosaic.Lib.Pointwise

@[expose] public section

set_option maxRecDepth 16384

noncomputable section

namespace Cert.MixIdeal.Rd

open Cert.MixIdeal Cert.MixIdeal.Gen Idealize.ShloMosaic Idealize.ShloMosaic.TcCoe Cert

/-- A block's row. -/
abbrev row (x0 : Vec Ideal S1x256x1024 .f32) (r : Fin 256) : Fin 1024 → EReal := fun k => x0 (ix3 0 r k)

/-- A block's row after the normalization. -/
abbrev nrow (x0 : Vec Ideal S1x256x1024 .f32) (x4 : Vec Ideal S1x1024 .f32) (r : Fin 256) : Fin 1024 → EReal :=
  Rows.rms (row x0 r) (fun k => x4 (ix2 0 k))

/-- A square matrix as a function of its two indices. -/
abbrev mat (w : Vec Ideal S1024x1024 .bf16) : Fin 1024 → Fin 1024 → EReal := fun k j => w (ix2 k j)

/-- The block's rows without the unit axis. -/
theorem pay4_apply (x0 : Vec Ideal S1x256x1024 .f32) (r : Fin 256) (q : Fin 1024) : k0_pay4 (F := Ideal) x0 (ix2 r q) = x0 (ix3 0 r q) := by
  pointwise [k0_pay4]

/-- The normalized rows. -/
theorem pay5_apply (x0 : Vec Ideal S1x256x1024 .f32) (x4 : Vec Ideal S1x1024 .f32) (r : Fin 256) (q : Fin 1024) :
    k0_pay5 (F := Ideal) x0 x4 (ix2 r q) = nrow x0 x4 r q := by
  unfold nrow row Rows.rms Rows.eps Rows.width
  pointwise [k0_pay5, k0_pay4]

/-- The gate of the convolution's output. -/
theorem pay6_apply (x0 : Vec Ideal S1x256x1024 .f32) (x4 : Vec Ideal S1x1024 .f32) (w : Vec Ideal S1024x1024 .bf16) (r : Fin 256) (q : Fin 1024) :
    k0_pay6 (F := Ideal) x0 x4 w (ix2 r q) = Rows.mm (nrow x0 x4 r) (mat w) q := by
  unfold nrow row mat Rows.mm Rows.rms Rows.eps Rows.width
  pointwise [k0_pay6, k0_pay5, k0_pay4]

/-- The convolution's input. -/
theorem pay7_apply (x0 : Vec Ideal S1x256x1024 .f32) (x4 : Vec Ideal S1x1024 .f32) (wc wx : Vec Ideal S1024x1024 .bf16) (r : Fin 256) (q : Fin 1024) :
    k0_pay7 (F := Ideal) x0 x4 wc wx (ix2 r q) = Rows.lift (nrow x0 x4 r) (mat wc) (mat wx) q := by
  unfold nrow row mat Rows.lift Rows.mm Rows.rms Rows.eps Rows.width
  pointwise [k0_pay7, k0_pay5, k0_pay4]

/-- The last eight rows of the convolution's input, which the kernel carries to its next point. -/
theorem pay9_apply (x0 : Vec Ideal S1x256x1024 .f32) (x4 : Vec Ideal S1x1024 .f32) (wc wx : Vec Ideal S1024x1024 .bf16) (r : Fin 8) (q : Fin 1024) :
    k0_pay9 (F := Ideal) (k0_pay8 x0 x4 wc wx) (ix2 r q) = Rows.lift (nrow x0 x4 ⟨248 + r.val, by omega⟩) (mat wc) (mat wx) q := by
  rw [← pay7_apply]
  pointwise [k0_pay9, k0_pay8]

/-- The rows that the first point of a sequence starts from are zero. -/
theorem pay3_apply (r : Fin 8) (q : Fin 1024) : k0_pay3 (F := Ideal) (ix2 r q) = 0 := by
  pointwise [k0_pay3]

/-- The two stored rows of the convolution's input. -/
theorem pay2_apply (v : Vec Ideal S8x1024 .f32) (r : Fin 2) (q : Fin 1024) : k0_pay2 (F := Ideal) v (ix3 0 r q) = v (ix2 ⟨6 + r.val, by omega⟩ q) := by
  pointwise [k0_pay2]
  refine congrArg (fun z => v (ix2 z q)) (Fin.ext ?_)
  show (r.val + 8 - 2) % 8 = 6 + r.val
  omega

/-- The value `d` rows before row `r` of a block `u`, with the rows before the block at the end of `p`. -/
def back (u : Fin 256 → Fin 1024 → EReal) (p : Fin 8 → Fin 1024 → EReal) (r : Fin 256) (d : ℕ) (hd : d ≤ 8) (l : Fin 1024) : EReal :=
  if h : r.val < d then p ⟨8 + r.val - d, by omega⟩ l else u ⟨r.val - d, by omega⟩ l

/-- A row that reaches before the block. -/
theorem back_lt (u : Fin 256 → Fin 1024 → EReal) (p : Fin 8 → Fin 1024 → EReal) (r : Fin 256) (d : ℕ) (hd : d ≤ 8) (l : Fin 1024) (h : r.val < d) :
    back u p r d hd l = p ⟨8 + r.val - d, by omega⟩ l := dif_pos h

/-- A row that stays in the block. -/
theorem back_ge (u : Fin 256 → Fin 1024 → EReal) (p : Fin 8 → Fin 1024 → EReal) (r : Fin 256) (d : ℕ) (hd : d ≤ 8) (l : Fin 1024) (h : ¬r.val < d) :
    back u p r d hd l = u ⟨r.val - d, by omega⟩ l := dif_neg h

/-- The comparison of a small row number with 2 selects. -/
theorem sel2 {a b : EReal} : ∀ r : Fin 8, Scalar.select (IntOp.cmpi .slt (BitVec.ofNat 32 r.val) 2#32) a b = if r.val < 2 then a else b
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The comparison of a small row number with 1 selects. -/
theorem sel1 {a b : EReal} : ∀ r : Fin 8, Scalar.select (IntOp.cmpi .slt (BitVec.ofNat 32 r.val) 1#32) a b = if r.val < 1 then a else b
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The convolution branch of a block. -/
theorem pay10_apply (v22 v29 : FVec Ideal S256x1024 .f32) (v30 : Vec Ideal S8x1024 .f32) (v35 : Vec Ideal S3x1024 .f32) (v68 : Vec Ideal S1024x1024 .bf16)
    (r : Fin 256) (q : Fin 1024) :
    k0_pay10 (F := Ideal) v22 v29 v30 v35 v68 (ix2 r q)
      = Rows.mm (fun l => v22 (ix2 r l) * Rows.taps (back (fun s j => v29 (ix2 s j)) (fun s j => v30 (ix2 s j)) r 2 (by decide))
          (back (fun s j => v29 (ix2 s j)) (fun s j => v30 (ix2 s j)) r 1 (by decide)) (fun j => v29 (ix2 r j)) (fun t j => v35 (ix2 t j)) l) (mat v68) q := by
  unfold Rows.mm Rows.taps mat
  pointwise [k0_pay10]
  refine Finset.sum_congr rfl fun x _ => congrArg (· * _) (congrArg (_ * ·) ?_)
  refine congrArg₂ (· + ·) (congrArg₂ (· + ·) (congrArg (· * _) ?_) (congrArg (· * _) ?_)) rfl
  · by_cases h8 : r.val < 8
    · refine (dif_pos h8).trans ((sel2 ⟨r.val, h8⟩).trans ?_)
      by_cases h : r.val < 2
      · refine (if_pos h).trans (Eq.trans ?_ (back_lt _ _ _ _ _ _ h).symm)
        refine congrArg (fun z => v30 (ix2 z x)) (Fin.ext ?_)
        show (r.val + 8 - 2) % 8 = 8 + r.val - 2
        omega
      · refine (if_neg h).trans (Eq.trans ?_ (back_ge _ _ _ _ _ _ h).symm)
        refine congrArg (fun z => v29 (ix2 z x)) (Fin.ext ?_)
        show (r.val + 256 - 2) % 256 = r.val - 2
        omega
    · refine (dif_neg h8).trans (Eq.trans ?_ (back_ge _ _ _ _ _ _ (by omega)).symm)
      refine congrArg (fun z => v29 (ix2 z x)) (Fin.ext ?_)
      show (8 + (r.val - 8) + 256 - 2) % 256 = r.val - 2
      omega
  · by_cases h8 : r.val < 8
    · refine (dif_pos h8).trans ((sel1 ⟨r.val, h8⟩).trans ?_)
      by_cases h : r.val < 1
      · refine (if_pos h).trans (Eq.trans ?_ (back_lt _ _ _ _ _ _ h).symm)
        refine congrArg (fun z => v30 (ix2 z x)) (Fin.ext ?_)
        show (r.val + 8 - 1) % 8 = 8 + r.val - 1
        omega
      · refine (if_neg h).trans (Eq.trans ?_ (back_ge _ _ _ _ _ _ h).symm)
        refine congrArg (fun z => v29 (ix2 z x)) (Fin.ext ?_)
        show (r.val + 256 - 1) % 256 = r.val - 1
        omega
    · refine (dif_neg h8).trans (Eq.trans ?_ (back_ge _ _ _ _ _ _ (by omega)).symm)
      refine congrArg (fun z => v29 (ix2 z x)) (Fin.ext ?_)
      show (8 + (r.val - 8) + 256 - 1) % 256 = r.val - 1
      omega

/-- The queries of all heads. -/
theorem pay11_apply (n : FVec Ideal S256x1024 .bf16) (w : Vec Ideal S1024x1024 .bf16) (r : Fin 256) (q : Fin 1024) :
    k0_pay11 (F := Ideal) n w (ix2 r q) = Rows.mm (fun k => n (ix2 r k)) (mat w) q := by
  unfold mat Rows.mm
  pointwise [k0_pay11]

/-- The first head's queries. -/
theorem pay12_apply (n : FVec Ideal S256x1024 .bf16) (w : Vec Ideal S1024x1024 .bf16) (r d : Fin 256) :
    k0_pay12 (F := Ideal) n w (ix2 r d) = k0_pay11 (F := Ideal) n w (ix2 r ⟨d.val, by omega⟩) := by
  rw [pay11_apply]
  unfold mat Rows.mm
  pointwise [k0_pay12, k0_pay11]

/-- The third head's queries. -/
theorem pay15_apply (v : FVec Ideal S256x1024 .f32) (r d : Fin 256) : k0_pay15 (F := Ideal) v (ix2 r d) = v (ix2 r ⟨512 + d.val, by omega⟩) := by
  pointwise [k0_pay15]

/-- The first head's output. -/
theorem pay13_apply (v75 : FVec Ideal S256x256 .bf16) (k v : Vec Ideal S1x256x256 .bf16) (r q : Fin 256) :
    k0_pay13 (F := Ideal) v75 k v (ix2 r q) = Rows.head (fun d => v75 (ix2 r d)) (fun j d => k (ix3 0 j d)) (fun j d => v (ix3 0 j d)) q := by
  unfold Rows.head Rows.weight Rows.peak Rows.logits Rows.low Rows.scale
  pointwise [k0_pay13]

/-- The second head's output. -/
theorem pay14_apply (v73 : FVec Ideal S256x1024 .f32) (k v : Vec Ideal S1x256x256 .bf16) (r q : Fin 256) :
    k0_pay14 (F := Ideal) v73 k v (ix2 r q) = Rows.head (fun d => v73 (ix2 r ⟨256 + d.val, by omega⟩)) (fun j d => k (ix3 0 j d)) (fun j d => v (ix3 0 j d)) q := by
  unfold Rows.head Rows.weight Rows.peak Rows.logits Rows.low Rows.scale
  pointwise [k0_pay14]

/-- The four heads' outputs side by side. -/
theorem pay16_apply (v73 : FVec Ideal S256x1024 .f32) (v93 v113 : FVec Ideal S256x256 .f32) (v115 : FVec Ideal S256x256 .bf16) (k2 v2 k3 v3 : Vec Ideal S1x256x256 .bf16)
    (r : Fin 256) (q : Fin 1024) :
    k0_pay16 (F := Ideal) v73 v93 v113 v115 k2 v2 k3 v3 (ix2 r q)
      = if h : q.val < 256 then v93 (ix2 r ⟨q.val, h⟩)
        else if h1 : q.val - 256 < 256 then v113 (ix2 r ⟨q.val - 256, h1⟩)
        else if h2 : q.val - 256 - 256 < 256 then Rows.head (fun d => v115 (ix2 r d)) (fun j d => k2 (ix3 0 j d)) (fun j d => v2 (ix3 0 j d)) ⟨q.val - 256 - 256, h2⟩
        else Rows.head (fun d => v73 (ix2 r ⟨768 + d.val, by omega⟩)) (fun j d => k3 (ix3 0 j d)) (fun j d => v3 (ix3 0 j d)) ⟨q.val - 256 - 256 - 256, by omega⟩ := by
  unfold Rows.head Rows.weight Rows.peak Rows.logits Rows.low Rows.scale
  pointwise [k0_pay16]

/-- The gated sum of the branches of a block. -/
theorem pay1_apply (v4 v70 v154 : FVec Ideal S256x1024 .f32) (v19 : FVec Ideal S256x1024 .bf16) (v156 v159 v163 v174 : Vec Ideal S1024x1024 .bf16)
    (v168 : Vec Ideal S1x256x1024 .f32) (r : Fin 256) (q : Fin 1024) :
    k0_pay1 (F := Ideal) v4 v19 v70 v154 v156 v159 v163 v168 v174 (ix3 0 r q)
      = v4 (ix2 r q) + Rows.mm (fun i => Ideal.logistic (Rows.mm (fun k => v19 (ix2 r k)) (mat v159) i) * v70 (ix2 r i) + v168 (ix3 0 r i)
          + Ideal.logistic (Rows.mm (fun k => v19 (ix2 r k)) (mat v163) i) * Rows.mm (fun k => v154 (ix2 r k)) (mat v156) i) (mat v174) q := by
  unfold mat Rows.mm
  pointwise [k0_pay1]

end Cert.MixIdeal.Rd

end
-- ==== Proof.MixTile.lean ====
/-
  One point of the mixing kernel's grid on its block of 256 rows: the rows that the point carries on, and the block that it
  stores, as the layer's row functions.
-/
module

public import proofs.«01_k».proof.Proof.MixKernel

@[expose] public section

set_option maxRecDepth 16384

noncomputable section

namespace Cert.MixIdeal.Rd

open Cert.MixIdeal Cert.MixIdeal.Gen Idealize.ShloMosaic Idealize.ShloMosaic.TcCoe Cert

/-- Attention at a column of the head that starts at column `o`. -/
theorem att_at (z : Fin 1024 → EReal) (K V : Fin 256 → Fin 1024 → EReal) (q : Fin 1024) (o : ℕ) (h1 : o ≤ q.val) (h2 : q.val < o + 256) (ho : o % 256 = 0) :
    Rows.head (fun d => z ⟨o + d.val, by omega⟩) (fun k d => K k ⟨o + d.val, by omega⟩) (fun k d => V k ⟨o + d.val, by omega⟩) ⟨q.val - o, by omega⟩
      = Rows.att z K V q := by
  have hc : ∀ d : Fin 256, Rows.col (Rows.hd q) d = ⟨o + d.val, by omega⟩ := fun d => Fin.ext (by
    show 256 * (q.val / 256) + d.val = o + d.val
    omega)
  have hl : Rows.lane q = ⟨q.val - o, by omega⟩ := Fin.ext (by
    show q.val % 256 = q.val - o
    omega)
  unfold Rows.att
  simp only [hc, hl]

/-- A head's output depends on its arguments alone. -/
theorem head_congr {a a' : Fin 256 → EReal} {K K' V V' : Fin 256 → Fin 256 → EReal} {d d' : Fin 256} (ha : ∀ i, a i = a' i) (hK : ∀ k i, K k i = K' k i)
    (hV : ∀ k i, V k i = V' k i) (hd : d.val = d'.val) : Rows.head a K V d = Rows.head a' K' V' d' := by
  obtain rfl : a = a' := funext ha
  obtain rfl : K = K' := funext fun k => funext fun i => hK k i
  obtain rfl : V = V' := funext fun k => funext fun i => hV k i
  obtain rfl : d = d' := Fin.ext hd
  rfl

/-- The heads' columns of the keys or the values. -/
theorem ld0_apply (x : Vec Ideal S1x256x1024 .bf16) (k d : Fin 256) :
    (View.ld x (Rect.unit ![0, 0, 0] ![1, 256, 256] inb_S1x256x1024_S1x256x256_0_0_0) : Vec Ideal S1x256x256 .bf16) (ix3 0 k d) = x (ix3 0 k ⟨0 + d.val, by omega⟩) := by
  pointwise
@[inherit_doc ld0_apply]
theorem ld256_apply (x : Vec Ideal S1x256x1024 .bf16) (k d : Fin 256) :
    (View.ld x (Rect.unit ![0, 0, 256] ![1, 256, 256] inb_S1x256x1024_S1x256x256_0_0_256) : Vec Ideal S1x256x256 .bf16) (ix3 0 k d) = x (ix3 0 k ⟨256 + d.val, by omega⟩) := by
  pointwise
@[inherit_doc ld0_apply]
theorem ld512_apply (x : Vec Ideal S1x256x1024 .bf16) (k d : Fin 256) :
    (View.ld x (Rect.unit ![0, 0, 512] ![1, 256, 256] inb_S1x256x1024_S1x256x256_0_0_512) : Vec Ideal S1x256x256 .bf16) (ix3 0 k d) = x (ix3 0 k ⟨512 + d.val, by omega⟩) := by
  pointwise
@[inherit_doc ld0_apply]
theorem ld768_apply (x : Vec Ideal S1x256x1024 .bf16) (k d : Fin 256) :
    (View.ld x (Rect.unit ![0, 0, 768] ![1, 256, 256] inb_S1x256x1024_S1x256x256_0_0_768) : Vec Ideal S1x256x256 .bf16) (ix3 0 k d) = x (ix3 0 k ⟨768 + d.val, by omega⟩) := by
  pointwise

/-- The four heads' outputs of a block, from its normalized rows, the queries' matrix, the keys and the values. -/
def heads (n : FVec Ideal S256x1024 .bf16) (w : Vec Ideal S1024x1024 .bf16) (x2 x3 : Vec Ideal S1x256x1024 .bf16) : FVec Ideal S256x1024 .f32 :=
  k0_pay16 (k0_pay11 n w)
    (k0_pay13 (k0_pay12 n w) (View.ld x2 (Rect.unit ![0, 0, 0] ![1, 256, 256] inb_S1x256x1024_S1x256x256_0_0_0))
      (View.ld x3 (Rect.unit ![0, 0, 0] ![1, 256, 256] inb_S1x256x1024_S1x256x256_0_0_0)))
    (k0_pay14 (k0_pay11 n w) (View.ld x2 (Rect.unit ![0, 0, 256] ![1, 256, 256] inb_S1x256x1024_S1x256x256_0_0_256))
      (View.ld x3 (Rect.unit ![0, 0, 256] ![1, 256, 256] inb_S1x256x1024_S1x256x256_0_0_256)))
    (k0_pay15 (k0_pay11 n w))
    (View.ld x2 (Rect.unit ![0, 0, 512] ![1, 256, 256] inb_S1x256x1024_S1x256x256_0_0_512))
    (View.ld x3 (Rect.unit ![0, 0, 512] ![1, 256, 256] inb_S1x256x1024_S1x256x256_0_0_512))
    (View.ld x2 (Rect.unit ![0, 0, 768] ![1, 256, 256] inb_S1x256x1024_S1x256x256_0_0_768))
    (View.ld x3 (Rect.unit ![0, 0, 768] ![1, 256, 256] inb_S1x256x1024_S1x256x256_0_0_768))

/-- They are the attention of the rows' queries. -/
theorem heads_apply (n : FVec Ideal S256x1024 .bf16) (w : Vec Ideal S1024x1024 .bf16) (x2 x3 : Vec Ideal S1x256x1024 .bf16) (r : Fin 256) (q : Fin 1024) :
    heads n w x2 x3 (ix2 r q) = Rows.att (fun j => k0_pay11 (F := Ideal) n w (ix2 r j)) (fun k j => x2 (ix3 0 k j)) (fun k j => x3 (ix3 0 k j)) q := by
  unfold heads
  rw [pay16_apply]
  by_cases h0 : q.val < 256
  · refine (dif_pos h0).trans ((pay13_apply _ _ _ _ _).trans (Eq.trans ?_ (att_at _ _ _ q 0 (by omega) (by omega) rfl)))
    refine head_congr (fun d => (pay12_apply n w r d).trans ?_) (fun k d => ld0_apply x2 k d) (fun k d => ld0_apply x3 k d) rfl
    exact congrArg (fun z => k0_pay11 (F := Ideal) n w (ix2 r z)) (Fin.ext (Nat.zero_add _).symm)
  refine (dif_neg h0).trans ?_
  by_cases h1 : q.val - 256 < 256
  · refine (dif_pos h1).trans ((pay14_apply _ _ _ _ _).trans (Eq.trans ?_ (att_at _ _ _ q 256 (by omega) (by omega) rfl)))
    exact head_congr (fun d => rfl) (fun k d => ld256_apply x2 k d) (fun k d => ld256_apply x3 k d) rfl
  refine (dif_neg h1).trans ?_
  by_cases h2 : q.val - 256 - 256 < 256
  · refine (dif_pos h2).trans (Eq.trans ?_ (att_at _ _ _ q 512 (by omega) (by omega) rfl))
    refine head_congr (fun d => pay15_apply _ r d) (fun k d => ld512_apply x2 k d) (fun k d => ld512_apply x3 k d) ?_
    show q.val - 256 - 256 = q.val - 512
    omega
  refine (dif_neg h2).trans (Eq.trans ?_ (att_at _ _ _ q 768 (by omega) (by omega) rfl))
  refine head_congr (fun d => rfl) (fun k d => ld768_apply x2 k d) (fun k d => ld768_apply x3 k d) ?_
  show q.val - 256 - 256 - 256 = q.val - 768
  omega

/-- A section of the convolution branch's matrices, or of the gates'. -/
abbrev part {n : ℕ} (W : Vec Ideal ⟨2, ![1024, n]⟩ .bf16) (o : ℕ) (h : o + 1024 ≤ n) : Fin 1024 → Fin 1024 → EReal := Rows.sec (fun k j => W (ix2 k j)) o h

/-- The first branch's three matrices, one after the other. -/
theorem a0_apply (x : Vec Ideal S1024x3072 .bf16) : mat (View.ld x (Rect.unit ![0, 0] ![1024, 1024] inb_S1024x3072_S1024x1024_0_0)) = part x 0 (by decide) := by
  funext k j
  unfold mat part Rows.sec
  pointwise
@[inherit_doc a0_apply]
theorem a1_apply (x : Vec Ideal S1024x3072 .bf16) : mat (View.ld x (Rect.unit ![0, 1024] ![1024, 1024] inb_S1024x3072_S1024x1024_0_1024)) = part x 1024 (by decide) := by
  funext k j
  unfold mat part Rows.sec
  pointwise
@[inherit_doc a0_apply]
theorem a2_apply (x : Vec Ideal S1024x3072 .bf16) : mat (View.ld x (Rect.unit ![0, 2048] ![1024, 1024] inb_S1024x3072_S1024x1024_0_2048)) = part x 2048 (by decide) := by
  funext k j
  unfold mat part Rows.sec
  pointwise
/-- The two gates' matrices. -/
theorem g0_apply (x : Vec Ideal S1024x2048 .bf16) : mat (View.ld x (Rect.unit ![0, 0] ![1024, 1024] inb_S1024x2048_S1024x1024_0_0)) = part x 0 (by decide) := by
  funext k j
  unfold mat part Rows.sec
  pointwise
@[inherit_doc g0_apply]
theorem g1_apply (x : Vec Ideal S1024x2048 .bf16) : mat (View.ld x (Rect.unit ![0, 1024] ![1024, 1024] inb_S1024x2048_S1024x1024_0_1024)) = part x 1024 (by decide) := by
  funext k j
  unfold mat part Rows.sec
  pointwise

section
variable (x0 x1 : Vec Ideal S1x256x1024 .f32) (x2 x3 : Vec Ideal S1x256x1024 .bf16) (x4 : Vec Ideal S1x1024 .f32) (x5 : Vec Ideal S1024x3072 .bf16)
  (x6 : Vec Ideal S1024x1024 .bf16) (x7 : Vec Ideal S1024x2048 .bf16) (x8 : Vec Ideal S3x1024 .f32) (x9 x10 x11 : Vec Ideal S1024x1024 .bf16)
  (p : Vec Ideal S8x1024 .f32)

/-- The rows that a point carries on: the last eight rows of its convolution's input. -/
def carry : Vec Ideal S8x1024 .f32 :=
  k0_pay9 (k0_pay8 x0 x4 (View.ld x5 (Rect.unit ![0, 1024] ![1024, 1024] inb_S1024x3072_S1024x1024_0_1024))
    (View.ld x5 (Rect.unit ![0, 2048] ![1024, 1024] inb_S1024x3072_S1024x1024_0_2048)))

/-- The block's convolution input. -/
abbrev urow (r : Fin 256) : Fin 1024 → EReal := Rows.lift (nrow x0 x4 r) (part x5 1024 (by decide)) (part x5 2048 (by decide))

/-- The carried rows. -/
theorem carry_apply (r : Fin 8) (q : Fin 1024) : carry x0 x4 x5 (ix2 r q) = urow x0 x4 x5 ⟨248 + r.val, by omega⟩ q := by
  unfold carry
  rw [pay9_apply, a1_apply, a2_apply]

/-- The block that a point stores, from its input blocks and the rows `p` carried to it. -/
def tile : Vec Ideal S1x256x1024 .f32 :=
  k0_pay1 (k0_pay4 x0) (k0_pay5 x0 x4)
    (k0_pay10 (k0_pay6 x0 x4 (View.ld x5 (Rect.unit ![0, 0] ![1024, 1024] inb_S1024x3072_S1024x1024_0_0)))
      (k0_pay7 x0 x4 (View.ld x5 (Rect.unit ![0, 1024] ![1024, 1024] inb_S1024x3072_S1024x1024_0_1024))
        (View.ld x5 (Rect.unit ![0, 2048] ![1024, 1024] inb_S1024x3072_S1024x1024_0_2048))) p x8 x9)
    (heads (k0_pay5 x0 x4) x6 x2 x3) x10
    (View.ld x7 (Rect.unit ![0, 0] ![1024, 1024] inb_S1024x2048_S1024x1024_0_0))
    (View.ld x7 (Rect.unit ![0, 1024] ![1024, 1024] inb_S1024x2048_S1024x1024_0_1024)) x1 x11

/-- The stored block is the gated sum of the three branches, row by row. -/
theorem tile_apply (r : Fin 256) (q : Fin 1024) :
    tile x0 x1 x2 x3 x4 x5 x6 x7 x8 x9 x10 x11 p (ix3 0 r q)
      = Rows.merge (row x0 r) (nrow x0 x4 r)
          (Rows.taps (back (urow x0 x4 x5) (fun s j => p (ix2 s j)) r 2 (by decide)) (back (urow x0 x4 x5) (fun s j => p (ix2 s j)) r 1 (by decide))
            (urow x0 x4 x5 r) (fun t j => x8 (ix2 t j)))
          (row x1 r) (part x5 0 (by decide)) (mat x6) (part x7 0 (by decide)) (part x7 1024 (by decide)) (mat x9) (mat x10) (mat x11)
          (fun k j => x2 (ix3 0 k j)) (fun k j => x3 (ix3 0 k j)) q := by
  unfold tile
  have h7 : (fun s j => k0_pay7 (F := Ideal) x0 x4 (View.ld x5 (Rect.unit ![0, 1024] ![1024, 1024] inb_S1024x3072_S1024x1024_0_1024))
      (View.ld x5 (Rect.unit ![0, 2048] ![1024, 1024] inb_S1024x3072_S1024x1024_0_2048)) (ix2 s j)) = urow x0 x4 x5 :=
    funext fun s => funext fun j => by rw [pay7_apply, a1_apply, a2_apply]
  have h5 : (fun k => k0_pay5 (F := Ideal) x0 x4 (ix2 r k)) = nrow x0 x4 r := funext fun k => pay5_apply x0 x4 r k
  have ha : (fun k => heads (k0_pay5 (F := Ideal) x0 x4) x6 x2 x3 (ix2 r k)) = Rows.att (Rows.mm (nrow x0 x4 r) (mat x6)) (fun k j => x2 (ix3 0 k j)) (fun k j => x3 (ix3 0 k j)) :=
    funext fun k => by
      rw [heads_apply]
      refine congrArg (fun z => Rows.att z _ _ k) (funext fun j => ?_)
      rw [pay11_apply, h5]
  rw [pay1_apply, h5, ha, pay4_apply, g0_apply, g1_apply]
  simp only [pay10_apply, pay6_apply, a0_apply, h7]
  have h7r : (fun j => k0_pay7 (F := Ideal) x0 x4 (View.ld x5 (Rect.unit ![0, 1024] ![1024, 1024] inb_S1024x3072_S1024x1024_0_1024))
      (View.ld x5 (Rect.unit ![0, 2048] ![1024, 1024] inb_S1024x3072_S1024x1024_0_2048)) (ix2 r j)) = urow x0 x4 x5 r := congrFun h7 r
  rw [h7r]
  rfl

end

end Cert.MixIdeal.Rd

end
-- ==== Proof.MixOut.lean ====
/-
  What one point of the mixing kernel's grid leaves in its output blocks and in the rows it carries to the next point.
-/
module

public import proofs.«01_k».proof.Proof.Gen.MixIdeal.Value
public import proofs.«01_k».proof.Proof.MixTile
public import Idealize.ShloMosaic.Lib.Pipeline.ValueKit
public import Idealize.ShloMosaic.Lib.Pipeline.ReadBack

@[expose] public section

set_option maxRecDepth 16384

noncomputable section

namespace Cert.MixIdeal.Rd

open Cert.MixIdeal Cert.MixIdeal.Gen Idealize.ShloMosaic Idealize.ShloMosaic.TcCoe Idealize.SL.Sem Cert
open Idealize.ShloMosaic.Pipeline (Dat)

variable (m : (ℓ : Loc nD τ sig) → Buf (Elt Ideal) ℓ)

/-- The rows that point `t` carries on. -/
abbrev carryAt (c : Dev nD) (t : Fin cfg0.N) : Vec Ideal S8x1024 .f32 := carry (iblk m c 0 t) (iblk m c 4 t) (iblk m c 5 t)

/-- The block that point `t` stores when the rows `p` are carried to it. -/
abbrev tileAt (c : Dev nD) (t : Fin cfg0.N) (p : Vec Ideal S8x1024 .f32) : Vec Ideal S1x256x1024 .f32 :=
  tile (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) p

/-- Every point carries on its own last rows. -/
theorem scratch_eq (c : Dev nD) (t : Fin cfg0.N) : (outsAt0 m c t.val t.isLt).2.2 = carryAt m c t := by
  by_cases h0 : t.val % 8 = 0
  · rw [outsAt0_A m c t h0 (by omega)]
    frame_out
    rfl
  by_cases h1 : t.val % 8 = 7
  · rw [outsAt0_C m c t h0 h1]
    frame_out
    rfl
  · rw [outsAt0_B m c t h0 h1]
    frame_out
    rfl

/-- The first point of a sequence starts from zero rows. -/
theorem block_first (c : Dev nD) (t : Fin cfg0.N) (h0 : t.val % 8 = 0) : (outsAt0 m c t.val t.isLt).1 = tileAt m c t (k0_pay3 (F := Ideal)) := by
  rw [outsAt0_A m c t h0 (by omega)]
  frame_out
  rfl

/-- Every other point starts from the rows of the point before it. -/
theorem block_next (c : Dev nD) (t : Fin cfg0.N) (h0 : ¬t.val % 8 = 0) :
    (outsAt0 m c t.val t.isLt).1 = tileAt m c t (outsAt0 m c (t.val - 1) (lt_of_le_of_lt (Nat.sub_le _ _) t.isLt)).2.2 := by
  by_cases h1 : t.val % 8 = 7
  · rw [outsAt0_C m c t h0 h1]
    frame_out
    simp only [read_unread_whole]
    rfl
  · rw [outsAt0_B m c t h0 h1]
    frame_out
    simp only [read_unread_whole]
    rfl

/-- The last point of a sequence stores the last two rows of its convolution's input. -/
theorem state_last (c : Dev nD) (t : Fin cfg0.N) (h1 : t.val % 8 = 7) : (outsAt0 m c t.val t.isLt).2.1 = k0_pay2 (carryAt m c t) := by
  rw [outsAt0_C m c t (by omega) h1]
  frame_out
  rfl

end Cert.MixIdeal.Rd

end
-- ==== Proof.MixValue.lean ====
/-
  The mixing kernel's two result arrays at the end of a run: the layer's rows after the mixing, and the last two rows of
  each sequence's convolution input.
-/
module

public import proofs.«01_k».proof.Proof.MixOut
public import Idealize.ShloMosaic.Lib.StableHlo.Run
public import Idealize.ShloMosaic.Lib.Claim

@[expose] public section

set_option maxRecDepth 16384

noncomputable section

namespace Cert.MixIdeal.Rd

open Cert.MixIdeal Cert.MixIdeal.Gen Idealize.ShloMosaic Idealize.ShloMosaic.TcCoe Idealize.SL.Sem Cert
open Idealize.ShloMosaic.Pipeline (Dat)

/-- A stacked weight matrix, its unit axis dropped and its format changed, at an index. -/
theorem cast_apply (X : FVec Ideal S1x1024x1024 .f32) (k j : Fin 1024) :
    (truncf .bf16 (shapeCast S1024x1024 X shapeCasts_S1x1024x1024_S1024x1024 : FVec Ideal S1024x1024 .f32) bitsLt_bf16_f32 : FVec Ideal S1024x1024 .bf16) (ix2 k j)
      = X (ix3 0 k j) := by
  pointwise

/-- The normalization weights after the two reshapes. -/
theorem row_apply (X : FVec Ideal S1x1024 .f32) (k : Fin 1024) :
    shapeCast S1x1024 (shapeCast S1024 X shapeCasts_S1x1024_S1024) shapeCasts_S1024_S1x1024 (ix2 0 k) = X (ix2 0 k) := by
  pointwise

/-- The convolution's weights without the unit axis. -/
theorem taps_apply (X : FVec Ideal S1x3x1024 .f32) (k : Fin 3) (j : Fin 1024) :
    shapeCast S3x1024 X shapeCasts_S1x3x1024_S3x1024 (ix2 k j) = X (ix3 0 k j) := by
  pointwise

/-- The input projection's first 3072 columns. -/
theorem wa_apply (X : FVec Ideal S1x1024x12320 .f32) (k : Fin 1024) (j : Fin 3072) :
    (truncf .bf16 (extractStridedSlice S1024x3072 ![0, 0] (shapeCast S1024x12320 X shapeCasts_S1x1024x12320_S1024x12320 : FVec Ideal S1024x12320 .f32) slices_S1024x12320_S1024x3072_0_0 : FVec Ideal S1024x3072 .f32) bitsLt_bf16_f32 : FVec Ideal S1024x3072 .bf16) (ix2 k j)
      = X (ix3 0 k ⟨j.val, by omega⟩) := by
  pointwise

/-- The input projection's columns of the queries. -/
theorem wq_apply (X : FVec Ideal S1x1024x12320 .f32) (k : Fin 1024) (j : Fin 1024) :
    (truncf .bf16 (extractStridedSlice S1024x1024 ![0, 8224] (shapeCast S1024x12320 X shapeCasts_S1x1024x12320_S1024x12320 : FVec Ideal S1024x12320 .f32) slices_S1024x12320_S1024x1024_0_8224 : FVec Ideal S1024x1024 .f32) bitsLt_bf16_f32 : FVec Ideal S1024x1024 .bf16) (ix2 k j)
      = X (ix3 0 k ⟨8224 + j.val, by omega⟩) := by
  pointwise

/-- The input projection's last 3072 columns, of which the gates are two parts. -/
def gates (X : FVec Ideal S1x1024x12320 .f32) : FVec Ideal S1024x3072 .bf16 :=
  truncf .bf16 (extractStridedSlice S1024x3072 ![0, 9248] (shapeCast S1024x12320 X shapeCasts_S1x1024x12320_S1024x12320 : FVec Ideal S1024x12320 .f32) slices_S1024x12320_S1024x3072_0_9248 : FVec Ideal S1024x3072 .f32) bitsLt_bf16_f32

/-- They at an index. -/
theorem gates_apply (X : FVec Ideal S1x1024x12320 .f32) (k : Fin 1024) (j : Fin 3072) : gates X (ix2 k j) = X (ix3 0 k ⟨9248 + j.val, by omega⟩) := by
  pointwise [gates]

/-- The two gates' matrices side by side. -/
def pair (X : FVec Ideal S1024x3072 .bf16) : FVec Ideal S1024x2048 .bf16 :=
  concatenate S1024x2048 1 [⟨S1024x1024, (extractStridedSlice S1024x1024 ![0, 0] X slices_S1024x3072_S1024x1024_0_0 : FVec Ideal S1024x1024 .bf16)⟩,
    ⟨S1024x1024, (extractStridedSlice S1024x1024 ![0, 2048] X slices_S1024x3072_S1024x1024_0_2048 : FVec Ideal S1024x1024 .bf16)⟩] concatenates_S1024x1024_S1024x1024_S1024x2048_d1

/-- The first gate's columns. -/
theorem pair_lo (X : FVec Ideal S1024x3072 .bf16) (k : Fin 1024) (j : Fin 1024) : pair X (ix2 k ⟨0 + j.val, by omega⟩) = X (ix2 k ⟨j.val, by omega⟩) := by
  pointwise [pair]

/-- The second gate's columns. -/
theorem pair_hi (X : FVec Ideal S1024x3072 .bf16) (k : Fin 1024) (j : Fin 1024) : pair X (ix2 k ⟨1024 + j.val, by omega⟩) = X (ix2 k ⟨2048 + j.val, by omega⟩) := by
  pointwise [pair]

variable (m : (ℓ : Loc nD τ sig) → Buf (Elt Ideal) ℓ)

/-- The batch that grid point `t` works on. -/
abbrev bat (t : Fin cfg0.N) : Fin 8 := ⟨t.val / 8, by have h : t.val < 64 := t.isLt; omega⟩
/-- Row `r` of grid point `t`'s block, as a position of the sequence. -/
abbrev pos (t : Fin cfg0.N) (r : Fin 256) : Fin 2048 := ⟨t.val % 8 * 256 + r.val, by omega⟩

/-- The blocks' places: point `t` works on batch `t / 8` and positions `256 (t % 8) …`, and reads the weights whole. -/
theorem idx_facts : ∀ t : Fin cfg0.N, win0_0.index t = ![t.val / 8, t.val % 8, 0] ∧ win0_1.index t = ![t.val / 8, t.val % 8, 0]
    ∧ win0_2.index t = ![t.val / 8, 0, 0] ∧ win0_3.index t = ![t.val / 8, 0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0]
    ∧ win0_11.index t = ![0, 0] ∧ win0_12.index t = ![t.val / 8, t.val % 8, 0] ∧ win0_13.index t = ![t.val / 8, 0, 0] :=
  (by decide +kernel : ∀ t : Fin grid0.N, _)

/-- The block of hidden rows at point `t`. -/
theorem blk0_apply (c : Dev nD) (t : Fin cfg0.N) (r : Fin 256) (k : Fin 1024) :
    (iblk m c 0 t : Vec Ideal S1x256x1024 .f32) (ix3 0 r k) = (m ((c : Thread nD τ).loc main_arg0) : Vec Ideal S8x2048x1024 .f32) (ix3 (bat t) (pos t r) k) := by
  obtain ⟨e0, e1, e2, e3, e4, e5, e6, e7, e8, e9, e10, e11, e12, e13⟩ := idx_facts t
  blk_simp [iblk]
  rw [V_main_arg0]
  refine congrArg _ ?_
  blk_ext [e0]

/-- The block of the second branch's rows at point `t`. -/
theorem blk1_apply (c : Dev nD) (t : Fin cfg0.N) (r : Fin 256) (k : Fin 1024) :
    (iblk m c 1 t : Vec Ideal S1x256x1024 .f32) (ix3 0 r k) = (m ((c : Thread nD τ).loc main_arg1) : Vec Ideal S8x2048x1024 .f32) (ix3 (bat t) (pos t r) k) := by
  obtain ⟨e0, e1, e2, e3, e4, e5, e6, e7, e8, e9, e10, e11, e12, e13⟩ := idx_facts t
  blk_simp [iblk]
  rw [V_main_arg1]
  refine congrArg _ ?_
  blk_ext [e1]

/-- The block of keys at point `t`. -/
theorem blk2_apply (c : Dev nD) (t : Fin cfg0.N) (r : Fin 256) (k : Fin 1024) :
    (iblk m c 2 t : Vec Ideal S1x256x1024 .bf16) (ix3 0 r k) = (m ((c : Thread nD τ).loc main_arg2) : Vec Ideal S8x256x1024 .bf16) (ix3 (bat t) r k) := by
  obtain ⟨e0, e1, e2, e3, e4, e5, e6, e7, e8, e9, e10, e11, e12, e13⟩ := idx_facts t
  blk_simp [iblk]
  rw [V_main_arg2]
  refine congrArg _ ?_
  blk_ext [e2]

/-- The block of values at point `t`. -/
theorem blk3_apply (c : Dev nD) (t : Fin cfg0.N) (r : Fin 256) (k : Fin 1024) :
    (iblk m c 3 t : Vec Ideal S1x256x1024 .bf16) (ix3 0 r k) = (m ((c : Thread nD τ).loc main_arg3) : Vec Ideal S8x256x1024 .bf16) (ix3 (bat t) r k) := by
  obtain ⟨e0, e1, e2, e3, e4, e5, e6, e7, e8, e9, e10, e11, e12, e13⟩ := idx_facts t
  blk_simp [iblk]
  rw [V_main_arg3]
  refine congrArg _ ?_
  blk_ext [e3]

/-- The normalization's row as the kernel's window reads it. -/
theorem v11_apply (c : Dev nD) (k : Fin 1024) : (V m c main_v11 : Vec Ideal S1x1024 .f32) (ix2 0 k) = (m ((c : Thread nD τ).loc main_arg4) : Vec Ideal S1x1024 .f32) (ix2 0 k) := by
  have e : (V m c main_v11 : Vec Ideal S1x1024 .f32) = shapeCast S1x1024 (shapeCast S1024 (m ((c : Thread nD τ).loc main_arg4) : Vec Ideal S1x1024 .f32) shapeCasts_S1x1024_S1024) shapeCasts_S1024_S1x1024 := by
    unfold V; after_results; rfl
  exact (congrFun e _).trans (row_apply _ k)

/-- The normalization's row in point `t`'s block. -/
theorem blk4_apply (c : Dev nD) (t : Fin cfg0.N) (k : Fin 1024) : (iblk m c 4 t : Vec Ideal S1x1024 .f32) (ix2 0 k) = (m ((c : Thread nD τ).loc main_arg4) : Vec Ideal S1x1024 .f32) (ix2 0 k) := by
  obtain ⟨e0, e1, e2, e3, e4, e5, e6, e7, e8, e9, e10, e11, e12, e13⟩ := idx_facts t
  refine Eq.trans ?_ (v11_apply m c k)
  blk_simp [iblk]
  refine congrArg _ ?_
  blk_ext [e4]

/-- The first branch's matrix as the kernel's window reads it. -/
theorem v2_apply (c : Dev nD) (k : Fin 1024) (j : Fin 3072) : (V m c main_v2 : Vec Ideal S1024x3072 .bf16) (ix2 k j) = (m ((c : Thread nD τ).loc main_arg5) : Vec Ideal S1x1024x12320 .f32) (ix3 0 k ⟨j.val, by omega⟩) := by
  have e : (V m c main_v2 : Vec Ideal S1024x3072 .bf16) = (truncf .bf16 (extractStridedSlice S1024x3072 ![0, 0] (shapeCast S1024x12320 (m ((c : Thread nD τ).loc main_arg5) : Vec Ideal S1x1024x12320 .f32) shapeCasts_S1x1024x12320_S1024x12320 : FVec Ideal S1024x12320 .f32) slices_S1024x12320_S1024x3072_0_0 : FVec Ideal S1024x3072 .f32) bitsLt_bf16_f32 : FVec Ideal S1024x3072 .bf16) := by
    unfold V; after_results; rfl
  exact (congrFun e _).trans (wa_apply _ k j)

/-- The first branch's matrix in point `t`'s block. -/
theorem blk5_apply (c : Dev nD) (t : Fin cfg0.N) (k : Fin 1024) (j : Fin 3072) : (iblk m c 5 t : Vec Ideal S1024x3072 .bf16) (ix2 k j) = (m ((c : Thread nD τ).loc main_arg5) : Vec Ideal S1x1024x12320 .f32) (ix3 0 k ⟨j.val, by omega⟩) := by
  obtain ⟨e0, e1, e2, e3, e4, e5, e6, e7, e8, e9, e10, e11, e12, e13⟩ := idx_facts t
  refine Eq.trans ?_ (v2_apply m c k j)
  blk_simp [iblk]
  refine congrArg _ ?_
  blk_ext [e5]

/-- The queries' matrix as the kernel's window reads it. -/
theorem v4_apply (c : Dev nD) (k j : Fin 1024) : (V m c main_v4 : Vec Ideal S1024x1024 .bf16) (ix2 k j) = (m ((c : Thread nD τ).loc main_arg5) : Vec Ideal S1x1024x12320 .f32) (ix3 0 k ⟨8224 + j.val, by omega⟩) := by
  have e : (V m c main_v4 : Vec Ideal S1024x1024 .bf16) = (truncf .bf16 (extractStridedSlice S1024x1024 ![0, 8224] (shapeCast S1024x12320 (m ((c : Thread nD τ).loc main_arg5) : Vec Ideal S1x1024x12320 .f32) shapeCasts_S1x1024x12320_S1024x12320 : FVec Ideal S1024x12320 .f32) slices_S1024x12320_S1024x1024_0_8224 : FVec Ideal S1024x1024 .f32) bitsLt_bf16_f32 : FVec Ideal S1024x1024 .bf16) := by
    unfold V; after_results; rfl
  exact (congrFun e _).trans (wq_apply _ k j)

/-- The queries' matrix in point `t`'s block. -/
theorem blk6_apply (c : Dev nD) (t : Fin cfg0.N) (k j : Fin 1024) : (iblk m c 6 t : Vec Ideal S1024x1024 .bf16) (ix2 k j) = (m ((c : Thread nD τ).loc main_arg5) : Vec Ideal S1x1024x12320 .f32) (ix3 0 k ⟨8224 + j.val, by omega⟩) := by
  obtain ⟨e0, e1, e2, e3, e4, e5, e6, e7, e8, e9, e10, e11, e12, e13⟩ := idx_facts t
  refine Eq.trans ?_ (v4_apply m c k j)
  blk_simp [iblk]
  refine congrArg _ ?_
  blk_ext [e6]

/-- The gates' matrices as the kernel's window reads them. -/
theorem v9_eq (c : Dev nD) : (V m c main_v9 : Vec Ideal S1024x2048 .bf16) = pair (gates (m ((c : Thread nD τ).loc main_arg5) : Vec Ideal S1x1024x12320 .f32)) := by
  unfold V; after_results; rfl

/-- The gates' matrices in point `t`'s block. -/
theorem blk7_apply (c : Dev nD) (t : Fin cfg0.N) (k : Fin 1024) (j : Fin 2048) : (iblk m c 7 t : Vec Ideal S1024x2048 .bf16) (ix2 k j) = pair (gates (m ((c : Thread nD τ).loc main_arg5) : Vec Ideal S1x1024x12320 .f32)) (ix2 k j) := by
  obtain ⟨e0, e1, e2, e3, e4, e5, e6, e7, e8, e9, e10, e11, e12, e13⟩ := idx_facts t
  refine Eq.trans ?_ (congrFun (v9_eq m c) _)
  blk_simp [iblk]
  refine congrArg _ ?_
  blk_ext [e7]

/-- The convolution's weights' matrix as the kernel's window reads it. -/
theorem v12_apply (c : Dev nD) (k : Fin 3) (j : Fin 1024) : (V m c main_v12 : Vec Ideal S3x1024 .f32) (ix2 k j) = (m ((c : Thread nD τ).loc main_arg6) : Vec Ideal S1x3x1024 .f32) (ix3 0 k j) := by
  have e : (V m c main_v12 : Vec Ideal S3x1024 .f32) = shapeCast S3x1024 (m ((c : Thread nD τ).loc main_arg6) : Vec Ideal S1x3x1024 .f32) shapeCasts_S1x3x1024_S3x1024 := by
    unfold V; after_results; rfl
  exact (congrFun e _).trans (taps_apply _ k j)

/-- The convolution's weights' matrix in point `t`'s block. -/
theorem blk8_apply (c : Dev nD) (t : Fin cfg0.N) (k : Fin 3) (j : Fin 1024) : (iblk m c 8 t : Vec Ideal S3x1024 .f32) (ix2 k j) = (m ((c : Thread nD τ).loc main_arg6) : Vec Ideal S1x3x1024 .f32) (ix3 0 k j) := by
  obtain ⟨e0, e1, e2, e3, e4, e5, e6, e7, e8, e9, e10, e11, e12, e13⟩ := idx_facts t
  refine Eq.trans ?_ (v12_apply m c k j)
  blk_simp [iblk]
  refine congrArg _ ?_
  blk_ext [e8]

/-- The first branch's output matrix as the kernel's window reads it. -/
theorem v14_apply (c : Dev nD) (k j : Fin 1024) : (V m c main_v14 : Vec Ideal S1024x1024 .bf16) (ix2 k j) = (m ((c : Thread nD τ).loc main_arg7) : Vec Ideal S1x1024x1024 .f32) (ix3 0 k j) := by
  have e : (V m c main_v14 : Vec Ideal S1024x1024 .bf16) = (truncf .bf16 (shapeCast S1024x1024 (m ((c : Thread nD τ).loc main_arg7) : Vec Ideal S1x1024x1024 .f32) shapeCasts_S1x1024x1024_S1024x1024 : FVec Ideal S1024x1024 .f32) bitsLt_bf16_f32 : FVec Ideal S1024x1024 .bf16) := by
    unfold V; after_results; rfl
  exact (congrFun e _).trans (cast_apply _ k j)

/-- The first branch's output matrix in point `t`'s block. -/
theorem blk9_apply (c : Dev nD) (t : Fin cfg0.N) (k j : Fin 1024) : (iblk m c 9 t : Vec Ideal S1024x1024 .bf16) (ix2 k j) = (m ((c : Thread nD τ).loc main_arg7) : Vec Ideal S1x1024x1024 .f32) (ix3 0 k j) := by
  obtain ⟨e0, e1, e2, e3, e4, e5, e6, e7, e8, e9, e10, e11, e12, e13⟩ := idx_facts t
  refine Eq.trans ?_ (v14_apply m c k j)
  blk_simp [iblk]
  refine congrArg _ ?_
  blk_ext [e9]

/-- The attention's output matrix as the kernel's window reads it. -/
theorem v16_apply (c : Dev nD) (k j : Fin 1024) : (V m c main_v16 : Vec Ideal S1024x1024 .bf16) (ix2 k j) = (m ((c : Thread nD τ).loc main_arg8) : Vec Ideal S1x1024x1024 .f32) (ix3 0 k j) := by
  have e : (V m c main_v16 : Vec Ideal S1024x1024 .bf16) = (truncf .bf16 (shapeCast S1024x1024 (m ((c : Thread nD τ).loc main_arg8) : Vec Ideal S1x1024x1024 .f32) shapeCasts_S1x1024x1024_S1024x1024 : FVec Ideal S1024x1024 .f32) bitsLt_bf16_f32 : FVec Ideal S1024x1024 .bf16) := by
    unfold V; after_results; rfl
  exact (congrFun e _).trans (cast_apply _ k j)

/-- The attention's output matrix in point `t`'s block. -/
theorem blk10_apply (c : Dev nD) (t : Fin cfg0.N) (k j : Fin 1024) : (iblk m c 10 t : Vec Ideal S1024x1024 .bf16) (ix2 k j) = (m ((c : Thread nD τ).loc main_arg8) : Vec Ideal S1x1024x1024 .f32) (ix3 0 k j) := by
  obtain ⟨e0, e1, e2, e3, e4, e5, e6, e7, e8, e9, e10, e11, e12, e13⟩ := idx_facts t
  refine Eq.trans ?_ (v16_apply m c k j)
  blk_simp [iblk]
  refine congrArg _ ?_
  blk_ext [e10]

/-- The mixing's output matrix as the kernel's window reads it. -/
theorem v18_apply (c : Dev nD) (k j : Fin 1024) : (V m c main_v18 : Vec Ideal S1024x1024 .bf16) (ix2 k j) = (m ((c : Thread nD τ).loc main_arg9) : Vec Ideal S1x1024x1024 .f32) (ix3 0 k j) := by
  have e : (V m c main_v18 : Vec Ideal S1024x1024 .bf16) = (truncf .bf16 (shapeCast S1024x1024 (m ((c : Thread nD τ).loc main_arg9) : Vec Ideal S1x1024x1024 .f32) shapeCasts_S1x1024x1024_S1024x1024 : FVec Ideal S1024x1024 .f32) bitsLt_bf16_f32 : FVec Ideal S1024x1024 .bf16) := by
    unfold V; after_results; rfl
  exact (congrFun e _).trans (cast_apply _ k j)

/-- The mixing's output matrix in point `t`'s block. -/
theorem blk11_apply (c : Dev nD) (t : Fin cfg0.N) (k j : Fin 1024) : (iblk m c 11 t : Vec Ideal S1024x1024 .bf16) (ix2 k j) = (m ((c : Thread nD τ).loc main_arg9) : Vec Ideal S1x1024x1024 .f32) (ix3 0 k j) := by
  obtain ⟨e0, e1, e2, e3, e4, e5, e6, e7, e8, e9, e10, e11, e12, e13⟩ := idx_facts t
  refine Eq.trans ?_ (v18_apply m c k j)
  blk_simp [iblk]
  refine congrArg _ ?_
  blk_ext [e11]

section
variable (a0 a1 : Vec Ideal S8x2048x1024 .f32) (a2 a3 : Vec Ideal S8x256x1024 .bf16) (a4 : Vec Ideal S1x1024 .f32)
  (a5 : Vec Ideal S1x1024x12320 .f32) (a6 : Vec Ideal S1x3x1024 .f32) (a7 a8 a9 : Vec Ideal S1x1024x1024 .f32)

/-- A row of the hidden states after the normalization. -/
abbrev xn (b : Fin 8) (s : Fin 2048) : Fin 1024 → EReal := Rows.rms (fun k => a0 (ix3 b s k)) (fun k => a4 (ix2 0 k))

/-- The input projection as a matrix. -/
abbrev inp : Fin 1024 → Fin 12320 → EReal := fun k j => a5 (ix3 0 k j)

/-- The convolution's input, row by row. -/
abbrev lifted (b : Fin 8) (s : Fin 2048) : Fin 1024 → EReal :=
  Rows.lift (xn a0 a4 b s) (Rows.sec (inp a5) 1024 (by decide)) (Rows.sec (inp a5) 2048 (by decide))

/-- The layer's rows after the mixing, of ten arrays. -/
def Gx : Vec Ideal S8x2048x1024 .f32 := fun i =>
  Rows.merge (fun j => a0 (ix3 (i 0) (i 1) j)) (xn a0 a4 (i 0) (i 1)) (Rows.conv (lifted a0 a4 a5 (i 0)) (fun t j => a6 (ix3 0 t j)) (i 1)) (fun j => a1 (ix3 (i 0) (i 1) j))
    (Rows.sec (inp a5) 0 (by decide)) (Rows.sec (inp a5) 8224 (by decide)) (Rows.sec (inp a5) 9248 (by decide)) (Rows.sec (inp a5) 11296 (by decide))
    (fun k j => a7 (ix3 0 k j)) (fun k j => a8 (ix3 0 k j)) (fun k j => a9 (ix3 0 k j)) (fun k j => a2 (ix3 (i 0) k j)) (fun k j => a3 (ix3 (i 0) k j)) (i 2)

/-- The last two rows of each sequence's convolution input. -/
def Gc : Vec Ideal S8x2x1024 .f32 := fun i => lifted a0 a4 a5 (i 0) ⟨2046 + (i 1).val, by have h : (i 1).val < 2 := (i 1).isLt; omega⟩ (i 2)

end

/-- The rows after the mixing, of the run's arguments. -/
abbrev Gxm (c : Dev nD) : Buf (Elt Ideal) ((c : Thread nD τ).loc main_v19_0) :=
  Gx (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9))

/-- The convolution's last input rows, of the run's arguments. -/
abbrev Gcm (c : Dev nD) : Buf (Elt Ideal) ((c : Thread nD τ).loc main_v19_1) :=
  Gc (m ((c : Thread nD τ).loc main_arg0)) (m ((c : Thread nD τ).loc main_arg4)) (m ((c : Thread nD τ).loc main_arg5))

/-- The convolution's input of the run's arguments. -/
abbrev lm (c : Dev nD) (b : Fin 8) (s : Fin 2048) : Fin 1024 → EReal :=
  lifted (m ((c : Thread nD τ).loc main_arg0)) (m ((c : Thread nD τ).loc main_arg4)) (m ((c : Thread nD τ).loc main_arg5)) b s

/-- A block's row is its position's row. -/
theorem row_eq (c : Dev nD) (t : Fin cfg0.N) (r : Fin 256) :
    row (iblk m c 0 t) r = fun k => (m ((c : Thread nD τ).loc main_arg0) : Vec Ideal S8x2048x1024 .f32) (ix3 (bat t) (pos t r) k) :=
  funext fun k => blk0_apply m c t r k

/-- A block's normalized row is its position's. -/
theorem nrow_eq (c : Dev nD) (t : Fin cfg0.N) (r : Fin 256) :
    nrow (iblk m c 0 t) (iblk m c 4 t) r = xn (m ((c : Thread nD τ).loc main_arg0)) (m ((c : Thread nD τ).loc main_arg4)) (bat t) (pos t r) := by
  have h4 : (fun k => (iblk m c 4 t : Vec Ideal S1x1024 .f32) (ix2 0 k)) = _ := funext fun k => blk4_apply m c t k
  unfold nrow
  rw [row_eq, h4]

/-- The first branch's matrices in the window are parts of the input projection. -/
theorem part5_eq (c : Dev nD) (t : Fin cfg0.N) (o : ℕ) (h : o + 1024 ≤ 3072) :
    part (iblk m c 5 t) o h = Rows.sec (inp (m ((c : Thread nD τ).loc main_arg5))) o (by omega) :=
  funext fun k => funext fun j => blk5_apply m c t k _

/-- The first gate's matrix in the window. -/
theorem part7_lo (c : Dev nD) (t : Fin cfg0.N) :
    part (iblk m c 7 t) 0 (by decide) = Rows.sec (inp (m ((c : Thread nD τ).loc main_arg5))) 9248 (by decide) :=
  funext fun k => funext fun j => (blk7_apply m c t k _).trans ((pair_lo _ k j).trans (gates_apply _ k _))

/-- The second gate's matrix in the window. -/
theorem part7_hi (c : Dev nD) (t : Fin cfg0.N) :
    part (iblk m c 7 t) 1024 (by decide) = Rows.sec (inp (m ((c : Thread nD τ).loc main_arg5))) 11296 (by decide) :=
  funext fun k => funext fun j => (blk7_apply m c t k _).trans ((pair_hi _ k j).trans ((gates_apply _ k _).trans
    (congrArg (fun z => (m ((c : Thread nD τ).loc main_arg5) : Vec Ideal S1x1024x12320 .f32) (ix3 0 k z)) (Fin.ext (by
      show 9248 + (2048 + j.val) = 11296 + j.val
      omega)))))

/-- A block's convolution input is its position's. -/
theorem urow_eq (c : Dev nD) (t : Fin cfg0.N) (r : Fin 256) : urow (iblk m c 0 t) (iblk m c 4 t) (iblk m c 5 t) r = lm m c (bat t) (pos t r) := by
  unfold urow
  rw [nrow_eq, part5_eq, part5_eq]

/-- In the first block of a sequence, the rows before the sequence are zero. -/
theorem back_first (c : Dev nD) (t : Fin cfg0.N) (h0 : t.val % 8 = 0) (r : Fin 256) (d : ℕ) (hd : d ≤ 8) :
    back (urow (iblk m c 0 t) (iblk m c 4 t) (iblk m c 5 t)) (fun s j => (k0_pay3 (F := Ideal)) (ix2 s j)) r d hd = Rows.past (lm m c (bat t)) (pos t r) d := by
  funext l
  by_cases h : r.val < d
  · refine (back_lt _ _ _ _ _ _ h).trans ((pay3_apply _ _).trans (if_neg ?_).symm)
    show ¬d ≤ t.val % 8 * 256 + r.val
    omega
  · refine (back_ge _ _ _ _ _ _ h).trans ((congrFun (urow_eq m c t _) l).trans (Eq.trans ?_ (if_pos ?_).symm))
    · refine congrArg (fun z => lm m c (bat t) z l) (Fin.ext ?_)
      show t.val % 8 * 256 + (r.val - d) = t.val % 8 * 256 + r.val - d
      omega
    · show d ≤ t.val % 8 * 256 + r.val
      omega

/-- In every other block the rows before it are the last rows of the block before. -/
theorem back_next (c : Dev nD) (t u : Fin cfg0.N) (h0 : ¬t.val % 8 = 0) (hu : u.val = t.val - 1) (r : Fin 256) (d : ℕ) (hd : d ≤ 8) :
    back (urow (iblk m c 0 t) (iblk m c 4 t) (iblk m c 5 t)) (fun s j => carryAt m c u (ix2 s j)) r d hd = Rows.past (lm m c (bat t)) (pos t r) d := by
  funext l
  have hp : d ≤ (pos t r).val := by
    show d ≤ t.val % 8 * 256 + r.val
    omega
  by_cases h : r.val < d
  · refine (back_lt _ _ _ _ _ _ h).trans ((carry_apply _ _ _ _ _).trans ((congrFun (urow_eq m c u _) l).trans (Eq.trans ?_ (if_pos hp).symm)))
    have hb : bat u = bat t := Fin.ext (by
      show u.val / 8 = t.val / 8
      omega)
    rw [hb]
    refine congrArg (fun z => lm m c (bat t) z l) (Fin.ext ?_)
    show u.val % 8 * 256 + (248 + (8 + r.val - d)) = t.val % 8 * 256 + r.val - d
    omega
  · refine (back_ge _ _ _ _ _ _ h).trans ((congrFun (urow_eq m c t _) l).trans (Eq.trans ?_ (if_pos hp).symm))
    refine congrArg (fun z => lm m c (bat t) z l) (Fin.ext ?_)
    show t.val % 8 * 256 + (r.val - d) = t.val % 8 * 256 + r.val - d
    omega

/-- A point's stored block is its part of the rows after the mixing, when the rows carried to it are the right ones. -/
theorem tile_eq (c : Dev nD) (t : Fin cfg0.N) (p : Vec Ideal S8x1024 .f32) (r : Fin 256) (q : Fin 1024)
    (hp : ∀ (d : ℕ) (hd : d ≤ 8), back (urow (iblk m c 0 t) (iblk m c 4 t) (iblk m c 5 t)) (fun s j => p (ix2 s j)) r d hd = Rows.past (lm m c (bat t)) (pos t r) d) :
    tileAt m c t p (ix3 0 r q) = Gxm m c (ix3 (bat t) (pos t r) q) := by
  unfold tileAt
  rw [tile_apply, hp, hp, urow_eq, nrow_eq, row_eq, part5_eq, part7_lo, part7_hi]
  have h1 : row (iblk m c 1 t) r = _ := funext fun k => blk1_apply m c t r k
  have h2 : (fun k j => (iblk m c 2 t : Vec Ideal S1x256x1024 .bf16) (ix3 0 k j)) = _ := funext fun k => funext fun j => blk2_apply m c t k j
  have h3 : (fun k j => (iblk m c 3 t : Vec Ideal S1x256x1024 .bf16) (ix3 0 k j)) = _ := funext fun k => funext fun j => blk3_apply m c t k j
  have h6 : mat (iblk m c 6 t) = _ := funext fun k => funext fun j => blk6_apply m c t k j
  have h8 : (fun k j => (iblk m c 8 t : Vec Ideal S3x1024 .f32) (ix2 k j)) = _ := funext fun k => funext fun j => blk8_apply m c t k j
  have h9 : mat (iblk m c 9 t) = _ := funext fun k => funext fun j => blk9_apply m c t k j
  have h10 : mat (iblk m c 10 t) = _ := funext fun k => funext fun j => blk10_apply m c t k j
  have h11 : mat (iblk m c 11 t) = _ := funext fun k => funext fun j => blk11_apply m c t k j
  rw [h1, h2, h3, h6, h8, h9, h10, h11]
  rfl

/-- The rows after the mixing, at the end of the run. -/
theorem final12 (c : Dev nD) : (dats m 0 c).arrAt 12 cfg0.N = Gxm m c := by
  refine (dats m 0 c).arrAt_eq_of_covers 12 _ (by decide +kernel) fun t hf y => ?_
  have e12 := (idx_facts t).2.2.2.2.2.2.2.2.2.2.2.2.1
  blk_simp
  rw [after0_12]
  idx_vars y
  obtain rfl : y0 = 0 := Subsingleton.elim _ _
  have hE : (win0_12.blk t).view.emb (ix3 0 y1 y2) = ix3 (bat t) (pos t y1) y2 := by blk_ext [e12]
  refine Eq.trans ?_ (congrArg (Gxm m c) hE).symm
  by_cases h0 : t.val % 8 = 0
  · rw [block_first m c t h0]
    exact tile_eq m c t _ y1 y2 fun d hd => back_first m c t h0 y1 d hd
  · rw [block_next m c t h0]
    have hs := scratch_eq m c ⟨t.val - 1, lt_of_le_of_lt (Nat.sub_le _ _) t.isLt⟩
    rw [hs]
    exact tile_eq m c t _ y1 y2 fun d hd => back_next m c t _ h0 rfl y1 d hd

/-- The convolution's last input rows, at the end of the run. -/
theorem final13 (c : Dev nD) : (dats m 0 c).arrAt 13 cfg0.N = Gcm m c := by
  refine (dats m 0 c).arrAt_eq_of_covers 13 _ (by decide +kernel) fun t hf y => ?_
  have e13 := (idx_facts t).2.2.2.2.2.2.2.2.2.2.2.2.2
  have h7 : t.val % 8 = 7 := (by decide +kernel : ∀ t : Fin grid0.N, win0_13.flush t = true → t.val % 8 = 7) t hf
  blk_simp
  rw [after0_13, state_last m c t h7]
  idx_vars y
  obtain rfl : y0 = 0 := Subsingleton.elim _ _
  have hE : (win0_13.blk t).view.emb (ix3 0 y1 y2) = ix3 (bat t) y1 y2 := by blk_ext [e13]
  refine Eq.trans ?_ (congrArg (Gcm m c) hE).symm
  refine (pay2_apply _ _ _).trans ((carry_apply _ _ _ _ _).trans ((congrFun (urow_eq m c t _) y2).trans ?_))
  refine congrArg (fun z => lm m c (bat t) z y2) (Fin.ext ?_)
  show t.val % 8 * 256 + (248 + (6 + y1.val)) = 2046 + y1.val
  omega

end Cert.MixIdeal.Rd

end
-- ==== Proof.MixRef.lean ====
/-
  The mixing reference's results, read at an index as the layer's row functions.
-/
module

public import proofs.«01_k».proof.Proof.Gen.PlainMixIdeal.Read
public import proofs.«01_k».proof.Proof.MixRows
public import Idealize.ShloMosaic.Lib.Pointwise

@[expose] public section

set_option maxRecDepth 16384

noncomputable section

namespace Cert.PlainMixIdeal.Rd

open Cert.PlainMixIdeal Cert.PlainMixIdeal.Gen Cert.PlainMixIdeal.Read Idealize.ShloMosaic Cert

variable (x0 x1 : Vec Ideal S8x2048x1024 .f32) (x2 x3 : Vec Ideal S8x256x1024 .bf16) (x4 : Vec Ideal S1x1024 .f32)
  (x5 : Vec Ideal S1x1024x12320 .f32) (x6 : Vec Ideal S1x3x1024 .f32) (x7 x8 x9 : Vec Ideal S1x1024x1024 .f32)

/-- The normalized rows. -/
theorem v13_apply (b : Fin 8) (s : Fin 2048) (q : Fin 1024) :
    val_main_v13 (F := Ideal) x0 x4 (ix3 b s q) = Rows.rms (fun k => x0 (ix3 b s k)) (fun k => x4 (ix2 0 k)) q := by
  unfold Rows.rms Rows.eps Rows.width
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The normalized rows times the input projection. -/
theorem v15_apply (b : Fin 8) (s : Fin 2048) (q : Fin 12320) :
    val_main_v15 (F := Ideal) x0 x4 x5 (ix3 b s q)
      = Rows.mm (Rows.rms (fun k => x0 (ix3 b s k)) (fun k => x4 (ix2 0 k))) (fun k j => x5 (ix3 0 k j)) q := by
  unfold Rows.mm
  simp only [← v13_apply]
  pointwise [val_main_v15, val_main_v14]

/-- A row's normalized features. -/
abbrev xn (b : Fin 8) (s : Fin 2048) : Fin 1024 → EReal := Rows.rms (fun k => x0 (ix3 b s k)) (fun k => x4 (ix2 0 k))

/-- The input projection as a matrix. -/
abbrev win : Fin 1024 → Fin 12320 → EReal := fun k j => x5 (ix3 0 k j)

/-- The convolution's input at a row. -/
abbrev lifted (b : Fin 8) (s : Fin 2048) : Fin 1024 → EReal :=
  Rows.lift (xn x0 x4 b s) (Rows.sec (win x5) 1024 (by decide)) (Rows.sec (win x5) 2048 (by decide))

/-- A section's entry of the projected rows. -/
theorem sec_apply (b : Fin 8) (s : Fin 2048) (q : Fin 1024) (o : ℕ) (ho : o + 1024 ≤ 12320) (hq : o + q.val < 12320) :
    val_main_v15 (F := Ideal) x0 x4 x5 (ix3 b s ⟨o + q.val, hq⟩) = Rows.mm (xn x0 x4 b s) (Rows.sec (win x5) o ho) q :=
  v15_apply x0 x4 x5 b s _

/-- The convolution's input. -/
theorem v24_apply (b : Fin 8) (s : Fin 2048) (q : Fin 1024) : val_main_v24 (F := Ideal) x0 x4 x5 (ix3 b s q) = lifted x0 x4 x5 b s q := by
  unfold val_main_v24 val_main_v17 val_main_v18 lifted Rows.lift
  rw [← sec_apply x0 x4 x5 b s q 1024 (by decide) (by omega), ← sec_apply x0 x4 x5 b s q 2048 (by decide) (by omega)]
  generalize val_main_v15 (F := Ideal) x0 x4 x5 = y
  pointwise

/-- The causal convolution. -/
theorem v47_apply (b : Fin 8) (s : Fin 2048) (q : Fin 1024) :
    val_main_v47 (F := Ideal) x0 x4 x5 x6 (ix3 b s q) = Rows.conv (lifted x0 x4 x5 b) (fun t j => x6 (ix3 0 t j)) s q := by
  unfold Rows.conv Rows.taps Rows.past
  simp only [← v24_apply]
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_cst_2]
  refine congrArg₂ (· + ·) (congrArg₂ (· + ·) (congrArg (· * _) ?_) (congrArg (· * _) ?_)) rfl
  · by_cases h : s.val < 2
    · exact (dif_pos h).trans (if_neg (by omega)).symm
    · refine (dif_neg h).trans ?_
      exact (if_pos (by omega)).symm
  · by_cases h : s.val < 1
    · exact (dif_pos (by omega)).trans (if_neg (by omega)).symm
    · refine (dif_neg (by omega)).trans ?_
      refine Eq.trans (congrArg (fun z => val_main_v24 (F := Ideal) x0 x4 x5 (ix3 b z q)) (Fin.ext ?_)) (if_pos (by omega)).symm
      show 1 + s.val - 2 = s.val - 1
      omega

/-- The last two rows of the convolution's input. -/
theorem v48_apply (b : Fin 8) (r : Fin 2) (q : Fin 1024) :
    val_main_v48 (F := Ideal) x0 x4 x5 (ix3 b r q) = lifted x0 x4 x5 b ⟨2046 + r.val, by omega⟩ q := by
  rw [← v24_apply]
  pointwise [val_main_v48, val_main_v27, val_main_v25, val_main_cst_2]
  rw [dif_neg (by omega)]
  refine congrArg (fun z => val_main_v24 (F := Ideal) x0 x4 x5 (ix3 b z q)) (Fin.ext ?_)
  show 2048 + r.val - 2 = 2046 + r.val
  omega

/-- The scaled scores. -/
theorem v59_apply (b : Fin 8) (h : Fin 4) (s : Fin 2048) (k : Fin 256) :
    val_main_v59 (F := Ideal) x0 x2 x4 x5 (ix4 b h s k)
      = Rows.logits (fun d => Rows.mm (xn x0 x4 b s) (Rows.sec (win x5) 8224 (by decide)) (Rows.col h d)) (fun k d => x2 (ix3 b k (Rows.col h d))) k := by
  unfold Rows.logits Rows.scale
  have e : ∀ d : Fin 256, Rows.mm (xn x0 x4 b s) (Rows.sec (win x5) 8224 (by decide)) (Rows.col h d) = val_main_v15 (F := Ideal) x0 x4 x5 (ix3 b s ⟨8224 + (Rows.col h d).val, by omega⟩) :=
    fun d => (sec_apply x0 x4 x5 b s (Rows.col h d) 8224 (by decide) (by omega)).symm
  simp only [e]
  pointwise [val_main_v59, val_main_v58, val_main_v57, val_main_v56, val_main_v53, val_main_v52, val_main_v22, val_main_cst_3]
  refine congrArg (· * _) (Finset.sum_congr rfl fun d _ => ?_)
  refine congrArg₂ (· * ·) (congrArg (fun z => val_main_v15 (F := Ideal) x0 x4 x5 (ix3 b s z)) (Fin.ext ?_)) (congrArg (fun z => x2 (ix3 b k z)) (Fin.ext ?_))
  · show 8224 + (h.val * 256 + d.val) = 8224 + (256 * h.val + d.val)
    omega
  · show h.val * 256 + d.val = 256 * h.val + d.val
    omega

/-- A row maximum of a four-axis array. -/
theorem max_row (y : FVec Ideal S8x4x2048x256 .f32) (z : FVec Ideal S_ .f32) (b : Fin 8) (h : Fin 4) (s : Fin 2048) :
    Host.reduce FloatOps.maximumf y z reducesTo_S8x4x2048x256_S8x4x2048_d3 h_S_ (ix3 b h s) = Finset.fold max (z (Shape.Idx.first h_S_)) (fun k => y (ix4 b h s k)) Finset.univ := by
  have hR : S8x4x2048x256.Reduces [3] S8x4x2048 := by decide
  refine (Host.reduce_eq_fold_single FloatOps.maximumf y z reducesTo_S8x4x2048x256_S8x4x2048_d3 hR h_S_ (ix3 b h s)).trans ?_
  have e : (y ∘ hR.lift (ix3 b h s)) = fun k => y (ix4 b h s k) := funext fun k => congrArg y (funext fun a => Fin.ext (by
    rw [Shape.Reduces.lift_val]
    match a with
    | ⟨0, _⟩ => rfl
    | ⟨1, _⟩ => rfl
    | ⟨2, _⟩ => rfl
    | ⟨3, _⟩ => rfl))
  rw [e]
  rfl

/-- The row maximum's starting value. -/
theorem cst_4_apply (i : S_.Idx) : val_main_cst_4 (F := Ideal) i = Rows.low := by
  unfold Rows.low
  pointwise [val_main_cst_4]

/-- The reference's row maximum of the scores. -/
theorem v60_apply (b : Fin 8) (h : Fin 4) (s : Fin 2048) :
    val_main_v60 (F := Ideal) x0 x2 x4 x5 (ix3 b h s) = Rows.peak fun k => val_main_v59 (F := Ideal) x0 x2 x4 x5 (ix4 b h s k) := by
  unfold val_main_v60 Rows.peak
  generalize val_main_v59 (F := Ideal) x0 x2 x4 x5 = y
  rw [max_row, cst_4_apply]

/-- A running maximum is at least its starting value. -/
theorem low_le {n : ℕ} (f : Fin n → EReal) : Rows.low ≤ Rows.peak f := (Finset.le_fold_max _).mpr (.inl le_rfl)

/-- The second maximum's constant is the starting value too. -/
theorem cst_5_apply (i : S_.Idx) : val_main_cst_5 (F := Ideal) i = Rows.low := by
  unfold Rows.low
  pointwise [val_main_cst_5]

/-- The maximum with the starting value once more. -/
theorem v62_max (b : Fin 8) (h : Fin 4) (s : Fin 2048) :
    val_main_v62 (F := Ideal) x0 x2 x4 x5 (ix3 b h s) = max Rows.low (val_main_v60 (F := Ideal) x0 x2 x4 x5 (ix3 b h s)) := by
  rw [val_main_v62_apply, val_main_v61_apply, cst_5_apply]
  generalize val_main_v60 (F := Ideal) x0 x2 x4 x5 (ix3 b h s) = z
  generalize Rows.low = y
  rfl

/-- The scores' row maximum. -/
theorem v62_apply (b : Fin 8) (h : Fin 4) (s : Fin 2048) :
    val_main_v62 (F := Ideal) x0 x2 x4 x5 (ix3 b h s) = Rows.peak fun k => val_main_v59 (F := Ideal) x0 x2 x4 x5 (ix4 b h s k) := by
  rw [v62_max, v60_apply]
  exact max_eq_right (low_le _)

/-- The exponentials. -/
theorem v66_apply (b : Fin 8) (h : Fin 4) (s : Fin 2048) (k : Fin 256) :
    val_main_v66 (F := Ideal) x0 x2 x4 x5 (ix4 b h s k)
      = Ideal.exp (val_main_v59 (F := Ideal) x0 x2 x4 x5 (ix4 b h s k) - Rows.peak fun k => val_main_v59 (F := Ideal) x0 x2 x4 x5 (ix4 b h s k)) := by
  rw [← v62_apply]
  unfold val_main_v66 val_main_v65 val_main_v64 val_main_v63
  generalize val_main_v59 (F := Ideal) x0 x2 x4 x5 = y
  generalize val_main_v62 (F := Ideal) x0 x2 x4 x5 = z
  pointwise

/-- The softmax. -/
theorem v70_apply (b : Fin 8) (h : Fin 4) (s : Fin 2048) (k : Fin 256) :
    val_main_v70 (F := Ideal) x0 x2 x4 x5 (ix4 b h s k) = Rows.weight (fun k => val_main_v59 (F := Ideal) x0 x2 x4 x5 (ix4 b h s k)) k := by
  have e : val_main_v70 (F := Ideal) x0 x2 x4 x5 (ix4 b h s k)
      = Ideal.div (val_main_v66 (F := Ideal) x0 x2 x4 x5 (ix4 b h s k)) (∑ k', val_main_v66 (F := Ideal) x0 x2 x4 x5 (ix4 b h s k')) := by
    unfold val_main_v70 val_main_v69 val_main_v68 val_main_v67
    generalize val_main_v66 (F := Ideal) x0 x2 x4 x5 = y
    pointwise [val_main_cst_6]
  rw [e]
  simp only [v66_apply]
  rfl

/-- The attention. -/
theorem v73_apply (b : Fin 8) (s : Fin 2048) (q : Fin 1024) :
    val_main_v73 (F := Ideal) x0 x2 x3 x4 x5 (ix3 b s q)
      = Rows.att (Rows.mm (xn x0 x4 b s) (Rows.sec (win x5) 8224 (by decide))) (fun k j => x2 (ix3 b k j)) (fun k j => x3 (ix3 b k j)) q := by
  unfold Rows.att Rows.head
  have e : (Rows.logits (fun d => Rows.mm (xn x0 x4 b s) (Rows.sec (win x5) 8224 (by decide)) (Rows.col (Rows.hd q) d)) (fun k d => x2 (ix3 b k (Rows.col (Rows.hd q) d))))
      = fun k => val_main_v59 (F := Ideal) x0 x2 x4 x5 (ix4 b (Rows.hd q) s k) := funext fun k => (v59_apply x0 x2 x4 x5 b _ s k).symm
  simp only [e, ← v70_apply]
  unfold val_main_v73 val_main_v72 val_main_v71
  generalize val_main_v70 (F := Ideal) x0 x2 x4 x5 = y
  have hq : Rows.col (Rows.hd q) (Rows.lane q) = q := Fin.ext (by show 256 * (q.val / 256) + q.val % 256 = q.val; omega)
  rw [hq]
  pointwise [val_main_v55, val_main_v54]
  exact Finset.sum_congr rfl fun k _ => mul_comm _ _

/-- The layer's rows after the mixing. -/
theorem v91_apply (b : Fin 8) (s : Fin 2048) (q : Fin 1024) :
    val_main_v91 (F := Ideal) x0 x1 x2 x3 x4 x5 x6 x7 x8 x9 (ix3 b s q)
      = Rows.merge (fun j => x0 (ix3 b s j)) (xn x0 x4 b s) (Rows.conv (lifted x0 x4 x5 b) (fun t j => x6 (ix3 0 t j)) s) (fun j => x1 (ix3 b s j))
          (Rows.sec (win x5) 0 (by decide)) (Rows.sec (win x5) 8224 (by decide)) (Rows.sec (win x5) 9248 (by decide)) (Rows.sec (win x5) 11296 (by decide))
          (fun k j => x7 (ix3 0 k j)) (fun k j => x8 (ix3 0 k j)) (fun k j => x9 (ix3 0 k j)) (fun k j => x2 (ix3 b k j)) (fun k j => x3 (ix3 b k j)) q := by
  unfold Rows.merge
  have e73 : Rows.att (Rows.mm (xn x0 x4 b s) (Rows.sec (win x5) 8224 (by decide))) (fun k j => x2 (ix3 b k j)) (fun k j => x3 (ix3 b k j))
      = fun q => val_main_v73 (F := Ideal) x0 x2 x3 x4 x5 (ix3 b s q) := funext fun q => (v73_apply x0 x2 x3 x4 x5 b s q).symm
  have e11296 : ∀ i : Fin 1024, Rows.mm (xn x0 x4 b s) (Rows.sec (win x5) 11296 (by decide)) i
      = val_main_v15 (F := Ideal) x0 x4 x5 (ix3 b s ⟨9248 + (2048 + i.val), by omega⟩) := fun i =>
    (sec_apply x0 x4 x5 b s i 11296 (by decide) (by omega)).symm.trans
      (congrArg (fun z => val_main_v15 (F := Ideal) x0 x4 x5 (ix3 b s z)) (Fin.ext (by show 11296 + i.val = 9248 + (2048 + i.val); omega)))
  have e : ∀ (o : ℕ) (ho : o + 1024 ≤ 12320) (i : Fin 1024), Rows.mm (xn x0 x4 b s) (Rows.sec (win x5) o ho) i = val_main_v15 (F := Ideal) x0 x4 x5 (ix3 b s ⟨o + i.val, by omega⟩) :=
    fun o ho i => (sec_apply x0 x4 x5 b s i o ho (by omega)).symm
  rw [e73]
  simp only [← v47_apply, e11296]
  simp only [e]
  unfold Rows.mm Ideal.logistic
  pointwise [val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v51, val_main_v50, val_main_v49, val_main_v23, val_main_v16, val_main_cst_7, val_main_cst_8]

end Cert.PlainMixIdeal.Rd

end
-- ==== Proof.MixClaim.lean ====
/-
  The mixing kernel's claims: the runs leave their arguments as they were, the ideal program is the kernel's own, and the
  kernel's two results over the extended reals are the reference's.
-/
module

public import proofs.«01_k».proof.Defs
public import proofs.«01_k».proof.Proof.Gen.Mix.Frame
public import proofs.«01_k».proof.Proof.Gen.PlainMixIdeal.Run
public import proofs.«01_k».proof.Proof.MixValue
public import proofs.«01_k».proof.Proof.MixRef
public import Idealize.ShloMosaic.Lib.Quiescent

@[expose] public section

set_option maxRecDepth 16384

noncomputable section

namespace Cert.MixClaim

open Idealize.ShloMosaic Idealize.ShloMosaic.TcCoe Idealize.SL.Sem

/-- The kernel's program runs and leaves its arguments as they were. -/
theorem frame_k : Cert.quiescent_Mix := fun m ρ _ => Cert.Mix.Gen.frame m ρ
/-- So does its ideal program. -/
theorem frame_i : Cert.quiescent_MixIdeal := fun m ρ _ => Cert.MixIdeal.Gen.frame m ρ
/-- So does the reference. -/
theorem frame_r : Cert.quiescent_PlainMixIdeal := fun m ρ _ =>
  (θ_run Cert.PlainMixIdeal.defs _ _).mono (fun r h => ⟨fun c => (h c).2.2, sem_eq_zero_of_no_sems (by decide) r.2⟩)
    (Cert.PlainMixIdeal.Value.run (F := Ideal) m ρ)
/-- The ideal program is the kernel's own: no operation was replaced. -/
theorem preserves : Cert.preserves_Mix_MixIdeal := trivial

section
variable (x0 : Vec Ideal Cert.PlainMixIdeal.S8x2048x1024 .f32)
  (x1 : Vec Ideal Cert.PlainMixIdeal.S8x2048x1024 .f32)
  (x2 : Vec Ideal Cert.PlainMixIdeal.S8x256x1024 .bf16)
  (x3 : Vec Ideal Cert.PlainMixIdeal.S8x256x1024 .bf16)
  (x4 : Vec Ideal Cert.PlainMixIdeal.S1x1024 .f32)
  (x5 : Vec Ideal Cert.PlainMixIdeal.S1x1024x12320 .f32)
  (x6 : Vec Ideal Cert.PlainMixIdeal.S1x3x1024 .f32)
  (x7 : Vec Ideal Cert.PlainMixIdeal.S1x1024x1024 .f32)
  (x8 : Vec Ideal Cert.PlainMixIdeal.S1x1024x1024 .f32)
  (x9 : Vec Ideal Cert.PlainMixIdeal.S1x1024x1024 .f32)

/-- The reference's rows after the mixing are the function `Cert.MixIdeal.Rd.Gx` of the arguments. -/
theorem ref_rows : Cert.PlainMixIdeal.Read.val_main_v91 (F := Ideal) x0 x1 x2 x3 x4 x5 x6 x7 x8 x9 = Cert.MixIdeal.Rd.Gx x0 x1 x2 x3 x4 x5 x6 x7 x8 x9 := by
  funext i
  idx_vars i
  exact Cert.PlainMixIdeal.Rd.v91_apply x0 x1 x2 x3 x4 x5 x6 x7 x8 x9 i0 i1 i2

/-- The reference's last rows of the convolution's input likewise. -/
theorem ref_state : Cert.PlainMixIdeal.Read.val_main_v48 (F := Ideal) x0 x4 x5 = Cert.MixIdeal.Rd.Gc x0 x4 x5 := by
  funext i
  idx_vars i
  exact Cert.PlainMixIdeal.Rd.v48_apply x0 x4 x5 i0 i1 i2
end

/-- Over the extended reals the kernel and the reference compute the same two arrays of arguments that agree. -/
theorem algebraic : Cert.algebraic_MixIdeal_PlainMixIdeal := by
  intro m ρ m' ρ' _ hag
  refine ⟨fun c => Cert.MixIdeal.Rd.Gxm m c, fun c => Cert.MixIdeal.Rd.Gcm m c, ?_, ?_⟩
  · exact (θ_run Cert.MixIdeal.defs _ _).mono (fun _ h c => ⟨(h c).1.trans (Cert.MixIdeal.Rd.final12 m c),
        (h c).2.1.trans (Cert.MixIdeal.Rd.final13 m c), (h c).2.2⟩)
      (Cert.MixIdeal.Value.run_blocks (F := Ideal) m ρ)
  · refine (θ_run Cert.PlainMixIdeal.defs _ _).mono (fun _ h c => ⟨(h c).1.trans ?_, (h c).2.1.trans ?_, (h c).2.2⟩)
      (Cert.PlainMixIdeal.Value.run (F := Ideal) m' ρ')
    all_goals obtain ⟨h0, h1, h2, h3, h4, h5, h6, h7, h8, h9⟩ := hag c
    · rw [Cert.PlainMixIdeal.Read.val_main_v91_eq, h0, h1, h2, h3, h4, h5, h6, h7, h8, h9]
      exact ref_rows _ _ _ _ _ _ _ _ _ _
    · rw [h0, h4, h5]
      exact ref_state _ _ _

end Cert.MixClaim

end
-- ==== Proof.FfnKernel.lean ====
/-
  The feed-forward kernel's payload of one block, read at an index: the row function `Rows.ffnOut` of the block's row.
-/
module

public import proofs.«01_k».proof.Proof.Gen.FfnIdeal.Value
public import proofs.«01_k».proof.Proof.Rows
public import Idealize.ShloMosaic.Lib.Pointwise

@[expose] public section

set_option maxRecDepth 16384

noncomputable section

namespace Cert.FfnIdeal.Rd

open Cert.FfnIdeal Cert.FfnIdeal.Gen Idealize.ShloMosaic Cert

/-- The block's rows after the feed-forward network, at row `r` and feature `q`. -/
theorem pay3_apply (P0 : Vec Ideal S1x512x1024 .f32) (P1 : Vec Ideal S1x1024 .f32) (P2 : Vec Ideal S1024x2816 .bf16)
    (P3 : Vec Ideal S1024x2816 .bf16) (P4 : Vec Ideal S2816x1024 .bf16) (r : Fin 512) (q : Fin 1024) :
    k0_pay3 (F := Ideal) P0 P1 P2 P3 P4 (ix2 r q)
      = P0 (ix3 0 r q) + Rows.ffn (fun k => P0 (ix3 0 r k)) (fun k => P1 (ix2 0 k)) (fun k j => P2 (ix2 k j))
          (fun k j => P3 (ix2 k j)) (fun k j => P4 (ix2 k j)) q := by
  unfold Rows.ffn Rows.mm Rows.silu Rows.rms Rows.eps Rows.width
  pointwise [k0_pay3]

/-- The block that one grid point stores, at row `r` and feature `q`. -/
theorem pay1_apply (P0 : Vec Ideal S1x512x1024 .f32) (P1 : Vec Ideal S1x1024 .f32) (P2 : Vec Ideal S1024x2816 .bf16)
    (P3 : Vec Ideal S1024x2816 .bf16) (P4 : Vec Ideal S2816x1024 .bf16) (P5 : Vec Ideal S1x1024 .f32) (r : Fin 512) (q : Fin 1024) :
    k0_pay1 (k0_pay2 P5) (k0_pay3 (F := Ideal) P0 P1 P2 P3 P4) (k0_pay4 P0 P1 P2 P3 P4) (k0_pay5 (F := Ideal)) (ix3 0 r q)
      = Rows.ffnOut (fun k => P0 (ix3 0 r k)) (fun k => P1 (ix2 0 k)) (fun k j => P2 (ix2 k j))
          (fun k j => P3 (ix2 k j)) (fun k j => P4 (ix2 k j)) (fun k => P5 (ix2 0 k)) q := by
  unfold Rows.ffnOut Rows.rms Rows.eps Rows.width

  pointwise [k0_pay1, k0_pay2, k0_pay4, k0_pay5]
  simp only [pay3_apply]

end Cert.FfnIdeal.Rd

end
-- ==== Proof.FfnValue.lean ====
/-
  The feed-forward kernel's result array at the end of a run: at batch `b`, position `s` and feature `q` it holds the row
  function `Rows.ffnOut` of the arguments' row `(b, s)`.
-/
module

public import proofs.«01_k».proof.Proof.FfnKernel
public import Idealize.ShloMosaic.Lib.Pipeline.ValueKit
public import Idealize.ShloMosaic.Lib.StableHlo.Run
public import Idealize.ShloMosaic.Lib.Claim

@[expose] public section

set_option maxRecDepth 16384

noncomputable section

namespace Cert.FfnIdeal.Rd

open Cert.FfnIdeal Cert.FfnIdeal.Gen Idealize.ShloMosaic Idealize.ShloMosaic.TcCoe Idealize.SL.Sem Cert
open Idealize.ShloMosaic.Pipeline (Dat)

/-- A stacked weight matrix, its unit axis dropped and its format changed, at an index. -/
theorem cast_apply (X : FVec Ideal S1x1024x2816 .f32) (k : Fin 1024) (j : Fin 2816) :
    (truncf .bf16 (shapeCast S1024x2816 X shapeCasts_S1x1024x2816_S1024x2816 : FVec Ideal S1024x2816 .f32) bitsLt_bf16_f32 : FVec Ideal S1024x2816 .bf16) (ix2 k j)
      = X (ix3 0 k j) := by
  pointwise

/-- The same for the projection's matrix. -/
theorem cast_down_apply (X : FVec Ideal S1x2816x1024 .f32) (k : Fin 2816) (j : Fin 1024) :
    (truncf .bf16 (shapeCast S2816x1024 X shapeCasts_S1x2816x1024_S2816x1024 : FVec Ideal S2816x1024 .f32) bitsLt_bf16_f32 : FVec Ideal S2816x1024 .bf16) (ix2 k j)
      = X (ix3 0 k j) := by
  pointwise

variable (m : (ℓ : Loc nD τ sig) → Buf (Elt Ideal) ℓ)

/-- The normalization weights as the kernel's window reads them: the argument's row. -/
theorem v7_apply (c : Dev nD) (k : Fin 1024) :
    (V m c main_v7 : Vec Ideal S1x1024 .f32) (ix2 0 k) = (m ((c : Thread nD τ).loc main_arg1) : Vec Ideal S1x1024 .f32) (ix2 0 k) := by
  have e : (V m c main_v7 : Vec Ideal S1x1024 .f32)
      = shapeCast S1x1024 (shapeCast S1024 (m ((c : Thread nD τ).loc main_arg1) : Vec Ideal S1x1024 .f32) shapeCasts_S1x1024_S1024) shapeCasts_S1024_S1x1024 := by
    unfold V; after_results; rfl
  refine (congrFun e _).trans ?_
  generalize m _ = x
  change Vec Ideal S1x1024 .f32 at x
  pointwise

/-- The last normalization's weights as the kernel's window reads them. -/
theorem v8_apply (c : Dev nD) (k : Fin 1024) :
    (V m c main_v8 : Vec Ideal S1x1024 .f32) (ix2 0 k) = (m ((c : Thread nD τ).loc main_arg5) : Vec Ideal S1024 .f32) (ix1 k) := by
  have e : (V m c main_v8 : Vec Ideal S1x1024 .f32)
      = shapeCast S1x1024 (m ((c : Thread nD τ).loc main_arg5) : Vec Ideal S1024 .f32) shapeCasts_S1024_S1x1024 := by
    unfold V; after_results; rfl
  refine (congrFun e _).trans ?_
  generalize m _ = x
  change Vec Ideal S1024 .f32 at x
  pointwise

/-- The gate's matrix as the kernel's window reads it. -/
theorem v1_apply (c : Dev nD) (k : Fin 1024) (j : Fin 2816) :
    (V m c main_v1 : Vec Ideal S1024x2816 .bf16) (ix2 k j) = (m ((c : Thread nD τ).loc main_arg2) : Vec Ideal S1x1024x2816 .f32) (ix3 0 k j) := by
  have e : (V m c main_v1 : Vec Ideal S1024x2816 .bf16)
      = (truncf .bf16 (shapeCast S1024x2816 (m ((c : Thread nD τ).loc main_arg2) : Vec Ideal S1x1024x2816 .f32) shapeCasts_S1x1024x2816_S1024x2816 : FVec Ideal S1024x2816 .f32) bitsLt_bf16_f32 : FVec Ideal S1024x2816 .bf16) := by
    unfold V; after_results; rfl
  exact (congrFun e _).trans (cast_apply _ k j)

/-- The lift's matrix as the kernel's window reads it. -/
theorem v3_apply (c : Dev nD) (k : Fin 1024) (j : Fin 2816) :
    (V m c main_v3 : Vec Ideal S1024x2816 .bf16) (ix2 k j) = (m ((c : Thread nD τ).loc main_arg3) : Vec Ideal S1x1024x2816 .f32) (ix3 0 k j) := by
  have e : (V m c main_v3 : Vec Ideal S1024x2816 .bf16)
      = (truncf .bf16 (shapeCast S1024x2816 (m ((c : Thread nD τ).loc main_arg3) : Vec Ideal S1x1024x2816 .f32) shapeCasts_S1x1024x2816_S1024x2816 : FVec Ideal S1024x2816 .f32) bitsLt_bf16_f32 : FVec Ideal S1024x2816 .bf16) := by
    unfold V; after_results; rfl
  exact (congrFun e _).trans (cast_apply _ k j)

/-- The projection's matrix as the kernel's window reads it. -/
theorem v5_apply (c : Dev nD) (k : Fin 2816) (j : Fin 1024) :
    (V m c main_v5 : Vec Ideal S2816x1024 .bf16) (ix2 k j) = (m ((c : Thread nD τ).loc main_arg4) : Vec Ideal S1x2816x1024 .f32) (ix3 0 k j) := by
  have e : (V m c main_v5 : Vec Ideal S2816x1024 .bf16)
      = (truncf .bf16 (shapeCast S2816x1024 (m ((c : Thread nD τ).loc main_arg4) : Vec Ideal S1x2816x1024 .f32) shapeCasts_S1x2816x1024_S2816x1024 : FVec Ideal S2816x1024 .f32) bitsLt_bf16_f32 : FVec Ideal S2816x1024 .bf16) := by
    unfold V; after_results; rfl
  exact (congrFun e _).trans (cast_down_apply _ k j)

/-- The layer's last stage of six arrays: every row's `Rows.ffnOut`. -/
def G (x : Vec Ideal S8x2048x1024 .f32) (w : Vec Ideal S1x1024 .f32) (wg wu : Vec Ideal S1x1024x2816 .f32)
    (wd : Vec Ideal S1x2816x1024 .f32) (wf : Vec Ideal S1024 .f32) : Vec Ideal S8x2048x1024 .f32 := fun i =>
  Rows.ffnOut (fun k => x (ix3 (i 0) (i 1) k)) (fun k => w (ix2 0 k)) (fun k j => wg (ix3 0 k j))
    (fun k j => wu (ix3 0 k j)) (fun k j => wd (ix3 0 k j)) (fun k => wf (ix1 k)) (i 2)

/-- `G` of the run's arguments. -/
abbrev Gm (c : Dev nD) : Buf (Elt Ideal) ((c : Thread nD τ).loc main_v9) :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The blocks' places: point `t` works on batch `t / 4` and positions `512 (t % 4) …`, and reads the weights whole. -/
theorem idx_facts : ∀ t : Fin cfg0.N, win0_0.index t = ![t.val / 4, t.val % 4, 0] ∧ win0_6.index t = ![t.val / 4, t.val % 4, 0]
    ∧ win0_1.index t = ![0, 0] ∧ win0_2.index t = ![0, 0] ∧ win0_3.index t = ![0, 0] ∧ win0_4.index t = ![0, 0] ∧ win0_5.index t = ![0, 0] :=
  (by decide +kernel : ∀ t : Fin grid0.N, _)

/-- The batch that grid point `t` works on. -/
abbrev bat (t : Fin cfg0.N) : Fin 8 := ⟨t.val / 4, by have h : t.val < 32 := t.isLt; omega⟩
/-- Row `r` of grid point `t`'s block, as a position of the sequence. -/
abbrev pos (t : Fin cfg0.N) (r : Fin 512) : Fin 2048 := ⟨t.val % 4 * 512 + r.val, by omega⟩

/-- The block of hidden rows at point `t`. -/
theorem blk0_apply (c : Dev nD) (t : Fin cfg0.N) (r : Fin 512) (k : Fin 1024) :
    (iblk m c 0 t : Vec Ideal S1x512x1024 .f32) (ix3 0 r k)
      = (m ((c : Thread nD τ).loc main_arg0) : Vec Ideal S8x2048x1024 .f32) (ix3 (bat t) (pos t r) k) := by
  have e0 := (idx_facts t).1
  blk_simp [iblk]
  rw [V_main_arg0]
  refine congrArg _ ?_
  blk_ext [e0]

/-- The result array after the run is `G` of the arguments. -/
theorem final (c : Dev nD) : (dats m 0 c).arrAt 6 cfg0.N = Gm m c := by
  refine (dats m 0 c).arrAt_eq_of_covers 6 _ (by decide +kernel) fun t hf y => ?_
  obtain ⟨e0, e6, e1, e2, e3, e4, e5⟩ := idx_facts t
  blk_simp
  rw [after0_6]
  frame_out
  idx_vars y
  obtain rfl : y0 = 0 := Subsingleton.elim _ _
  have hE : (win0_6.blk t).view.emb (ix3 0 y1 y2) = ix3 (bat t) (pos t y1) y2 := by blk_ext [e6]
  refine Eq.trans ?_ (congrArg (Gm m c) hE).symm
  refine (pay1_apply (iblk m c 0 t) (iblk m c 1 t) (iblk m c 2 t) (iblk m c 3 t) (iblk m c 4 t) (iblk m c 5 t) y1 y2).trans ?_
  show _ = Rows.ffnOut _ _ _ _ _ _ y2
  have h0 : (fun k => (iblk m c 0 t : Vec Ideal S1x512x1024 .f32) (ix3 0 y1 k)) = _ := funext fun k => blk0_apply m c t y1 k
  have h1 : (fun k => (iblk m c 1 t : Vec Ideal S1x1024 .f32) (ix2 0 k)) = _ := funext fun k => by
    refine Eq.trans ?_ (v7_apply m c k)
    blk_simp [iblk]
    refine congrArg _ ?_
    blk_ext [e1]
  have h5 : (fun k => (iblk m c 5 t : Vec Ideal S1x1024 .f32) (ix2 0 k)) = _ := funext fun k => by
    refine Eq.trans ?_ (v8_apply m c k)
    blk_simp [iblk]
    refine congrArg _ ?_
    blk_ext [e5]
  have h2 : (fun k j => (iblk m c 2 t : Vec Ideal S1024x2816 .bf16) (ix2 k j)) = _ := funext fun k => funext fun j => by
    refine Eq.trans ?_ (v1_apply m c k j)
    blk_simp [iblk]
    refine congrArg _ ?_
    blk_ext [e2]
  have h3 : (fun k j => (iblk m c 3 t : Vec Ideal S1024x2816 .bf16) (ix2 k j)) = _ := funext fun k => funext fun j => by
    refine Eq.trans ?_ (v3_apply m c k j)
    blk_simp [iblk]
    refine congrArg _ ?_
    blk_ext [e3]
  have h4 : (fun k j => (iblk m c 4 t : Vec Ideal S2816x1024 .bf16) (ix2 k j)) = _ := funext fun k => funext fun j => by
    refine Eq.trans ?_ (v5_apply m c k j)
    blk_simp [iblk]
    refine congrArg _ ?_
    blk_ext [e4]
  rw [h0, h1, h2, h3, h4, h5]
  rfl

end Cert.FfnIdeal.Rd

end
-- ==== Proof.FfnRef.lean ====
/-
  The feed-forward reference's result, read at an index: the row function `Rows.ffnOut` of the arguments' row.
-/
module

public import proofs.«01_k».proof.Proof.Gen.PlainFfnIdeal.Read
public import proofs.«01_k».proof.Proof.Rows
public import Idealize.ShloMosaic.Lib.Pointwise

@[expose] public section

set_option maxRecDepth 16384

noncomputable section

namespace Cert.PlainFfnIdeal.Rd

open Cert.PlainFfnIdeal Cert.PlainFfnIdeal.Read Idealize.ShloMosaic Cert

variable (x0 : Vec Ideal S8x2048x1024 .f32) (x1 : Vec Ideal S1x1024 .f32) (x2 x3 : Vec Ideal S1x1024x2816 .f32)
  (x4 : Vec Ideal S1x2816x1024 .f32) (x5 : Vec Ideal S1024 .f32)

/-- The normalized rows. -/
theorem v13_apply (b : Fin 8) (s : Fin 2048) (q : Fin 1024) :
    val_main_v13 (F := Ideal) x0 x1 (ix3 b s q) = Rows.rms (fun k => x0 (ix3 b s k)) (fun k => x1 (ix2 0 k)) q := by
  unfold Rows.rms Rows.eps Rows.width
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The rows after the feed-forward network. -/
theorem v22_apply (b : Fin 8) (s : Fin 2048) (q : Fin 1024) :
    val_main_v22 (F := Ideal) x0 x1 x2 x3 x4 (ix3 b s q)
      = x0 (ix3 b s q) + Rows.ffn (fun k => x0 (ix3 b s k)) (fun k => x1 (ix2 0 k)) (fun k j => x2 (ix3 0 k j))
          (fun k j => x3 (ix3 0 k j)) (fun k j => x4 (ix3 0 k j)) q := by
  unfold Rows.ffn Rows.silu Rows.mm Ideal.logistic
  simp only [← v13_apply]
  pointwise [val_main_v22, val_main_v21, val_main_v20, val_main_v19, val_main_v18, val_main_v17, val_main_v16, val_main_v15, val_main_v14, val_main_call0_v0, val_main_call0_v1, val_main_call0_v2, val_main_call0_v3, val_main_call0_v4, val_main_call0_v5, val_main_call0_cst, val_main_call0_cst_0]

/-- The result. -/
theorem v35_apply (b : Fin 8) (s : Fin 2048) (q : Fin 1024) :
    val_main_v35 (F := Ideal) x0 x1 x2 x3 x4 x5 (ix3 b s q)
      = Rows.ffnOut (fun k => x0 (ix3 b s k)) (fun k => x1 (ix2 0 k)) (fun k j => x2 (ix3 0 k j))
          (fun k j => x3 (ix3 0 k j)) (fun k j => x4 (ix3 0 k j)) (fun k => x5 (ix1 k)) q := by
  unfold Rows.ffnOut Rows.rms Rows.eps Rows.width
  pointwise [val_main_v35, val_main_v34, val_main_v33, val_main_v32, val_main_v31, val_main_v30, val_main_v29, val_main_v28, val_main_v27, val_main_v26, val_main_v25, val_main_v24, val_main_v23, val_main_cst_2, val_main_cst_3, val_main_cst_4]
  simp only [v22_apply]

end Cert.PlainFfnIdeal.Rd

end
-- ==== Proof.FfnClaim.lean ====
/-
  The feed-forward kernel's claims: the four runs leave their arguments as they were, the ideal program is the kernel's
  own, and the kernel's result over the extended reals is the reference's.
-/
module

public import proofs.«01_k».proof.Defs
public import proofs.«01_k».proof.Proof.Gen.Ffn.Frame
public import proofs.«01_k».proof.Proof.FfnValue
public import proofs.«01_k».proof.Proof.FfnRef
public import Idealize.ShloMosaic.Lib.Quiescent

@[expose] public section

set_option maxRecDepth 16384

noncomputable section

namespace Cert.FfnClaim

open Idealize.ShloMosaic Idealize.ShloMosaic.TcCoe Idealize.SL.Sem

/-- The kernel's program runs and leaves its arguments as they were. -/
theorem frame_k : Cert.quiescent_Ffn := fun m ρ _ => Cert.Ffn.Gen.frame m ρ
/-- So does its ideal program. -/
theorem frame_i : Cert.quiescent_FfnIdeal := fun m ρ _ => Cert.FfnIdeal.Gen.frame m ρ
/-- So does the reference. -/
theorem frame_r : Cert.quiescent_PlainFfnIdeal := fun m ρ _ =>
  (θ_run Cert.PlainFfnIdeal.defs _ _).mono (fun r h => ⟨fun c => (h c).2, sem_eq_zero_of_no_sems (by decide) r.2⟩)
    (Cert.PlainFfnIdeal.Value.run (F := Ideal) m ρ)
/-- The ideal program is the kernel's own: no operation was replaced. -/
theorem preserves : Cert.preserves_Ffn_FfnIdeal := trivial

/-- The reference's result is the function `Cert.FfnIdeal.Rd.G` of the arguments. -/
theorem ref_eq (x0 : Vec Ideal Cert.PlainFfnIdeal.S8x2048x1024 .f32) (x1 : Vec Ideal Cert.PlainFfnIdeal.S1x1024 .f32)
    (x2 x3 : Vec Ideal Cert.PlainFfnIdeal.S1x1024x2816 .f32) (x4 : Vec Ideal Cert.PlainFfnIdeal.S1x2816x1024 .f32)
    (x5 : Vec Ideal Cert.PlainFfnIdeal.S1024 .f32) :
    Cert.PlainFfnIdeal.Read.val_main_v35 (F := Ideal) x0 x1 x2 x3 x4 x5 = Cert.FfnIdeal.Rd.G x0 x1 x2 x3 x4 x5 := by
  funext i
  idx_vars i
  exact Cert.PlainFfnIdeal.Rd.v35_apply x0 x1 x2 x3 x4 x5 i0 i1 i2

/-- Over the extended reals the kernel and the reference compute one function of arguments that agree. -/
theorem algebraic : Cert.algebraic_FfnIdeal_PlainFfnIdeal := by
  intro m ρ m' ρ' _ hag
  refine ⟨fun c => Cert.FfnIdeal.Rd.Gm m c, ?_, ?_⟩
  · exact (θ_run Cert.FfnIdeal.defs _ _).mono (fun _ h c => ⟨(h c).1.trans (Cert.FfnIdeal.Rd.final m c), (h c).2⟩)
      (Cert.FfnIdeal.Value.run_blocks (F := Ideal) m ρ)
  · refine (θ_run Cert.PlainFfnIdeal.defs _ _).mono (fun _ h c => ⟨(h c).1.trans ?_, (h c).2⟩)
      (Cert.PlainFfnIdeal.Value.run (F := Ideal) m' ρ')
    obtain ⟨h0, h1, h2, h3, h4, h5⟩ := hag c
    rw [Cert.PlainFfnIdeal.Read.val_main_v35_eq, h0, h1, h2, h3, h4, h5]
    exact ref_eq _ _ _ _ _ _

end Cert.FfnClaim

end
-- ==== Proof.MemValue.lean ====
/-
  The memory kernel's four result arrays at the end of a run: the keys and the values of every memory row, each in two
  formats, as the normalized row times a matrix.
-/
module

public import proofs.«01_k».proof.Proof.Gen.MemIdeal.Value
public import proofs.«01_k».proof.Proof.Rows
public import Idealize.ShloMosaic.Lib.Pointwise
public import Idealize.ShloMosaic.Lib.Pipeline.ValueKit
public import Idealize.ShloMosaic.Lib.StableHlo.Run
public import Idealize.ShloMosaic.Lib.Claim

@[expose] public section

set_option maxRecDepth 16384

noncomputable section

namespace Cert.MemIdeal.Rd

open Cert.MemIdeal Cert.MemIdeal.Gen Idealize.ShloMosaic Idealize.ShloMosaic.TcCoe Idealize.SL.Sem Cert
open Idealize.ShloMosaic.Pipeline (Dat)

/-- One block's projection: the normalized row times the matrix. -/
theorem pay3_apply (P0 : Vec Ideal S1x256x1024 .f32) (P1 : Vec Ideal S1x1024 .f32) (P2 : Vec Ideal S1024x1024 .bf16)
    (r : Fin 256) (q : Fin 1024) :
    k0_pay3 (F := Ideal) P0 P1 P2 (ix2 r q)
      = Rows.mm (Rows.rms (fun k => P0 (ix3 0 r k)) (fun k => P1 (ix2 0 k))) (fun k j => P2 (ix2 k j)) q := by
  unfold Rows.mm Rows.rms Rows.eps Rows.width
  pointwise [k0_pay3, k0_pay2]

/-- The second projection is the same function of its own matrix. -/
theorem pay4_eq (P0 : Vec Ideal S1x256x1024 .f32) (P1 : Vec Ideal S1x1024 .f32) (P2 : Vec Ideal S1024x1024 .bf16) :
    k0_pay4 (F := Ideal) P0 P1 P2 = k0_pay3 P0 P1 P2 := rfl

/-- The keys' stored block. -/
theorem pay5_apply (P0 : Vec Ideal S1x256x1024 .f32) (P1 : Vec Ideal S1x1024 .f32) (P2 : Vec Ideal S1024x1024 .bf16)
    (r : Fin 256) (q : Fin 1024) : k0_pay5 (F := Ideal) P0 P1 P2 (ix3 0 r q) = k0_pay3 P0 P1 P2 (ix2 r q) := by
  pointwise [k0_pay5]

/-- The values' stored block. -/
theorem pay6_apply (P0 : Vec Ideal S1x256x1024 .f32) (P1 : Vec Ideal S1x1024 .f32) (P2 : Vec Ideal S1024x1024 .bf16)
    (r : Fin 256) (q : Fin 1024) : k0_pay6 (F := Ideal) P0 P1 P2 (ix3 0 r q) = k0_pay3 P0 P1 P2 (ix2 r q) := by
  rw [← pay4_eq]
  pointwise [k0_pay6]

/-- The keys' stored block in the narrower format. -/
theorem pay7_apply (P0 : Vec Ideal S1x256x1024 .f32) (P1 : Vec Ideal S1x1024 .f32) (P2 : Vec Ideal S1024x1024 .bf16)
    (r : Fin 256) (q : Fin 1024) : k0_pay7 (F := Ideal) P0 P1 P2 (ix3 0 r q) = k0_pay3 P0 P1 P2 (ix2 r q) := by
  pointwise [k0_pay7]

/-- The values' stored block in the narrower format. -/
theorem pay1_apply (P0 : Vec Ideal S1x256x1024 .f32) (P1 : Vec Ideal S1x1024 .f32) (P2 : Vec Ideal S1024x1024 .bf16)
    (r : Fin 256) (q : Fin 1024) : k0_pay1 (F := Ideal) (k0_pay4 P0 P1 P2) (ix3 0 r q) = k0_pay3 P0 P1 P2 (ix2 r q) := by
  rw [← pay4_eq]
  pointwise [k0_pay1]

/-- A stacked weight matrix, its unit axis dropped and its format changed, at an index. -/
theorem cast_apply (X : FVec Ideal S1x1024x1024 .f32) (k j : Fin 1024) :
    (truncf .bf16 (shapeCast S1024x1024 X shapeCasts_S1x1024x1024_S1024x1024 : FVec Ideal S1024x1024 .f32) bitsLt_bf16_f32 : FVec Ideal S1024x1024 .bf16) (ix2 k j)
      = X (ix3 0 k j) := by
  pointwise

/-- The normalization weights after the two reshapes. -/
theorem row_apply (X : FVec Ideal S1x1024 .f32) (k : Fin 1024) :
    shapeCast S1x1024 (shapeCast S1024 X shapeCasts_S1x1024_S1024) shapeCasts_S1024_S1x1024 (ix2 0 k) = X (ix2 0 k) := by
  pointwise

variable (m : (ℓ : Loc nD τ sig) → Buf (Elt Ideal) ℓ)

/-- The normalization weights as the kernel's window reads them. -/
theorem v1_apply (c : Dev nD) (k : Fin 1024) :
    (V m c main_v1 : Vec Ideal S1x1024 .f32) (ix2 0 k) = (m ((c : Thread nD τ).loc main_arg1) : Vec Ideal S1x1024 .f32) (ix2 0 k) := by
  have e : (V m c main_v1 : Vec Ideal S1x1024 .f32)
      = shapeCast S1x1024 (shapeCast S1024 (m ((c : Thread nD τ).loc main_arg1) : Vec Ideal S1x1024 .f32) shapeCasts_S1x1024_S1024) shapeCasts_S1024_S1x1024 := by
    unfold V; after_results; rfl
  exact (congrFun e _).trans (row_apply _ k)

/-- The keys' matrix as the kernel's window reads it. -/
theorem v3_apply (c : Dev nD) (k j : Fin 1024) :
    (V m c main_v3 : Vec Ideal S1024x1024 .bf16) (ix2 k j) = (m ((c : Thread nD τ).loc main_arg2) : Vec Ideal S1x1024x1024 .f32) (ix3 0 k j) := by
  have e : (V m c main_v3 : Vec Ideal S1024x1024 .bf16)
      = (truncf .bf16 (shapeCast S1024x1024 (m ((c : Thread nD τ).loc main_arg2) : Vec Ideal S1x1024x1024 .f32) shapeCasts_S1x1024x1024_S1024x1024 : FVec Ideal S1024x1024 .f32) bitsLt_bf16_f32 : FVec Ideal S1024x1024 .bf16) := by
    unfold V; after_results; rfl
  exact (congrFun e _).trans (cast_apply _ k j)

/-- The values' matrix as the kernel's window reads it. -/
theorem v5_apply (c : Dev nD) (k j : Fin 1024) :
    (V m c main_v5 : Vec Ideal S1024x1024 .bf16) (ix2 k j) = (m ((c : Thread nD τ).loc main_arg3) : Vec Ideal S1x1024x1024 .f32) (ix3 0 k j) := by
  have e : (V m c main_v5 : Vec Ideal S1024x1024 .bf16)
      = (truncf .bf16 (shapeCast S1024x1024 (m ((c : Thread nD τ).loc main_arg3) : Vec Ideal S1x1024x1024 .f32) shapeCasts_S1x1024x1024_S1024x1024 : FVec Ideal S1024x1024 .f32) bitsLt_bf16_f32 : FVec Ideal S1024x1024 .bf16) := by
    unfold V; after_results; rfl
  exact (congrFun e _).trans (cast_apply _ k j)

/-- A projection of the normalized memory rows. -/
def G (x : Fin 8 → Fin 256 → Fin 1024 → EReal) (w : Vec Ideal S1x1024 .f32) (W : Vec Ideal S1x1024x1024 .f32) (i : S8x256x1024.Idx) : EReal :=
  Rows.mm (Rows.rms (x (i 0) (i 1)) (fun k => w (ix2 0 k))) (fun k j => W (ix3 0 k j)) (i 2)

/-- The projection of the run's memory rows by the weights that argument `W` holds. -/
def Gm (c : Dev nD) (W : Vec Ideal S1x1024x1024 .f32) : S8x256x1024.Idx → EReal :=
  G (fun b s k => (m ((c : Thread nD τ).loc main_arg0) : Vec Ideal S8x256x1024 .f32) (ix3 b s k)) (m ((c : Thread nD τ).loc main_arg1)) W

/-- The blocks' places: point `t` works on batch `t`, and reads the weights whole. -/
theorem idx_facts : ∀ t : Fin cfg0.N, win0_0.index t = ![t.val, 0, 0] ∧ win0_1.index t = ![0, 0] ∧ win0_2.index t = ![0, 0] ∧ win0_3.index t = ![0, 0]
    ∧ win0_4.index t = ![t.val, 0, 0] ∧ win0_5.index t = ![t.val, 0, 0] ∧ win0_6.index t = ![t.val, 0, 0] ∧ win0_7.index t = ![t.val, 0, 0] :=
  (by decide +kernel : ∀ t : Fin grid0.N, _)

/-- The block of memory rows at point `t`. -/
theorem blk0_apply (c : Dev nD) (t : Fin cfg0.N) (r : Fin 256) (k : Fin 1024) :
    (iblk m c 0 t : Vec Ideal S1x256x1024 .f32) (ix3 0 r k)
      = (m ((c : Thread nD τ).loc main_arg0) : Vec Ideal S8x256x1024 .f32) (ix3 (t : Fin 8) r k) := by
  have e0 := (idx_facts t).1
  blk_simp [iblk]
  rw [V_main_arg0]
  refine congrArg _ ?_
  blk_ext [e0]

/-- The block of normalization weights. -/
theorem blk1_apply (c : Dev nD) (t : Fin cfg0.N) (k : Fin 1024) :
    (iblk m c 1 t : Vec Ideal S1x1024 .f32) (ix2 0 k) = (m ((c : Thread nD τ).loc main_arg1) : Vec Ideal S1x1024 .f32) (ix2 0 k) := by
  have e1 := (idx_facts t).2.1
  refine Eq.trans ?_ (v1_apply m c k)
  blk_simp [iblk]
  refine congrArg _ ?_
  blk_ext [e1]

/-- The block of the keys' matrix. -/
theorem blk2_apply (c : Dev nD) (t : Fin cfg0.N) (k j : Fin 1024) :
    (iblk m c 2 t : Vec Ideal S1024x1024 .bf16) (ix2 k j) = (m ((c : Thread nD τ).loc main_arg2) : Vec Ideal S1x1024x1024 .f32) (ix3 0 k j) := by
  have e2 := (idx_facts t).2.2.1
  refine Eq.trans ?_ (v3_apply m c k j)
  blk_simp [iblk]
  refine congrArg _ ?_
  blk_ext [e2]

/-- The block of the values' matrix. -/
theorem blk3_apply (c : Dev nD) (t : Fin cfg0.N) (k j : Fin 1024) :
    (iblk m c 3 t : Vec Ideal S1024x1024 .bf16) (ix2 k j) = (m ((c : Thread nD τ).loc main_arg3) : Vec Ideal S1x1024x1024 .f32) (ix3 0 k j) := by
  have e3 := (idx_facts t).2.2.2.1
  refine Eq.trans ?_ (v5_apply m c k j)
  blk_simp [iblk]
  refine congrArg _ ?_
  blk_ext [e3]

/-- A point's key projection is its batch's part of `Gm`. -/
theorem key_eq (c : Dev nD) (t : Fin cfg0.N) (r : Fin 256) (q : Fin 1024) :
    k0_pay3 (F := Ideal) (iblk m c 0 t) (iblk m c 1 t) (iblk m c 2 t) (ix2 r q) = Gm m c (m ((c : Thread nD τ).loc main_arg2)) (ix3 (t : Fin 8) r q) := by
  refine (pay3_apply (iblk m c 0 t) (iblk m c 1 t) (iblk m c 2 t) r q).trans ?_
  have h0 : (fun k => (iblk m c 0 t : Vec Ideal S1x256x1024 .f32) (ix3 0 r k)) = _ := funext fun k => blk0_apply m c t r k
  have h1 : (fun k => (iblk m c 1 t : Vec Ideal S1x1024 .f32) (ix2 0 k)) = _ := funext fun k => blk1_apply m c t k
  have h2 : (fun k j => (iblk m c 2 t : Vec Ideal S1024x1024 .bf16) (ix2 k j)) = _ := funext fun k => funext fun j => blk2_apply m c t k j
  rw [h0, h1, h2]
  rfl

/-- A point's value projection likewise. -/
theorem val_eq (c : Dev nD) (t : Fin cfg0.N) (r : Fin 256) (q : Fin 1024) :
    k0_pay3 (F := Ideal) (iblk m c 0 t) (iblk m c 1 t) (iblk m c 3 t) (ix2 r q) = Gm m c (m ((c : Thread nD τ).loc main_arg3)) (ix3 (t : Fin 8) r q) := by
  refine (pay3_apply (iblk m c 0 t) (iblk m c 1 t) (iblk m c 3 t) r q).trans ?_
  have h0 : (fun k => (iblk m c 0 t : Vec Ideal S1x256x1024 .f32) (ix3 0 r k)) = _ := funext fun k => blk0_apply m c t r k
  have h1 : (fun k => (iblk m c 1 t : Vec Ideal S1x1024 .f32) (ix2 0 k)) = _ := funext fun k => blk1_apply m c t k
  have h2 : (fun k j => (iblk m c 3 t : Vec Ideal S1024x1024 .bf16) (ix2 k j)) = _ := funext fun k => funext fun j => blk3_apply m c t k j
  rw [h0, h1, h2]
  rfl

/-- The array of keys after the run. -/
theorem final4 (c : Dev nD) : (dats m 0 c).arrAt 4 cfg0.N = (Gm m c (m ((c : Thread nD τ).loc main_arg2)) : Buf (Elt Ideal) ((c : Thread nD τ).loc main_v6_0)) := by
  refine (dats m 0 c).arrAt_eq_of_covers 4 _ (by decide +kernel) fun t hf y => ?_
  have e : win0_4.index t = ![t.val, 0, 0] := by
    obtain ⟨_, _, _, _, e4, e5, e6, e7⟩ := idx_facts t
    assumption
  blk_simp
  rw [after0_4]
  frame_out
  idx_vars y
  obtain rfl : y0 = 0 := Subsingleton.elim _ _
  have hE : (win0_4.blk t).view.emb (ix3 0 y1 y2) = ix3 (t : Fin 8) y1 y2 := by blk_ext [e]
  refine Eq.trans ?_ (congrArg (Gm m c (m ((c : Thread nD τ).loc main_arg2))) hE).symm
  exact (pay5_apply (iblk m c 0 t) (iblk m c 1 t) (iblk m c 2 t) y1 y2).trans (key_eq m c t y1 y2)

/-- The array of values after the run. -/
theorem final5 (c : Dev nD) : (dats m 0 c).arrAt 5 cfg0.N = (Gm m c (m ((c : Thread nD τ).loc main_arg3)) : Buf (Elt Ideal) ((c : Thread nD τ).loc main_v6_1)) := by
  refine (dats m 0 c).arrAt_eq_of_covers 5 _ (by decide +kernel) fun t hf y => ?_
  have e : win0_5.index t = ![t.val, 0, 0] := by
    obtain ⟨_, _, _, _, e4, e5, e6, e7⟩ := idx_facts t
    assumption
  blk_simp
  rw [after0_5]
  frame_out
  idx_vars y
  obtain rfl : y0 = 0 := Subsingleton.elim _ _
  have hE : (win0_5.blk t).view.emb (ix3 0 y1 y2) = ix3 (t : Fin 8) y1 y2 := by blk_ext [e]
  refine Eq.trans ?_ (congrArg (Gm m c (m ((c : Thread nD τ).loc main_arg3))) hE).symm
  exact (pay6_apply (iblk m c 0 t) (iblk m c 1 t) (iblk m c 3 t) y1 y2).trans (val_eq m c t y1 y2)

/-- The array of keys in the narrower format after the run. -/
theorem final6 (c : Dev nD) : (dats m 0 c).arrAt 6 cfg0.N = (Gm m c (m ((c : Thread nD τ).loc main_arg2)) : Buf (Elt Ideal) ((c : Thread nD τ).loc main_v6_2)) := by
  refine (dats m 0 c).arrAt_eq_of_covers 6 _ (by decide +kernel) fun t hf y => ?_
  have e : win0_6.index t = ![t.val, 0, 0] := by
    obtain ⟨_, _, _, _, e4, e5, e6, e7⟩ := idx_facts t
    assumption
  blk_simp
  rw [after0_6]
  frame_out
  idx_vars y
  obtain rfl : y0 = 0 := Subsingleton.elim _ _
  have hE : (win0_6.blk t).view.emb (ix3 0 y1 y2) = ix3 (t : Fin 8) y1 y2 := by blk_ext [e]
  refine Eq.trans ?_ (congrArg (Gm m c (m ((c : Thread nD τ).loc main_arg2))) hE).symm
  exact (pay7_apply (iblk m c 0 t) (iblk m c 1 t) (iblk m c 2 t) y1 y2).trans (key_eq m c t y1 y2)

/-- The array of values in the narrower format after the run. -/
theorem final7 (c : Dev nD) : (dats m 0 c).arrAt 7 cfg0.N = (Gm m c (m ((c : Thread nD τ).loc main_arg3)) : Buf (Elt Ideal) ((c : Thread nD τ).loc main_v6_3)) := by
  refine (dats m 0 c).arrAt_eq_of_covers 7 _ (by decide +kernel) fun t hf y => ?_
  have e : win0_7.index t = ![t.val, 0, 0] := by
    obtain ⟨_, _, _, _, e4, e5, e6, e7⟩ := idx_facts t
    assumption
  blk_simp
  rw [after0_7]
  frame_out
  idx_vars y
  obtain rfl : y0 = 0 := Subsingleton.elim _ _
  have hE : (win0_7.blk t).view.emb (ix3 0 y1 y2) = ix3 (t : Fin 8) y1 y2 := by blk_ext [e]
  refine Eq.trans ?_ (congrArg (Gm m c (m ((c : Thread nD τ).loc main_arg3))) hE).symm
  exact (pay1_apply (iblk m c 0 t) (iblk m c 1 t) (iblk m c 3 t) y1 y2).trans (val_eq m c t y1 y2)

end Cert.MemIdeal.Rd

end
-- ==== Proof.MemRef.lean ====
/-
  The memory reference's results, read at an index.
-/
module

public import proofs.«01_k».proof.Proof.Gen.PlainMemIdeal.Read
public import proofs.«01_k».proof.Proof.Rows
public import Idealize.ShloMosaic.Lib.Pointwise

@[expose] public section

set_option maxRecDepth 16384

noncomputable section

namespace Cert.PlainMemIdeal.Rd

open Cert.PlainMemIdeal Cert.PlainMemIdeal.Read Idealize.ShloMosaic Cert

variable (x0 : Vec Ideal S8x256x1024 .f32) (x1 : Vec Ideal S1x1024 .f32) (x2 : Vec Ideal S1x1024x1024 .f32)

/-- The normalized rows. -/
theorem v13_apply (b : Fin 8) (s : Fin 256) (q : Fin 1024) :
    val_main_v13 (F := Ideal) x0 x1 (ix3 b s q) = Rows.rms (fun k => x0 (ix3 b s k)) (fun k => x1 (ix2 0 k)) q := by
  unfold Rows.rms Rows.eps Rows.width
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The keys. -/
theorem v15_apply (b : Fin 8) (s : Fin 256) (q : Fin 1024) :
    val_main_v15 (F := Ideal) x0 x1 x2 (ix3 b s q)
      = Rows.mm (Rows.rms (fun k => x0 (ix3 b s k)) (fun k => x1 (ix2 0 k))) (fun k j => x2 (ix3 0 k j)) q := by
  unfold Rows.mm
  simp only [← v13_apply]
  pointwise [val_main_v15, val_main_v14]

/-- The values. -/
theorem v17_apply (b : Fin 8) (s : Fin 256) (q : Fin 1024) :
    val_main_v17 (F := Ideal) x0 x1 x2 (ix3 b s q)
      = Rows.mm (Rows.rms (fun k => x0 (ix3 b s k)) (fun k => x1 (ix2 0 k))) (fun k j => x2 (ix3 0 k j)) q := by
  unfold Rows.mm
  simp only [← v13_apply]
  pointwise [val_main_v17, val_main_v16]

end Cert.PlainMemIdeal.Rd

end
-- ==== Proof.MemClaim.lean ====
/-
  The memory kernel's claims: the runs leave their arguments as they were, the ideal program is the kernel's own, and the
  kernel's four results over the extended reals are the reference's.
-/
module

public import proofs.«01_k».proof.Defs
public import proofs.«01_k».proof.Proof.Gen.Mem.Frame
public import proofs.«01_k».proof.Proof.Gen.PlainMemIdeal.Run
public import proofs.«01_k».proof.Proof.MemValue
public import proofs.«01_k».proof.Proof.MemRef
public import Idealize.ShloMosaic.Lib.Quiescent

@[expose] public section

set_option maxRecDepth 16384

noncomputable section

namespace Cert.MemClaim

open Idealize.ShloMosaic Idealize.ShloMosaic.TcCoe Idealize.SL.Sem

/-- The kernel's program runs and leaves its arguments as they were. -/
theorem frame_k : Cert.quiescent_Mem := fun m ρ _ => Cert.Mem.Gen.frame m ρ
/-- So does its ideal program. -/
theorem frame_i : Cert.quiescent_MemIdeal := fun m ρ _ => Cert.MemIdeal.Gen.frame m ρ
/-- So does the reference. -/
theorem frame_r : Cert.quiescent_PlainMemIdeal := fun m ρ _ =>
  (θ_run Cert.PlainMemIdeal.defs _ _).mono (fun r h => ⟨fun c => (h c).2.2.2.2, sem_eq_zero_of_no_sems (by decide) r.2⟩)
    (Cert.PlainMemIdeal.Value.run (F := Ideal) m ρ)
/-- The ideal program is the kernel's own: no operation was replaced. -/
theorem preserves : Cert.preserves_Mem_MemIdeal := trivial

section
variable (x0 : Vec Ideal Cert.PlainMemIdeal.S8x256x1024 .f32) (x1 : Vec Ideal Cert.PlainMemIdeal.S1x1024 .f32)
  (x2 : Vec Ideal Cert.PlainMemIdeal.S1x1024x1024 .f32)

/-- The reference's keys are the projection of the normalized rows. -/
theorem key_eq : Cert.PlainMemIdeal.Read.val_main_v15 (F := Ideal) x0 x1 x2 = Cert.MemIdeal.Rd.G (fun b s k => x0 (ix3 b s k)) x1 x2 := by
  funext i
  idx_vars i
  exact Cert.PlainMemIdeal.Rd.v15_apply x0 x1 x2 i0 i1 i2

/-- The reference's values likewise. -/
theorem val_eq : Cert.PlainMemIdeal.Read.val_main_v17 (F := Ideal) x0 x1 x2 = Cert.MemIdeal.Rd.G (fun b s k => x0 (ix3 b s k)) x1 x2 := by
  funext i
  idx_vars i
  exact Cert.PlainMemIdeal.Rd.v17_apply x0 x1 x2 i0 i1 i2
end

/-- Over the extended reals the kernel and the reference compute the same four arrays of arguments that agree. -/
theorem algebraic : Cert.algebraic_MemIdeal_PlainMemIdeal := by
  intro m ρ m' ρ' _ hag
  refine ⟨fun c => Cert.MemIdeal.Rd.Gm m c (m ((c : Thread Cert.MemIdeal.nD Cert.MemIdeal.τ).loc Cert.MemIdeal.main_arg2)),
    fun c => Cert.MemIdeal.Rd.Gm m c (m ((c : Thread Cert.MemIdeal.nD Cert.MemIdeal.τ).loc Cert.MemIdeal.main_arg3)),
    fun c => Cert.MemIdeal.Rd.Gm m c (m ((c : Thread Cert.MemIdeal.nD Cert.MemIdeal.τ).loc Cert.MemIdeal.main_arg2)),
    fun c => Cert.MemIdeal.Rd.Gm m c (m ((c : Thread Cert.MemIdeal.nD Cert.MemIdeal.τ).loc Cert.MemIdeal.main_arg3)), ?_, ?_⟩
  · exact (θ_run Cert.MemIdeal.defs _ _).mono (fun _ h c => ⟨(h c).1.trans (Cert.MemIdeal.Rd.final4 m c),
        (h c).2.1.trans (Cert.MemIdeal.Rd.final5 m c), (h c).2.2.1.trans (Cert.MemIdeal.Rd.final6 m c),
        (h c).2.2.2.1.trans (Cert.MemIdeal.Rd.final7 m c), (h c).2.2.2.2⟩)
      (Cert.MemIdeal.Value.run_blocks (F := Ideal) m ρ)
  · refine (θ_run Cert.PlainMemIdeal.defs _ _).mono (fun _ h c => ⟨(h c).1.trans ?_, (h c).2.1.trans ?_, (h c).2.2.1.trans ?_, (h c).2.2.2.1.trans ?_, (h c).2.2.2.2⟩)
      (Cert.PlainMemIdeal.Value.run (F := Ideal) m' ρ')
    all_goals (obtain ⟨h0, h1, h2, h3⟩ := hag c; rw [h0, h1]; first | rw [h2] | rw [h3])
    · exact key_eq _ _ _
    · exact val_eq _ _ _
    · exact key_eq _ _ _
    · exact val_eq _ _ _

end Cert.MemClaim

end
-- ==== Proof.BackRows.lean ====
/-
  The row functions of the layer's last stage for one token per sequence: the recurrence's output with its skip term and
  gate, the normalization by groups, and the sum of the three branches with its projection.
-/
module

public import proofs.«01_k».proof.Proof.Rows

@[expose] public section

noncomputable section

namespace Cert.Rows

open Idealize.ShloMosaic

/-- The number of features of a group, 512, as the kernels and the references write it. -/
def groupWidth : EReal := Ideal.ofBits .f32 0x44000000#32

/-- Feature `k` of the group that feature `q` lies in. -/
abbrev mate (q : Fin 2048) (k : Fin 512) : Fin 2048 := ⟨q.val / 512 * 512 + k.val, by omega⟩

/-- Root-mean-square normalization of the four groups of 512 features, scaled by the weights `w`. -/
def groupRms (y w : Fin 2048 → EReal) (q : Fin 2048) : EReal :=
  y q * Ideal.rsqrt (Ideal.div (∑ k, y (mate q k) * y (mate q k)) groupWidth + eps) * w q

/-- The head that a feature belongs to. -/
abbrev headOf (q : Fin 2048) : Fin 32 := ⟨q.val / 64, by omega⟩

/-- The recurrence's output `s` with the skip term of its input `x` (one factor for each head), gated by `z`. -/
def gated (s x z : Fin 2048 → EReal) (d : Fin 32 → EReal) (q : Fin 2048) : EReal :=
  (s q + d (headOf q) * x q) * silu (z q)

/-- The row after the mixing: the three branches' sum, projected and added to the row. -/
def joined (x : Fin 1024 → EReal) (s xs z : Fin 2048 → EReal) (ga gb gc att : Fin 1024 → EReal) (d : Fin 32 → EReal)
    (wn : Fin 2048 → EReal) (Wo : Fin 2048 → Fin 1024 → EReal) (Wa Wm : Fin 1024 → Fin 1024 → EReal) (q : Fin 1024) : EReal :=
  x q + mm (fun j => ga j + gb j * mm (groupRms (gated s xs z d) wn) Wo j + gc j * mm att Wa j) Wm q

end Cert.Rows

end
-- ==== Proof.BackKernel.lean ====
/-
  The last stage's payloads over the block of 128 tokens, read at an index as the layer's row functions.
-/
module

public import proofs.«01_k».proof.Proof.Gen.BackIdeal.Value
public import proofs.«01_k».proof.Proof.BackRows
public import Idealize.ShloMosaic.Lib.Pointwise

@[expose] public section

set_option maxRecDepth 16384

noncomputable section

namespace Cert.BackIdeal.Rd

open Cert.BackIdeal Cert.BackIdeal.Gen Idealize.ShloMosaic Cert

/-- The gated output of the recurrence, its head factors given for every feature. -/
theorem pay2_apply (v0 : Vec Ideal S128x2048 .f32) (v1 : Vec Ideal S1x2048 .f32) (v3 v7 : Vec Ideal S128x2048 .f32)
    (r : Fin 128) (q : Fin 2048) :
    k0_pay2 (F := Ideal) v0 v1 v3 v7 (ix2 r q) = (v0 (ix2 r q) + v1 (ix2 0 q) * v3 (ix2 r q)) * Rows.silu (v7 (ix2 r q)) := by
  unfold Rows.silu
  pointwise [k0_pay2]

/-- The first group, normalized. -/
theorem pay4_apply (v0 : Vec Ideal S128x2048 .f32) (v1 : Vec Ideal S1x2048 .f32) (v3 v7 : Vec Ideal S128x2048 .f32)
    (v11 : Vec Ideal S1x2048 .f32) (r : Fin 128) (q : Fin 512) :
    k0_pay4 (F := Ideal) v0 v1 v3 v7 v11 (ix2 r q)
      = Rows.groupRms (fun k => k0_pay2 (F := Ideal) v0 v1 v3 v7 (ix2 r k)) (fun k => v11 (ix2 0 k)) ⟨q.val, by omega⟩ := by
  have e : ∀ k : Fin 512, Rows.mate ⟨q.val, by omega⟩ k = ⟨k.val, by omega⟩ := fun k => Fin.ext (by show q.val / 512 * 512 + k.val = k.val; omega)
  unfold Rows.groupRms Rows.groupWidth Rows.eps
  simp only [e]
  unfold k0_pay4
  generalize k0_pay2 (F := Ideal) v0 v1 v3 v7 = y
  pointwise [k0_pay3]

/-- The second group, normalized. -/
theorem pay5_apply (v0 : Vec Ideal S128x2048 .f32) (v1 : Vec Ideal S1x2048 .f32) (v3 v7 : Vec Ideal S128x2048 .f32)
    (v11 : Vec Ideal S1x2048 .f32) (r : Fin 128) (q : Fin 512) :
    k0_pay5 (F := Ideal) v0 v1 v3 v7 v11 (ix2 r q)
      = Rows.groupRms (fun k => k0_pay2 (F := Ideal) v0 v1 v3 v7 (ix2 r k)) (fun k => v11 (ix2 0 k)) ⟨512 + q.val, by omega⟩ := by
  have e : ∀ k : Fin 512, Rows.mate ⟨512 + q.val, by omega⟩ k = ⟨512 + k.val, by omega⟩ :=
    fun k => Fin.ext (by show (512 + q.val) / 512 * 512 + k.val = 512 + k.val; omega)
  unfold Rows.groupRms Rows.groupWidth Rows.eps
  simp only [e]
  unfold k0_pay5
  generalize k0_pay2 (F := Ideal) v0 v1 v3 v7 = y
  pointwise [k0_pay3]

/-- The gated sum of the first two branches, from the groups' parts. -/
theorem pay9_apply (v10 : FVec Ideal S128x2048 .f32) (v12 : FVec Ideal S1x2048 .f32) (v26 v40 v41 v42 : FVec Ideal S128x512 .f32)
    (v71 : Vec Ideal S2048x1024 .bf16) (v79 v80 : Vec Ideal S128x1024 .f32)
    (h26 : ∀ (r : Fin 128) (q : Fin 512), v26 (ix2 r q) = Rows.groupRms (fun k => v10 (ix2 r k)) (fun k => v12 (ix2 0 k)) ⟨q.val, by omega⟩)
    (h40 : ∀ (r : Fin 128) (q : Fin 512), v40 (ix2 r q) = Rows.groupRms (fun k => v10 (ix2 r k)) (fun k => v12 (ix2 0 k)) ⟨512 + q.val, by omega⟩)
    (h41 : ∀ (r : Fin 128) (q : Fin 512), v41 (ix2 r q) = v10 (ix2 r ⟨1024 + q.val, by omega⟩))
    (h42 : ∀ (r : Fin 128) (q : Fin 512), v42 (ix2 r q) = v41 (ix2 r q) * v41 (ix2 r q)) (r : Fin 128) (q : Fin 1024) :
    k0_pay9 (F := Ideal) v10 v12 v26 v40 v41 v42 v71 v79 v80 (ix2 r q)
      = v79 (ix2 r q) + v80 (ix2 r q) * Rows.mm (Rows.groupRms (fun k => v10 (ix2 r k)) (fun k => v12 (ix2 0 k))) (fun k j => v71 (ix2 k j)) q := by
  unfold Rows.mm
  pointwise [k0_pay9]
  refine congrArg (_ + ·) (congrArg (_ * ·) (Finset.sum_congr rfl fun k _ => congrArg (· * _) ?_))
  by_cases h1 : k.val < 512
  · exact (dif_pos h1).trans (h26 r ⟨k.val, h1⟩)
  refine (dif_neg h1).trans ?_
  by_cases h2 : k.val - 512 < 512
  · exact (dif_pos h2).trans ((h40 r ⟨k.val - 512, h2⟩).trans (congrArg (Rows.groupRms _ _) (Fin.ext (by show 512 + (k.val - 512) = k.val; omega))))
  refine (dif_neg h2).trans ?_
  by_cases h3 : k.val - 512 - 512 < 512
  · have e : (⟨1024 + (k.val - 512 - 512), by omega⟩ : Fin 2048) = k := Fin.ext (by show 1024 + (k.val - 512 - 512) = k.val; omega)
    have em : ∀ x : Fin 512, (⟨1024 + x.val, by omega⟩ : Fin 2048) = Rows.mate k x :=
      fun x => Fin.ext (by show 1024 + x.val = k.val / 512 * 512 + x.val; omega)
    refine (dif_pos h3).trans (congr (congrArg HMul.hMul (congr (congrArg HMul.hMul ?_)
      (congrArg (fun z => Ideal.rsqrt (Ideal.div z _ + _)) (Finset.sum_congr rfl fun x _ => ?_)))) (congrArg (fun z => v12 (ix2 0 z)) e))
    · exact (h41 r ⟨k.val - 512 - 512, h3⟩).trans (congrArg (fun z => v10 (ix2 r z)) e)
    · rw [h42, h41]
      exact congrArg (fun z => v10 (ix2 r z) * v10 (ix2 r z)) (em x)
  · have e : (⟨1536 + (k.val - 512 - 512 - 512), by omega⟩ : Fin 2048) = k :=
      Fin.ext (by show 1536 + (k.val - 512 - 512 - 512) = k.val; omega)
    have em : ∀ x : Fin 512, (⟨1536 + x.val, by omega⟩ : Fin 2048) = Rows.mate k x :=
      fun x => Fin.ext (by show 1536 + x.val = k.val / 512 * 512 + x.val; omega)
    exact (dif_neg h3).trans (congr (congrArg HMul.hMul (congr (congrArg HMul.hMul (congrArg (fun z => v10 (ix2 r z)) e))
      (congrArg (fun z => Ideal.rsqrt (Ideal.div z _ + _)) (Finset.sum_congr rfl fun x _ => congrArg (fun z => v10 (ix2 r z) * v10 (ix2 r z)) (em x)))))
      (congrArg (fun z => v12 (ix2 0 z)) e))

/-- The attention's projection. -/
theorem pay8_apply (v74 : Vec Ideal S128x1024 .f32) (v76 : Vec Ideal S1024x1024 .bf16) (r : Fin 128) (q : Fin 1024) :
    k0_pay8 (F := Ideal) v74 v76 (ix2 r q) = Rows.mm (fun k => v74 (ix2 r k)) (fun k j => v76 (ix2 k j)) q := by
  unfold Rows.mm
  pointwise [k0_pay8]

/-- The rows after the mixing: the branches' gated sum, projected and added to the row. -/
theorem pay10_apply (v78 v82 : FVec Ideal S128x1024 .f32) (v83 v86 : Vec Ideal S128x1024 .f32) (v89 : Vec Ideal S1024x1024 .bf16)
    (r : Fin 128) (q : Fin 1024) :
    k0_pay10 (F := Ideal) v78 v82 v83 v86 v89 (ix2 r q)
      = v86 (ix2 r q) + Rows.mm (fun k => v82 (ix2 r k) + v83 (ix2 r k) * v78 (ix2 r k)) (fun k j => v89 (ix2 k j)) q := by
  unfold Rows.mm
  pointwise [k0_pay10]

/-- The lifted and gated values of the feed-forward network. -/
theorem pay12_apply (v78 v82 : FVec Ideal S128x1024 .f32) (v83 v86 : Vec Ideal S128x1024 .f32) (v89 : Vec Ideal S1024x1024 .bf16)
    (v93 : Vec Ideal S1x1024 .f32) (v110 v115 : Vec Ideal S1024x2816 .bf16) (x : Fin 1024 → EReal) (r : Fin 128)
    (hx : ∀ k, k0_pay10 (F := Ideal) v78 v82 v83 v86 v89 (ix2 r k) = x k) (j : Fin 2816) :
    k0_pay12 (F := Ideal) v78 v82 v83 v86 v89 v93 v110 v115 (ix2 r j)
      = Rows.silu (Rows.mm (Rows.rms x (fun k => v93 (ix2 0 k))) (fun k j => v110 (ix2 k j)) j)
        * Rows.mm (Rows.rms x (fun k => v93 (ix2 0 k))) (fun k j => v115 (ix2 k j)) j := by
  obtain rfl : (fun k => k0_pay10 (F := Ideal) v78 v82 v83 v86 v89 (ix2 r k)) = x := funext hx
  unfold Rows.silu Rows.mm Rows.rms Rows.eps Rows.width k0_pay12
  generalize k0_pay10 (F := Ideal) v78 v82 v83 v86 v89 = y
  pointwise

/-- The block that is stored: the rows after the mixing plus their network, normalized. -/
theorem pay1_apply (v92 : FVec Ideal S128x1024 .f32) (v96 : FVec Ideal S1x1024 .f32) (v119 : FVec Ideal S128x2816 .bf16)
    (v120 : Vec Ideal S2816x1024 .bf16) (r : Fin 128) (q : Fin 1024) :
    k0_pay1 (F := Ideal) v92 v96 v119 (k0_pay13 v120) (constant S128x1024 .f32 0x00000000#32) (ix2 r q)
      = Rows.rms (fun k => v92 (ix2 r k) + Rows.mm (fun j => v119 (ix2 r j)) (fun j i => v120 (ix2 j i)) k) (fun k => v96 (ix2 0 k)) q := by
  unfold Rows.mm Rows.rms Rows.eps Rows.width
  pointwise [k0_pay1, k0_pay13]

/-- The last weights pass unchanged. -/
theorem pay11_apply (v95 : Vec Ideal S1x1024 .f32) (q : Fin 1024) : k0_pay11 (F := Ideal) v95 (ix2 0 q) = v95 (ix2 0 q) := by
  pointwise [k0_pay11]

/-- The group weights pass unchanged. -/
theorem pay3_apply (v11 : Vec Ideal S1x2048 .f32) (q : Fin 2048) : k0_pay3 (F := Ideal) v11 (ix2 0 q) = v11 (ix2 0 q) := by
  pointwise [k0_pay3]

/-- The third group of the gated output. -/
theorem pay6_apply (v0 : Vec Ideal S128x2048 .f32) (v1 : Vec Ideal S1x2048 .f32) (v3 v7 : Vec Ideal S128x2048 .f32) (r : Fin 128) (q : Fin 512) :
    k0_pay6 (F := Ideal) v0 v1 v3 v7 (ix2 r q) = k0_pay2 (F := Ideal) v0 v1 v3 v7 (ix2 r ⟨1024 + q.val, by omega⟩) := by
  unfold k0_pay6
  generalize k0_pay2 (F := Ideal) v0 v1 v3 v7 = y
  pointwise

/-- Its squares. -/
theorem pay7_apply (v0 : Vec Ideal S128x2048 .f32) (v1 : Vec Ideal S1x2048 .f32) (v3 v7 : Vec Ideal S128x2048 .f32) (r : Fin 128) (q : Fin 512) :
    k0_pay7 (F := Ideal) v0 v1 v3 v7 (ix2 r q) = k0_pay6 (F := Ideal) v0 v1 v3 v7 (ix2 r q) * k0_pay6 (F := Ideal) v0 v1 v3 v7 (ix2 r q) := by
  unfold k0_pay7
  generalize k0_pay6 (F := Ideal) v0 v1 v3 v7 = y
  pointwise

/-- The gated sum of the first two branches, from the kernel's inputs. -/
theorem merged_apply (v0 : Vec Ideal S128x2048 .f32) (v1 : Vec Ideal S1x2048 .f32) (v3 v7 : Vec Ideal S128x2048 .f32)
    (v11 : Vec Ideal S1x2048 .f32) (v71 : Vec Ideal S2048x1024 .bf16) (v79 v80 : Vec Ideal S128x1024 .f32) (d : Fin 32 → EReal)
    (hd : ∀ q, v1 (ix2 0 q) = d (Rows.headOf q)) (r : Fin 128) (q : Fin 1024) :
    k0_pay9 (F := Ideal) (k0_pay2 v0 v1 v3 v7) (k0_pay3 v11) (k0_pay4 v0 v1 v3 v7 v11) (k0_pay5 v0 v1 v3 v7 v11) (k0_pay6 v0 v1 v3 v7)
        (k0_pay7 v0 v1 v3 v7) v71 v79 v80 (ix2 r q)
      = v79 (ix2 r q) + v80 (ix2 r q) * Rows.mm (Rows.groupRms (Rows.gated (fun k => v0 (ix2 r k)) (fun k => v3 (ix2 r k))
          (fun k => v7 (ix2 r k)) d) (fun k => v11 (ix2 0 k))) (fun k j => v71 (ix2 k j)) q := by
  have ew : (fun k => k0_pay3 (F := Ideal) v11 (ix2 0 k)) = fun k => v11 (ix2 0 k) := funext fun k => pay3_apply v11 k
  have eg : (fun k => k0_pay2 (F := Ideal) v0 v1 v3 v7 (ix2 r k)) = Rows.gated (fun k => v0 (ix2 r k)) (fun k => v3 (ix2 r k)) (fun k => v7 (ix2 r k)) d :=
    funext fun k => by rw [pay2_apply, hd]; rfl
  refine (pay9_apply _ _ _ _ _ _ v71 v79 v80 (fun r q => ?_) (fun r q => ?_) (fun r q => pay6_apply v0 v1 v3 v7 r q)
    (fun r q => pay7_apply v0 v1 v3 v7 r q) r q).trans ?_
  · refine (pay4_apply v0 v1 v3 v7 v11 r q).trans ?_
    rw [ew]
  · refine (pay5_apply v0 v1 v3 v7 v11 r q).trans ?_
    rw [ew]
  · rw [ew, eg]

/-- The block that is stored, from the kernel's inputs. -/
theorem block_apply (x0 : Vec Ideal S128x1024 .f32) (x1 x2 x3 : Vec Ideal S128x2048 .f32) (x4 x5 x6 x7 : Vec Ideal S128x1024 .f32)
    (x8 x9 : Vec Ideal S1x2048 .f32) (x10 : Vec Ideal S2048x1024 .bf16) (x11 x12 : Vec Ideal S1024x1024 .bf16) (x13 : Vec Ideal S1x1024 .f32)
    (x14 x15 : Vec Ideal S1024x2816 .bf16) (x16 : Vec Ideal S2816x1024 .bf16) (x17 : Vec Ideal S1x1024 .f32) (d : Fin 32 → EReal)
    (hd : ∀ q, x8 (ix2 0 q) = d (Rows.headOf q)) (r : Fin 128) (q : Fin 1024) :
    k0_pay1 (F := Ideal)
        (k0_pay10 (k0_pay8 x7 x11) (k0_pay9 (k0_pay2 x1 x8 x2 x3) (k0_pay3 x9) (k0_pay4 x1 x8 x2 x3 x9) (k0_pay5 x1 x8 x2 x3 x9)
          (k0_pay6 x1 x8 x2 x3) (k0_pay7 x1 x8 x2 x3) x10 x4 x5) x6 x0 x12)
        (k0_pay11 x17)
        (k0_pay12 (k0_pay8 x7 x11) (k0_pay9 (k0_pay2 x1 x8 x2 x3) (k0_pay3 x9) (k0_pay4 x1 x8 x2 x3 x9) (k0_pay5 x1 x8 x2 x3 x9)
          (k0_pay6 x1 x8 x2 x3) (k0_pay7 x1 x8 x2 x3) x10 x4 x5) x6 x0 x12 x13 x14 x15)
        (k0_pay13 x16) (constant S128x1024 .f32 0x00000000#32) (ix2 r q)
      = Rows.ffnOut (Rows.joined (fun k => x0 (ix2 r k)) (fun k => x1 (ix2 r k)) (fun k => x2 (ix2 r k)) (fun k => x3 (ix2 r k))
          (fun k => x4 (ix2 r k)) (fun k => x5 (ix2 r k)) (fun k => x6 (ix2 r k)) (fun k => x7 (ix2 r k)) d (fun k => x9 (ix2 0 k))
          (fun k j => x10 (ix2 k j)) (fun k j => x11 (ix2 k j)) (fun k j => x12 (ix2 k j))) (fun k => x13 (ix2 0 k))
          (fun k j => x14 (ix2 k j)) (fun k j => x15 (ix2 k j)) (fun k j => x16 (ix2 k j)) (fun k => x17 (ix2 0 k)) q := by
  have hm : ∀ q, _ := merged_apply x1 x8 x2 x3 x9 x10 x4 x5 d hd r
  have ha : ∀ q, _ := pay8_apply x7 x11 r
  generalize k0_pay9 (F := Ideal) (k0_pay2 x1 x8 x2 x3) (k0_pay3 x9) (k0_pay4 x1 x8 x2 x3 x9) (k0_pay5 x1 x8 x2 x3 x9)
    (k0_pay6 x1 x8 x2 x3) (k0_pay7 x1 x8 x2 x3) x10 x4 x5 = v82 at hm ⊢
  generalize k0_pay8 (F := Ideal) x7 x11 = v78 at ha ⊢
  have hj : ∀ k, k0_pay10 (F := Ideal) v78 v82 x6 x0 x12 (ix2 r k) = Rows.joined (fun k => x0 (ix2 r k)) (fun k => x1 (ix2 r k))
      (fun k => x2 (ix2 r k)) (fun k => x3 (ix2 r k)) (fun k => x4 (ix2 r k)) (fun k => x5 (ix2 r k)) (fun k => x6 (ix2 r k))
      (fun k => x7 (ix2 r k)) d (fun k => x9 (ix2 0 k)) (fun k j => x10 (ix2 k j)) (fun k j => x11 (ix2 k j)) (fun k j => x12 (ix2 k j)) k :=
    fun k => by
      refine (pay10_apply v78 v82 x6 x0 x12 r k).trans (congrArg (fun z => x0 (ix2 r k) + Rows.mm z (fun k j => x12 (ix2 k j)) k) (funext fun j => ?_))
      rw [hm, ha]
  refine (pay1_apply _ _ _ x16 r q).trans ?_
  simp only [pay12_apply v78 v82 x6 x0 x12 x13 x14 x15 _ r hj, hj, pay11_apply]
  rfl

end Cert.BackIdeal.Rd

end
-- ==== Proof.BackValue.lean ====
/-
  The last stage's result at the end of a run: at token `r` and feature `q` it holds the row function `Rows.ffnOut` of the
  row after the mixing.
-/
module

public import proofs.«01_k».proof.Proof.BackKernel
public import Idealize.ShloMosaic.Lib.Pipeline.ValueKit
public import Idealize.ShloMosaic.Lib.StableHlo.Run
public import Idealize.ShloMosaic.Lib.Claim

@[expose] public section

set_option maxRecDepth 16384

noncomputable section

namespace Cert.BackIdeal.Rd

open Cert.BackIdeal Cert.BackIdeal.Gen Idealize.ShloMosaic Idealize.ShloMosaic.TcCoe Idealize.SL.Sem Cert
open Idealize.ShloMosaic.Pipeline (Dat)

/-- A stacked matrix of 2048 rows, its unit axis dropped and its format changed, at an index. -/
theorem cast_out_apply (X : FVec Ideal S1x2048x1024 .f32) (k : Fin 2048) (j : Fin 1024) :
    (truncf .bf16 (shapeCast S2048x1024 X shapeCasts_S1x2048x1024_S2048x1024 : FVec Ideal S2048x1024 .f32) bitsLt_bf16_f32 : FVec Ideal S2048x1024 .bf16) (ix2 k j)
      = X (ix3 0 k j) := by
  pointwise

/-- The same for a square matrix. -/
theorem cast_square_apply (X : FVec Ideal S1x1024x1024 .f32) (k : Fin 1024) (j : Fin 1024) :
    (truncf .bf16 (shapeCast S1024x1024 X shapeCasts_S1x1024x1024_S1024x1024 : FVec Ideal S1024x1024 .f32) bitsLt_bf16_f32 : FVec Ideal S1024x1024 .bf16) (ix2 k j)
      = X (ix3 0 k j) := by
  pointwise

/-- The same for the network's gate and lift. -/
theorem cast_lift_apply (X : FVec Ideal S1x1024x2816 .f32) (k : Fin 1024) (j : Fin 2816) :
    (truncf .bf16 (shapeCast S1024x2816 X shapeCasts_S1x1024x2816_S1024x2816 : FVec Ideal S1024x2816 .f32) bitsLt_bf16_f32 : FVec Ideal S1024x2816 .bf16) (ix2 k j)
      = X (ix3 0 k j) := by
  pointwise

/-- The same for the network's projection. -/
theorem cast_down_apply (X : FVec Ideal S1x2816x1024 .f32) (k : Fin 2816) (j : Fin 1024) :
    (truncf .bf16 (shapeCast S2816x1024 X shapeCasts_S1x2816x1024_S2816x1024 : FVec Ideal S2816x1024 .f32) bitsLt_bf16_f32 : FVec Ideal S2816x1024 .bf16) (ix2 k j)
      = X (ix3 0 k j) := by
  pointwise

variable (m : (ℓ : Loc nD τ sig) → Buf (Elt Ideal) ℓ)

/-- The rows as the kernel's window reads them. -/
theorem v21_apply (c : Dev nD) (r : Fin 128) (k : Fin 1024) :
    (V m c main_v21 : Vec Ideal S128x1024 .f32) (ix2 r k) = (m ((c : Thread nD τ).loc main_arg0) : Vec Ideal S128x1x1024 .f32) (ix3 r 0 k) := by
  have e : (V m c main_v21 : Vec Ideal S128x1024 .f32)
      = shapeCast S128x1024 (m ((c : Thread nD τ).loc main_arg0) : Vec Ideal S128x1x1024 .f32) shapeCasts_S128x1x1024_S128x1024 := by
    unfold V; after_results; rfl
  refine (congrFun e _).trans ?_
  generalize m _ = x
  change Vec Ideal S128x1x1024 .f32 at x
  pointwise

/-- The skip factors as the kernel's window reads them: every feature has its head's. -/
theorem v3_apply (c : Dev nD) (k : Fin 2048) :
    (V m c main_v3 : Vec Ideal S1x2048 .f32) (ix2 0 k) = (m ((c : Thread nD τ).loc main_arg8) : Vec Ideal S1x32 .f32) (ix2 0 (Rows.headOf k)) := by
  have e : (V m c main_v3 : Vec Ideal S1x2048 .f32)
      = shapeCast S1x2048 (shapeCast S2048 (broadcastInDim S32x64 ![0] bcast_S32_S32x64_0
          (shapeCast S32 (m ((c : Thread nD τ).loc main_arg8) : Vec Ideal S1x32 .f32) shapeCasts_S1x32_S32)) shapeCasts_S32x64_S2048) shapeCasts_S2048_S1x2048 := by
    unfold V; after_results; rfl
  refine (congrFun e _).trans ?_
  generalize m _ = x
  change Vec Ideal S1x32 .f32 at x
  pointwise

/-- The group weights as the kernel's window reads them. -/
theorem v5_apply (c : Dev nD) (k : Fin 2048) :
    (V m c main_v5 : Vec Ideal S1x2048 .f32) (ix2 0 k) = (m ((c : Thread nD τ).loc main_arg9) : Vec Ideal S1x2048 .f32) (ix2 0 k) := by
  have e : (V m c main_v5 : Vec Ideal S1x2048 .f32)
      = shapeCast S1x2048 (shapeCast S2048 (m ((c : Thread nD τ).loc main_arg9) : Vec Ideal S1x2048 .f32) shapeCasts_S1x2048_S2048) shapeCasts_S2048_S1x2048 := by
    unfold V; after_results; rfl
  refine (congrFun e _).trans ?_
  generalize m _ = x
  change Vec Ideal S1x2048 .f32 at x
  pointwise

/-- The network's normalization weights as the kernel's window reads them. -/
theorem v19_apply (c : Dev nD) (k : Fin 1024) :
    (V m c main_v19 : Vec Ideal S1x1024 .f32) (ix2 0 k) = (m ((c : Thread nD τ).loc main_arg13) : Vec Ideal S1x1024 .f32) (ix2 0 k) := by
  have e : (V m c main_v19 : Vec Ideal S1x1024 .f32)
      = shapeCast S1x1024 (shapeCast S1024 (m ((c : Thread nD τ).loc main_arg13) : Vec Ideal S1x1024 .f32) shapeCasts_S1x1024_S1024) shapeCasts_S1024_S1x1024 := by
    unfold V; after_results; rfl
  refine (congrFun e _).trans ?_
  generalize m _ = x
  change Vec Ideal S1x1024 .f32 at x
  pointwise

/-- The last normalization's weights as the kernel's window reads them. -/
theorem v20_apply (c : Dev nD) (k : Fin 1024) :
    (V m c main_v20 : Vec Ideal S1x1024 .f32) (ix2 0 k) = (m ((c : Thread nD τ).loc main_arg17) : Vec Ideal S1024 .f32) (ix1 k) := by
  have e : (V m c main_v20 : Vec Ideal S1x1024 .f32)
      = shapeCast S1x1024 (m ((c : Thread nD τ).loc main_arg17) : Vec Ideal S1024 .f32) shapeCasts_S1024_S1x1024 := by
    unfold V; after_results; rfl
  refine (congrFun e _).trans ?_
  generalize m _ = x
  change Vec Ideal S1024 .f32 at x
  pointwise

/-- The recurrence's projection as the kernel's window reads it. -/
theorem v7_apply (c : Dev nD) (k : Fin 2048) (j : Fin 1024) :
    (V m c main_v7 : Vec Ideal S2048x1024 .bf16) (ix2 k j) = (m ((c : Thread nD τ).loc main_arg10) : Vec Ideal S1x2048x1024 .f32) (ix3 0 k j) := by
  have e : (V m c main_v7 : Vec Ideal S2048x1024 .bf16)
      = (truncf .bf16 (shapeCast S2048x1024 (m ((c : Thread nD τ).loc main_arg10) : Vec Ideal S1x2048x1024 .f32) shapeCasts_S1x2048x1024_S2048x1024 : FVec Ideal S2048x1024 .f32) bitsLt_bf16_f32 : FVec Ideal S2048x1024 .bf16) := by
    unfold V; after_results; rfl
  exact (congrFun e _).trans (cast_out_apply _ k j)

/-- The attention's projection as the kernel's window reads it. -/
theorem v9_apply (c : Dev nD) (k : Fin 1024) (j : Fin 1024) :
    (V m c main_v9 : Vec Ideal S1024x1024 .bf16) (ix2 k j) = (m ((c : Thread nD τ).loc main_arg11) : Vec Ideal S1x1024x1024 .f32) (ix3 0 k j) := by
  have e : (V m c main_v9 : Vec Ideal S1024x1024 .bf16)
      = (truncf .bf16 (shapeCast S1024x1024 (m ((c : Thread nD τ).loc main_arg11) : Vec Ideal S1x1024x1024 .f32) shapeCasts_S1x1024x1024_S1024x1024 : FVec Ideal S1024x1024 .f32) bitsLt_bf16_f32 : FVec Ideal S1024x1024 .bf16) := by
    unfold V; after_results; rfl
  exact (congrFun e _).trans (cast_square_apply _ k j)

/-- The merged branches' projection as the kernel's window reads it. -/
theorem v11_apply (c : Dev nD) (k : Fin 1024) (j : Fin 1024) :
    (V m c main_v11 : Vec Ideal S1024x1024 .bf16) (ix2 k j) = (m ((c : Thread nD τ).loc main_arg12) : Vec Ideal S1x1024x1024 .f32) (ix3 0 k j) := by
  have e : (V m c main_v11 : Vec Ideal S1024x1024 .bf16)
      = (truncf .bf16 (shapeCast S1024x1024 (m ((c : Thread nD τ).loc main_arg12) : Vec Ideal S1x1024x1024 .f32) shapeCasts_S1x1024x1024_S1024x1024 : FVec Ideal S1024x1024 .f32) bitsLt_bf16_f32 : FVec Ideal S1024x1024 .bf16) := by
    unfold V; after_results; rfl
  exact (congrFun e _).trans (cast_square_apply _ k j)

/-- The network's gate as the kernel's window reads it. -/
theorem v13_apply (c : Dev nD) (k : Fin 1024) (j : Fin 2816) :
    (V m c main_v13 : Vec Ideal S1024x2816 .bf16) (ix2 k j) = (m ((c : Thread nD τ).loc main_arg14) : Vec Ideal S1x1024x2816 .f32) (ix3 0 k j) := by
  have e : (V m c main_v13 : Vec Ideal S1024x2816 .bf16)
      = (truncf .bf16 (shapeCast S1024x2816 (m ((c : Thread nD τ).loc main_arg14) : Vec Ideal S1x1024x2816 .f32) shapeCasts_S1x1024x2816_S1024x2816 : FVec Ideal S1024x2816 .f32) bitsLt_bf16_f32 : FVec Ideal S1024x2816 .bf16) := by
    unfold V; after_results; rfl
  exact (congrFun e _).trans (cast_lift_apply _ k j)

/-- The network's lift as the kernel's window reads it. -/
theorem v15_apply (c : Dev nD) (k : Fin 1024) (j : Fin 2816) :
    (V m c main_v15 : Vec Ideal S1024x2816 .bf16) (ix2 k j) = (m ((c : Thread nD τ).loc main_arg15) : Vec Ideal S1x1024x2816 .f32) (ix3 0 k j) := by
  have e : (V m c main_v15 : Vec Ideal S1024x2816 .bf16)
      = (truncf .bf16 (shapeCast S1024x2816 (m ((c : Thread nD τ).loc main_arg15) : Vec Ideal S1x1024x2816 .f32) shapeCasts_S1x1024x2816_S1024x2816 : FVec Ideal S1024x2816 .f32) bitsLt_bf16_f32 : FVec Ideal S1024x2816 .bf16) := by
    unfold V; after_results; rfl
  exact (congrFun e _).trans (cast_lift_apply _ k j)

/-- The network's projection as the kernel's window reads it. -/
theorem v17_apply (c : Dev nD) (k : Fin 2816) (j : Fin 1024) :
    (V m c main_v17 : Vec Ideal S2816x1024 .bf16) (ix2 k j) = (m ((c : Thread nD τ).loc main_arg16) : Vec Ideal S1x2816x1024 .f32) (ix3 0 k j) := by
  have e : (V m c main_v17 : Vec Ideal S2816x1024 .bf16)
      = (truncf .bf16 (shapeCast S2816x1024 (m ((c : Thread nD τ).loc main_arg16) : Vec Ideal S1x2816x1024 .f32) shapeCasts_S1x2816x1024_S2816x1024 : FVec Ideal S2816x1024 .f32) bitsLt_bf16_f32 : FVec Ideal S2816x1024 .bf16) := by
    unfold V; after_results; rfl
  exact (congrFun e _).trans (cast_down_apply _ k j)

/-- The last stage of eighteen arrays, one token per sequence: every row's `Rows.ffnOut` of its `Rows.joined`. -/
def G (x : Vec Ideal S128x1x1024 .f32) (s xs z : Vec Ideal S128x2048 .f32) (ga gb gc att : Vec Ideal S128x1024 .f32) (d : Vec Ideal S1x32 .f32)
    (wn : Vec Ideal S1x2048 .f32) (wo : Vec Ideal S1x2048x1024 .f32) (wa wm : Vec Ideal S1x1024x1024 .f32) (w : Vec Ideal S1x1024 .f32)
    (wg wu : Vec Ideal S1x1024x2816 .f32) (wd : Vec Ideal S1x2816x1024 .f32) (wf : Vec Ideal S1024 .f32) : Vec Ideal S128x1024 .f32 := fun i =>
  Rows.ffnOut (Rows.joined (fun k => x (ix3 (i 0) 0 k)) (fun k => s (ix2 (i 0) k)) (fun k => xs (ix2 (i 0) k)) (fun k => z (ix2 (i 0) k))
    (fun k => ga (ix2 (i 0) k)) (fun k => gb (ix2 (i 0) k)) (fun k => gc (ix2 (i 0) k)) (fun k => att (ix2 (i 0) k)) (fun h => d (ix2 0 h))
    (fun k => wn (ix2 0 k)) (fun k j => wo (ix3 0 k j)) (fun k j => wa (ix3 0 k j)) (fun k j => wm (ix3 0 k j))) (fun k => w (ix2 0 k))
    (fun k j => wg (ix3 0 k j)) (fun k j => wu (ix3 0 k j)) (fun k j => wd (ix3 0 k j)) (fun k => wf (ix1 k)) (i 1)

/-- `G` of the run's arguments. -/
abbrev Gm (c : Dev nD) : Buf (Elt Ideal) ((c : Thread nD τ).loc main_v22) :=
  G (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) (m ((c : Thread nD τ).loc main_arg15))
    (m ((c : Thread nD τ).loc main_arg16)) (m ((c : Thread nD τ).loc main_arg17))

/-- The one grid point reads and writes every array whole. -/
theorem idx_facts : ∀ t : Fin cfg0.N, win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0] ∧ win0_18.index t = ![0, 0] :=
  (by decide +kernel : ∀ t : Fin grid0.N, _)

set_option maxHeartbeats 1600000 in
/-- The result array after the run is `G` of the arguments. -/
theorem final (c : Dev nD) : (dats m 0 c).arrAt 18 cfg0.N = Gm m c := by
  refine (dats m 0 c).arrAt_eq_of_covers 18 _ (by decide +kernel) fun t hf y => ?_
  obtain ⟨e0, e1, e2, e3, e4, e5, e6, e7, e8, e9, e10, e11, e12, e13, e14, e15, e16, e17, e18⟩ := idx_facts t
  blk_simp
  rw [after0_18]
  unfold_out out0_18
  frame_out
  idx_vars y
  have hE : (win0_18.blk t).view.emb (ix2 y0 y1) = ix2 y0 y1 := by blk_ext [e18]
  refine Eq.trans ?_ (congrArg (Gm m c) hE).symm
  have h0 : (fun k => (iblk m c 0 t : Vec Ideal S128x1024 .f32) (ix2 y0 k)) = _ := funext fun k => by
    refine Eq.trans ?_ (v21_apply m c y0 k)
    blk_simp [iblk]
    refine congrArg _ ?_
    blk_ext [e0]
  have h1 : (fun k => (iblk m c 1 t : Vec Ideal S128x2048 .f32) (ix2 y0 k)) = fun k => (m ((c : Thread nD τ).loc main_arg1) : Vec Ideal S128x2048 .f32) (ix2 y0 k) := funext fun k => by
    blk_simp [iblk]
    rw [V_main_arg1]
    refine congrArg _ ?_
    blk_ext [e1]
  have h2 : (fun k => (iblk m c 2 t : Vec Ideal S128x2048 .f32) (ix2 y0 k)) = fun k => (m ((c : Thread nD τ).loc main_arg2) : Vec Ideal S128x2048 .f32) (ix2 y0 k) := funext fun k => by
    blk_simp [iblk]
    rw [V_main_arg2]
    refine congrArg _ ?_
    blk_ext [e2]
  have h3 : (fun k => (iblk m c 3 t : Vec Ideal S128x2048 .f32) (ix2 y0 k)) = fun k => (m ((c : Thread nD τ).loc main_arg3) : Vec Ideal S128x2048 .f32) (ix2 y0 k) := funext fun k => by
    blk_simp [iblk]
    rw [V_main_arg3]
    refine congrArg _ ?_
    blk_ext [e3]
  have h4 : (fun k => (iblk m c 4 t : Vec Ideal S128x1024 .f32) (ix2 y0 k)) = fun k => (m ((c : Thread nD τ).loc main_arg4) : Vec Ideal S128x1024 .f32) (ix2 y0 k) := funext fun k => by
    blk_simp [iblk]
    rw [V_main_arg4]
    refine congrArg _ ?_
    blk_ext [e4]
  have h5 : (fun k => (iblk m c 5 t : Vec Ideal S128x1024 .f32) (ix2 y0 k)) = fun k => (m ((c : Thread nD τ).loc main_arg5) : Vec Ideal S128x1024 .f32) (ix2 y0 k) := funext fun k => by
    blk_simp [iblk]
    rw [V_main_arg5]
    refine congrArg _ ?_
    blk_ext [e5]
  have h6 : (fun k => (iblk m c 6 t : Vec Ideal S128x1024 .f32) (ix2 y0 k)) = fun k => (m ((c : Thread nD τ).loc main_arg6) : Vec Ideal S128x1024 .f32) (ix2 y0 k) := funext fun k => by
    blk_simp [iblk]
    rw [V_main_arg6]
    refine congrArg _ ?_
    blk_ext [e6]
  have h7 : (fun k => (iblk m c 7 t : Vec Ideal S128x1024 .f32) (ix2 y0 k)) = fun k => (m ((c : Thread nD τ).loc main_arg7) : Vec Ideal S128x1024 .f32) (ix2 y0 k) := funext fun k => by
    blk_simp [iblk]
    rw [V_main_arg7]
    refine congrArg _ ?_
    blk_ext [e7]
  have h8 : ∀ k, (iblk m c 8 t : Vec Ideal S1x2048 .f32) (ix2 0 k) = (m ((c : Thread nD τ).loc main_arg8) : Vec Ideal S1x32 .f32) (ix2 0 (Rows.headOf k)) := fun k => by
    refine Eq.trans ?_ (v3_apply m c k)
    blk_simp [iblk]
    refine congrArg _ ?_
    blk_ext [e8]
  have h9 : (fun k => (iblk m c 9 t : Vec Ideal S1x2048 .f32) (ix2 0 k)) = _ := funext fun k => by
    refine Eq.trans ?_ (v5_apply m c k)
    blk_simp [iblk]
    refine congrArg _ ?_
    blk_ext [e9]
  have h10 : (fun k j => (iblk m c 10 t : Vec Ideal S2048x1024 .bf16) (ix2 k j)) = _ := funext fun k => funext fun j => by
    refine Eq.trans ?_ (v7_apply m c k j)
    blk_simp [iblk]
    refine congrArg _ ?_
    blk_ext [e10]
  have h11 : (fun k j => (iblk m c 11 t : Vec Ideal S1024x1024 .bf16) (ix2 k j)) = _ := funext fun k => funext fun j => by
    refine Eq.trans ?_ (v9_apply m c k j)
    blk_simp [iblk]
    refine congrArg _ ?_
    blk_ext [e11]
  have h12 : (fun k j => (iblk m c 12 t : Vec Ideal S1024x1024 .bf16) (ix2 k j)) = _ := funext fun k => funext fun j => by
    refine Eq.trans ?_ (v11_apply m c k j)
    blk_simp [iblk]
    refine congrArg _ ?_
    blk_ext [e12]
  have h13 : (fun k => (iblk m c 13 t : Vec Ideal S1x1024 .f32) (ix2 0 k)) = _ := funext fun k => by
    refine Eq.trans ?_ (v19_apply m c k)
    blk_simp [iblk]
    refine congrArg _ ?_
    blk_ext [e13]
  have h14 : (fun k j => (iblk m c 14 t : Vec Ideal S1024x2816 .bf16) (ix2 k j)) = _ := funext fun k => funext fun j => by
    refine Eq.trans ?_ (v13_apply m c k j)
    blk_simp [iblk]
    refine congrArg _ ?_
    blk_ext [e14]
  have h15 : (fun k j => (iblk m c 15 t : Vec Ideal S1024x2816 .bf16) (ix2 k j)) = _ := funext fun k => funext fun j => by
    refine Eq.trans ?_ (v15_apply m c k j)
    blk_simp [iblk]
    refine congrArg _ ?_
    blk_ext [e15]
  have h16 : (fun k j => (iblk m c 16 t : Vec Ideal S2816x1024 .bf16) (ix2 k j)) = _ := funext fun k => funext fun j => by
    refine Eq.trans ?_ (v17_apply m c k j)
    blk_simp [iblk]
    refine congrArg _ ?_
    blk_ext [e16]
  have h17 : (fun k => (iblk m c 17 t : Vec Ideal S1x1024 .f32) (ix2 0 k)) = _ := funext fun k => by
    refine Eq.trans ?_ (v20_apply m c k)
    blk_simp [iblk]
    refine congrArg _ ?_
    blk_ext [e17]
  refine (block_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (fun h => (m ((c : Thread nD τ).loc main_arg8) : Vec Ideal S1x32 .f32) (ix2 0 h)) h8 y0 y1).trans ?_
  rw [h0, h1, h2, h3, h4, h5, h6, h7, h9, h10, h11, h12, h13, h14, h15, h16, h17]
  rfl

end Cert.BackIdeal.Rd

end
-- ==== Proof.BackRef.lean ====
/-
  The last stage's reference for one token per sequence, read at an index as the layer's row functions.
-/
module

public import proofs.«01_k».proof.Proof.Gen.PlainBackIdeal.Read
public import proofs.«01_k».proof.Proof.BackRows
public import Idealize.ShloMosaic.Lib.Pointwise

@[expose] public section

set_option maxRecDepth 16384

noncomputable section

namespace Cert.PlainBackIdeal.Rd

open Cert.PlainBackIdeal Cert.PlainBackIdeal.Read Idealize.ShloMosaic Cert

variable (x0 : Vec Ideal S128x1x1024 .f32) (x1 x2 x3 : Vec Ideal S128x2048 .f32) (x4 x5 x6 x7 : Vec Ideal S128x1024 .f32)
  (x8 : Vec Ideal S1x32 .f32) (x9 : Vec Ideal S1x2048 .f32) (x10 : Vec Ideal S1x2048x1024 .f32) (x11 x12 : Vec Ideal S1x1024x1024 .f32)
  (x13 : Vec Ideal S1x1024 .f32) (x14 x15 : Vec Ideal S1x1024x2816 .f32) (x16 : Vec Ideal S1x2816x1024 .f32) (x17 : Vec Ideal S1024 .f32)

/-- The recurrence's output with its skip term, before the gate. -/
theorem v9_apply (r : Fin 128) (q : Fin 2048) :
    val_main_v9 (F := Ideal) x1 x2 x8 (ix2 r q) = x1 (ix2 r q) + x8 (ix2 0 (Rows.headOf q)) * x2 (ix2 r q) := by
  pointwise [val_main_v9, val_main_v8, val_main_v7, val_main_v6, val_main_v5, val_main_v4, val_main_v3, val_main_v2, val_main_v1]

/-- The gated output. -/
theorem v11_apply (r : Fin 128) (q : Fin 2048) :
    val_main_v11 (F := Ideal) x1 x2 x3 x8 (ix2 r q)
      = Rows.gated (fun k => x1 (ix2 r k)) (fun k => x2 (ix2 r k)) (fun k => x3 (ix2 r k)) (fun h => x8 (ix2 0 h)) q := by
  have e := v9_apply x1 x2 x8 r q
  unfold Rows.gated Rows.silu Ideal.logistic
  unfold val_main_v11
  generalize val_main_v9 (F := Ideal) x1 x2 x8 = y at e ⊢
  pointwise [val_main_v10, val_main_call0_v0, val_main_call0_v1, val_main_call0_v2, val_main_call0_v3, val_main_call0_v4, val_main_call0_v5, val_main_call0_cst, val_main_call0_cst_0]
  exact congrArg (· * _) e

/-- The groups' normalization. -/
theorem v27_apply (r : Fin 128) (q : Fin 2048) :
    val_main_v27 (F := Ideal) x1 x2 x3 x8 x9 (ix2 r q)
      = Rows.groupRms (Rows.gated (fun k => x1 (ix2 r k)) (fun k => x2 (ix2 r k)) (fun k => x3 (ix2 r k)) (fun h => x8 (ix2 0 h))) (fun k => x9 (ix2 0 k)) q := by
  have e : (Rows.gated (fun k => x1 (ix2 r k)) (fun k => x2 (ix2 r k)) (fun k => x3 (ix2 r k)) (fun h => x8 (ix2 0 h)))
      = fun q => val_main_v11 (F := Ideal) x1 x2 x3 x8 (ix2 r q) := funext fun q => (v11_apply x1 x2 x3 x8 r q).symm
  rw [e]
  unfold Rows.groupRms Rows.groupWidth Rows.eps val_main_v27 val_main_v24 val_main_v23 val_main_v22 val_main_v21 val_main_v20 val_main_v18 val_main_v16 val_main_v15 val_main_v14 val_main_v13
  generalize val_main_v11 (F := Ideal) x1 x2 x3 x8 = y
  pointwise [val_main_v26, val_main_v25, val_main_v12, val_main_v19, val_main_v17, val_main_cst, val_main_cst_0, val_main_cst_1]

/-- The row after the mixing. -/
theorem v38_apply (r : Fin 128) (q : Fin 1024) :
    val_main_v38 (F := Ideal) x0 x1 x2 x3 x4 x5 x6 x7 x8 x9 x10 x11 x12 (ix2 r q)
      = Rows.joined (fun k => x0 (ix3 r 0 k)) (fun k => x1 (ix2 r k)) (fun k => x2 (ix2 r k)) (fun k => x3 (ix2 r k)) (fun k => x4 (ix2 r k))
          (fun k => x5 (ix2 r k)) (fun k => x6 (ix2 r k)) (fun k => x7 (ix2 r k)) (fun h => x8 (ix2 0 h)) (fun k => x9 (ix2 0 k))
          (fun k j => x10 (ix3 0 k j)) (fun k j => x11 (ix3 0 k j)) (fun k j => x12 (ix3 0 k j)) q := by
  unfold Rows.joined Rows.mm
  simp only [← v27_apply]
  unfold val_main_v38 val_main_v37 val_main_v35 val_main_v33 val_main_v32 val_main_v29
  generalize val_main_v27 (F := Ideal) x1 x2 x3 x8 x9 = y
  pointwise [val_main_v0, val_main_v36, val_main_v34, val_main_v31, val_main_v30, val_main_v28]

/-- The rows after the feed-forward network. -/
theorem v61_apply (r : Fin 128) (q : Fin 1024) :
    val_main_v61 (F := Ideal) x0 x1 x2 x3 x4 x5 x6 x7 x8 x9 x10 x11 x12 x13 x14 x15 x16 (ix2 r q)
      = val_main_v38 (F := Ideal) x0 x1 x2 x3 x4 x5 x6 x7 x8 x9 x10 x11 x12 (ix2 r q)
        + Rows.ffn (fun k => val_main_v38 (F := Ideal) x0 x1 x2 x3 x4 x5 x6 x7 x8 x9 x10 x11 x12 (ix2 r k)) (fun k => x13 (ix2 0 k))
          (fun k j => x14 (ix3 0 k j)) (fun k j => x15 (ix3 0 k j)) (fun k j => x16 (ix3 0 k j)) q := by
  unfold Rows.ffn Rows.silu Rows.mm Ideal.logistic Rows.rms Rows.eps Rows.width
  unfold val_main_v61 val_main_v60 val_main_v59 val_main_v58 val_main_v57 val_main_call1_v5 val_main_call1_v3 val_main_call1_v1 val_main_call1_v0 val_main_v56 val_main_v52 val_main_v49 val_main_v48 val_main_v47 val_main_v46 val_main_v44 val_main_v42 val_main_v41 val_main_v40
  generalize val_main_v38 (F := Ideal) x0 x1 x2 x3 x4 x5 x6 x7 x8 x9 x10 x11 x12 = y
  pointwise [val_main_call1_v2, val_main_call1_v4, val_main_call1_cst, val_main_call1_cst_0, val_main_v55, val_main_v54, val_main_v53, val_main_v51, val_main_v50, val_main_v45, val_main_v43, val_main_v39, val_main_cst_2, val_main_cst_3, val_main_cst_4]

/-- The result. -/
theorem v74_apply (r : Fin 128) (q : Fin 1024) :
    val_main_v74 (F := Ideal) x0 x1 x2 x3 x4 x5 x6 x7 x8 x9 x10 x11 x12 x13 x14 x15 x16 x17 (ix2 r q)
      = Rows.ffnOut (Rows.joined (fun k => x0 (ix3 r 0 k)) (fun k => x1 (ix2 r k)) (fun k => x2 (ix2 r k)) (fun k => x3 (ix2 r k)) (fun k => x4 (ix2 r k))
          (fun k => x5 (ix2 r k)) (fun k => x6 (ix2 r k)) (fun k => x7 (ix2 r k)) (fun h => x8 (ix2 0 h)) (fun k => x9 (ix2 0 k))
          (fun k j => x10 (ix3 0 k j)) (fun k j => x11 (ix3 0 k j)) (fun k j => x12 (ix3 0 k j))) (fun k => x13 (ix2 0 k))
          (fun k j => x14 (ix3 0 k j)) (fun k j => x15 (ix3 0 k j)) (fun k j => x16 (ix3 0 k j)) (fun k => x17 (ix1 k)) q := by
  have e : (Rows.joined (fun k => x0 (ix3 r 0 k)) (fun k => x1 (ix2 r k)) (fun k => x2 (ix2 r k)) (fun k => x3 (ix2 r k)) (fun k => x4 (ix2 r k))
          (fun k => x5 (ix2 r k)) (fun k => x6 (ix2 r k)) (fun k => x7 (ix2 r k)) (fun h => x8 (ix2 0 h)) (fun k => x9 (ix2 0 k))
          (fun k j => x10 (ix3 0 k j)) (fun k j => x11 (ix3 0 k j)) (fun k j => x12 (ix3 0 k j)))
      = fun k => val_main_v38 (F := Ideal) x0 x1 x2 x3 x4 x5 x6 x7 x8 x9 x10 x11 x12 (ix2 r k) := funext fun k => (v38_apply x0 x1 x2 x3 x4 x5 x6 x7 x8 x9 x10 x11 x12 r k).symm
  rw [e]
  have e61 : (fun k => val_main_v38 (F := Ideal) x0 x1 x2 x3 x4 x5 x6 x7 x8 x9 x10 x11 x12 (ix2 r k)
        + Rows.ffn (fun k => val_main_v38 (F := Ideal) x0 x1 x2 x3 x4 x5 x6 x7 x8 x9 x10 x11 x12 (ix2 r k)) (fun k => x13 (ix2 0 k))
          (fun k j => x14 (ix3 0 k j)) (fun k j => x15 (ix3 0 k j)) (fun k j => x16 (ix3 0 k j)) k)
      = fun k => val_main_v61 (F := Ideal) x0 x1 x2 x3 x4 x5 x6 x7 x8 x9 x10 x11 x12 x13 x14 x15 x16 (ix2 r k) :=
    funext fun k => (v61_apply x0 x1 x2 x3 x4 x5 x6 x7 x8 x9 x10 x11 x12 x13 x14 x15 x16 r k).symm
  unfold Rows.ffnOut
  rw [e61]
  unfold Rows.rms Rows.eps Rows.width val_main_v74 val_main_v71 val_main_v70 val_main_v69 val_main_v68 val_main_v66 val_main_v64 val_main_v63 val_main_v62
  generalize val_main_v61 (F := Ideal) x0 x1 x2 x3 x4 x5 x6 x7 x8 x9 x10 x11 x12 x13 x14 x15 x16 = y
  pointwise [val_main_v73, val_main_v72, val_main_v67, val_main_v65, val_main_cst_5, val_main_cst_6, val_main_cst_7]

end Cert.PlainBackIdeal.Rd

end
-- ==== Proof.BackClaim.lean ====
/-
  The last stage's claims for one token per sequence: the four runs leave their arguments as they were, the ideal program is the kernel's
  own, and the kernel's result over the extended reals is the reference's.
-/
module

public import proofs.«01_k».proof.Defs
public import proofs.«01_k».proof.Proof.Gen.Back.Frame
public import proofs.«01_k».proof.Proof.BackValue
public import proofs.«01_k».proof.Proof.BackRef
public import Idealize.ShloMosaic.Lib.Quiescent

@[expose] public section

set_option maxRecDepth 16384

noncomputable section

namespace Cert.BackClaim

open Idealize.ShloMosaic Idealize.ShloMosaic.TcCoe Idealize.SL.Sem

/-- The kernel's program runs and leaves its arguments as they were. -/
theorem frame_k : Cert.quiescent_Back := fun m ρ _ => Cert.Back.Gen.frame m ρ
/-- So does its ideal program. -/
theorem frame_i : Cert.quiescent_BackIdeal := fun m ρ _ => Cert.BackIdeal.Gen.frame m ρ
/-- So does the reference. -/
theorem frame_r : Cert.quiescent_PlainBackIdeal := fun m ρ _ =>
  (θ_run Cert.PlainBackIdeal.defs _ _).mono (fun r h => ⟨fun c => (h c).2, sem_eq_zero_of_no_sems (by decide) r.2⟩)
    (Cert.PlainBackIdeal.Value.run (F := Ideal) m ρ)
/-- The ideal program is the kernel's own: no operation was replaced. -/
theorem preserves : Cert.preserves_Back_BackIdeal := trivial

/-- The reference's result is the function `Cert.BackIdeal.Rd.G` of the arguments. -/
theorem ref_eq (x0 : Vec Ideal Cert.PlainBackIdeal.S128x1x1024 .f32) (x1 x2 x3 : Vec Ideal Cert.PlainBackIdeal.S128x2048 .f32)
    (x4 x5 x6 x7 : Vec Ideal Cert.PlainBackIdeal.S128x1024 .f32) (x8 : Vec Ideal Cert.PlainBackIdeal.S1x32 .f32) (x9 : Vec Ideal Cert.PlainBackIdeal.S1x2048 .f32)
    (x10 : Vec Ideal Cert.PlainBackIdeal.S1x2048x1024 .f32) (x11 x12 : Vec Ideal Cert.PlainBackIdeal.S1x1024x1024 .f32) (x13 : Vec Ideal Cert.PlainBackIdeal.S1x1024 .f32)
    (x14 x15 : Vec Ideal Cert.PlainBackIdeal.S1x1024x2816 .f32) (x16 : Vec Ideal Cert.PlainBackIdeal.S1x2816x1024 .f32) (x17 : Vec Ideal Cert.PlainBackIdeal.S1024 .f32) :
    Cert.PlainBackIdeal.Read.val_main_v74 (F := Ideal) x0 x1 x2 x3 x4 x5 x6 x7 x8 x9 x10 x11 x12 x13 x14 x15 x16 x17
      = Cert.BackIdeal.Rd.G x0 x1 x2 x3 x4 x5 x6 x7 x8 x9 x10 x11 x12 x13 x14 x15 x16 x17 := by
  funext i
  idx_vars i
  exact Cert.PlainBackIdeal.Rd.v74_apply x0 x1 x2 x3 x4 x5 x6 x7 x8 x9 x10 x11 x12 x13 x14 x15 x16 x17 i0 i1

/-- Over the extended reals the kernel and the reference compute one function of arguments that agree. -/
theorem algebraic : Cert.algebraic_BackIdeal_PlainBackIdeal := by
  intro m ρ m' ρ' _ hag
  refine ⟨fun c => Cert.BackIdeal.Rd.Gm m c, ?_, ?_⟩
  · exact (θ_run Cert.BackIdeal.defs _ _).mono (fun _ h c => ⟨(h c).1.trans (Cert.BackIdeal.Rd.final m c), (h c).2⟩)
      (Cert.BackIdeal.Value.run_blocks (F := Ideal) m ρ)
  · refine (θ_run Cert.PlainBackIdeal.defs _ _).mono (fun _ h c => ⟨(h c).1.trans ?_, (h c).2⟩)
      (Cert.PlainBackIdeal.Value.run (F := Ideal) m' ρ')
    obtain ⟨h0, h1, h2, h3, h4, h5, h6, h7, h8, h9, h10, h11, h12, h13, h14, h15, h16, h17⟩ := hag c
    refine (Cert.PlainBackIdeal.Read.val_main_v74_eq _).trans ((ref_eq _ _ _ _ _ _ _ _ _ _ _ _ _ _ _ _ _ _).trans ?_)
    show Cert.BackIdeal.Rd.G (m' ((c : Thread Cert.PlainBackIdeal.nD Cert.PlainBackIdeal.τ).loc Cert.PlainBackIdeal.main_arg0)) (m' ((c : Thread Cert.PlainBackIdeal.nD Cert.PlainBackIdeal.τ).loc Cert.PlainBackIdeal.main_arg1))
      (m' ((c : Thread Cert.PlainBackIdeal.nD Cert.PlainBackIdeal.τ).loc Cert.PlainBackIdeal.main_arg2)) (m' ((c : Thread Cert.PlainBackIdeal.nD Cert.PlainBackIdeal.τ).loc Cert.PlainBackIdeal.main_arg3))
      (m' ((c : Thread Cert.PlainBackIdeal.nD Cert.PlainBackIdeal.τ).loc Cert.PlainBackIdeal.main_arg4)) (m' ((c : Thread Cert.PlainBackIdeal.nD Cert.PlainBackIdeal.τ).loc Cert.PlainBackIdeal.main_arg5))
      (m' ((c : Thread Cert.PlainBackIdeal.nD Cert.PlainBackIdeal.τ).loc Cert.PlainBackIdeal.main_arg6)) (m' ((c : Thread Cert.PlainBackIdeal.nD Cert.PlainBackIdeal.τ).loc Cert.PlainBackIdeal.main_arg7))
      (m' ((c : Thread Cert.PlainBackIdeal.nD Cert.PlainBackIdeal.τ).loc Cert.PlainBackIdeal.main_arg8)) (m' ((c : Thread Cert.PlainBackIdeal.nD Cert.PlainBackIdeal.τ).loc Cert.PlainBackIdeal.main_arg9))
      (m' ((c : Thread Cert.PlainBackIdeal.nD Cert.PlainBackIdeal.τ).loc Cert.PlainBackIdeal.main_arg10)) (m' ((c : Thread Cert.PlainBackIdeal.nD Cert.PlainBackIdeal.τ).loc Cert.PlainBackIdeal.main_arg11))
      (m' ((c : Thread Cert.PlainBackIdeal.nD Cert.PlainBackIdeal.τ).loc Cert.PlainBackIdeal.main_arg12)) (m' ((c : Thread Cert.PlainBackIdeal.nD Cert.PlainBackIdeal.τ).loc Cert.PlainBackIdeal.main_arg13))
      (m' ((c : Thread Cert.PlainBackIdeal.nD Cert.PlainBackIdeal.τ).loc Cert.PlainBackIdeal.main_arg14)) (m' ((c : Thread Cert.PlainBackIdeal.nD Cert.PlainBackIdeal.τ).loc Cert.PlainBackIdeal.main_arg15))
      (m' ((c : Thread Cert.PlainBackIdeal.nD Cert.PlainBackIdeal.τ).loc Cert.PlainBackIdeal.main_arg16)) (m' ((c : Thread Cert.PlainBackIdeal.nD Cert.PlainBackIdeal.τ).loc Cert.PlainBackIdeal.main_arg17)) = _
    rw [h0, h1, h2, h3, h4, h5, h6, h7, h8, h9, h10, h11, h12, h13, h14, h15, h16, h17]

end Cert.BackClaim

end
-- ==== Proof.FrontFrameIdeal.lean ====
/-
  The frame of the sample's first call (its ideal program): what the region's arrays hold when it is entered, what each output's
  block holds after the body, the body's triple, the run and its frame. The text follows the generated frame of the smaller
  calls; the two steps over the body's 29 arrays are given more steps than there.
-/
module

public import proofs.«01_k».proof.Proof.Gen.FrontIdeal.Launch
public import proofs.«01_k».proof.Proof.Gen.FrontIdeal.Skeleton
public import proofs.«01_k».proof.Proof.Gen.FrontIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1740000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_FrontIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

abbrev r0_0 : Rect S128x1024 := Rect.unit (s := S128x1024) ![0, 0] S128x1024.size inb_S128x1024_S128x1024_0_0
abbrev r0_1 : Rect S1x1024 := Rect.unit (s := S1x1024) ![0, 0] S1x1024.size inb_S1x1024_S1x1024_0_0
abbrev r0_2 : Rect S1024x3072 := Rect.unit (s := S1024x3072) ![0, 0] S1024x1024.size inb_S1024x3072_S1024x1024_0_0
abbrev r0_3 : Rect S1024x3072 := Rect.unit (s := S1024x3072) ![0, 1024] S1024x1024.size inb_S1024x3072_S1024x1024_0_1024
abbrev r0_4 : Rect S1024x3072 := Rect.unit (s := S1024x3072) ![0, 2048] S1024x1024.size inb_S1024x3072_S1024x1024_0_2048
abbrev r0_5 : Rect S128x2048 := Rect.unit (s := S128x2048) ![0, 0] S128x1024.size inb_S128x2048_S128x1024_0_0
abbrev r0_6 : Rect S128x2048 := Rect.unit (s := S128x2048) ![0, 1024] S128x1024.size inb_S128x2048_S128x1024_0_1024
abbrev r0_7 : Rect S3x1024 := Rect.unit (s := S3x1024) ![0, 0] S3x1024.size inb_S3x1024_S3x1024_0_0
abbrev r0_8 : Rect S1024x1024 := Rect.unit (s := S1024x1024) ![0, 0] S1024x1024.size inb_S1024x1024_S1024x1024_0_0
abbrev r0_9 : Rect S1024x2048 := Rect.unit (s := S1024x2048) ![0, 0] S1024x2048.size inb_S1024x2048_S1024x2048_0_0
abbrev r0_10 : Rect S128x2048 := Rect.unit (s := S128x2048) ![0, 0] S128x2048.size inb_S128x2048_S128x2048_0_0
abbrev r0_11 : Rect S1024x128 := Rect.unit (s := S1024x128) ![0, 0] S1024x128.size inb_S1024x128_S1024x128_0_0
abbrev r0_12 : Rect S1x128 := Rect.unit (s := S1x128) ![0, 0] S1x128.size inb_S1x128_S1x128_0_0
abbrev r0_13 : Rect S128x128 := Rect.unit (s := S128x128) ![0, 0] S128x128.size inb_S128x128_S128x128_0_0
abbrev r0_14 : Rect S1024x3072 := Rect.unit (s := S1024x3072) ![0, 0] S1024x512.size inb_S1024x3072_S1024x512_0_0
abbrev r0_15 : Rect S128x9216 := Rect.unit (s := S128x9216) ![0, 0] S128x512.size inb_S128x9216_S128x512_0_0
abbrev r0_16 : Rect S128x9216 := Rect.unit (s := S128x9216) ![0, 3072] S128x512.size inb_S128x9216_S128x512_0_3072
abbrev r0_17 : Rect S128x9216 := Rect.unit (s := S128x9216) ![0, 6144] S128x512.size inb_S128x9216_S128x512_0_6144
abbrev r0_18 : Rect S4x3072 := Rect.unit (s := S4x3072) ![0, 0] S4x512.size inb_S4x3072_S4x512_0_0
abbrev r0_19 : Rect S1x3072 := Rect.unit (s := S1x3072) ![0, 0] S1x512.size inb_S1x3072_S1x512_0_0
abbrev r0_20 : Rect S128x2048 := Rect.unit (s := S128x2048) ![0, 0] S128x512.size inb_S128x2048_S128x512_0_0
abbrev r0_21 : Rect S2048x128 := Rect.unit (s := S2048x128) ![0, 0] S128x128.size inb_S2048x128_S128x128_0_0
abbrev r0_22 : Rect S2048x128 := Rect.unit (s := S2048x128) ![128, 0] S128x128.size inb_S2048x128_S128x128_128_0
abbrev r0_23 : Rect S2048x128 := Rect.unit (s := S2048x128) ![256, 0] S128x128.size inb_S2048x128_S128x128_256_0
abbrev r0_24 : Rect S2048x128 := Rect.unit (s := S2048x128) ![384, 0] S128x128.size inb_S2048x128_S128x128_384_0
abbrev r0_25 : Rect S1024x3072 := Rect.unit (s := S1024x3072) ![0, 512] S1024x512.size inb_S1024x3072_S1024x512_0_512
abbrev r0_26 : Rect S128x9216 := Rect.unit (s := S128x9216) ![0, 512] S128x512.size inb_S128x9216_S128x512_0_512
abbrev r0_27 : Rect S128x9216 := Rect.unit (s := S128x9216) ![0, 3584] S128x512.size inb_S128x9216_S128x512_0_3584
abbrev r0_28 : Rect S128x9216 := Rect.unit (s := S128x9216) ![0, 6656] S128x512.size inb_S128x9216_S128x512_0_6656
abbrev r0_29 : Rect S4x3072 := Rect.unit (s := S4x3072) ![0, 512] S4x512.size inb_S4x3072_S4x512_0_512
abbrev r0_30 : Rect S1x3072 := Rect.unit (s := S1x3072) ![0, 512] S1x512.size inb_S1x3072_S1x512_0_512
abbrev r0_31 : Rect S128x2048 := Rect.unit (s := S128x2048) ![0, 512] S128x512.size inb_S128x2048_S128x512_0_512
abbrev r0_32 : Rect S2048x128 := Rect.unit (s := S2048x128) ![512, 0] S128x128.size inb_S2048x128_S128x128_512_0
abbrev r0_33 : Rect S2048x128 := Rect.unit (s := S2048x128) ![640, 0] S128x128.size inb_S2048x128_S128x128_640_0
abbrev r0_34 : Rect S2048x128 := Rect.unit (s := S2048x128) ![768, 0] S128x128.size inb_S2048x128_S128x128_768_0
abbrev r0_35 : Rect S2048x128 := Rect.unit (s := S2048x128) ![896, 0] S128x128.size inb_S2048x128_S128x128_896_0
abbrev r0_36 : Rect S1024x3072 := Rect.unit (s := S1024x3072) ![0, 1024] S1024x512.size inb_S1024x3072_S1024x512_0_1024
abbrev r0_37 : Rect S128x9216 := Rect.unit (s := S128x9216) ![0, 1024] S128x512.size inb_S128x9216_S128x512_0_1024
abbrev r0_38 : Rect S128x9216 := Rect.unit (s := S128x9216) ![0, 4096] S128x512.size inb_S128x9216_S128x512_0_4096
abbrev r0_39 : Rect S128x9216 := Rect.unit (s := S128x9216) ![0, 7168] S128x512.size inb_S128x9216_S128x512_0_7168
abbrev r0_40 : Rect S4x3072 := Rect.unit (s := S4x3072) ![0, 1024] S4x512.size inb_S4x3072_S4x512_0_1024
abbrev r0_41 : Rect S1x3072 := Rect.unit (s := S1x3072) ![0, 1024] S1x512.size inb_S1x3072_S1x512_0_1024
abbrev r0_42 : Rect S128x2048 := Rect.unit (s := S128x2048) ![0, 1024] S128x512.size inb_S128x2048_S128x512_0_1024
abbrev r0_43 : Rect S2048x128 := Rect.unit (s := S2048x128) ![1024, 0] S128x128.size inb_S2048x128_S128x128_1024_0
abbrev r0_44 : Rect S2048x128 := Rect.unit (s := S2048x128) ![1152, 0] S128x128.size inb_S2048x128_S128x128_1152_0
abbrev r0_45 : Rect S2048x128 := Rect.unit (s := S2048x128) ![1280, 0] S128x128.size inb_S2048x128_S128x128_1280_0
abbrev r0_46 : Rect S2048x128 := Rect.unit (s := S2048x128) ![1408, 0] S128x128.size inb_S2048x128_S128x128_1408_0
abbrev r0_47 : Rect S1024x3072 := Rect.unit (s := S1024x3072) ![0, 1536] S1024x512.size inb_S1024x3072_S1024x512_0_1536
abbrev r0_48 : Rect S128x9216 := Rect.unit (s := S128x9216) ![0, 1536] S128x512.size inb_S128x9216_S128x512_0_1536
abbrev r0_49 : Rect S128x9216 := Rect.unit (s := S128x9216) ![0, 4608] S128x512.size inb_S128x9216_S128x512_0_4608
abbrev r0_50 : Rect S128x9216 := Rect.unit (s := S128x9216) ![0, 7680] S128x512.size inb_S128x9216_S128x512_0_7680
abbrev r0_51 : Rect S4x3072 := Rect.unit (s := S4x3072) ![0, 1536] S4x512.size inb_S4x3072_S4x512_0_1536
abbrev r0_52 : Rect S1x3072 := Rect.unit (s := S1x3072) ![0, 1536] S1x512.size inb_S1x3072_S1x512_0_1536
abbrev r0_53 : Rect S128x2048 := Rect.unit (s := S128x2048) ![0, 1536] S128x512.size inb_S128x2048_S128x512_0_1536
abbrev r0_54 : Rect S2048x128 := Rect.unit (s := S2048x128) ![1536, 0] S128x128.size inb_S2048x128_S128x128_1536_0
abbrev r0_55 : Rect S2048x128 := Rect.unit (s := S2048x128) ![1664, 0] S128x128.size inb_S2048x128_S128x128_1664_0
abbrev r0_56 : Rect S2048x128 := Rect.unit (s := S2048x128) ![1792, 0] S128x128.size inb_S2048x128_S128x128_1792_0
abbrev r0_57 : Rect S2048x128 := Rect.unit (s := S2048x128) ![1920, 0] S128x128.size inb_S2048x128_S128x128_1920_0
abbrev r0_58 : Rect S1024x3072 := Rect.unit (s := S1024x3072) ![0, 2048] S1024x512.size inb_S1024x3072_S1024x512_0_2048
abbrev r0_59 : Rect S128x9216 := Rect.unit (s := S128x9216) ![0, 2048] S128x512.size inb_S128x9216_S128x512_0_2048
abbrev r0_60 : Rect S128x9216 := Rect.unit (s := S128x9216) ![0, 5120] S128x512.size inb_S128x9216_S128x512_0_5120
abbrev r0_61 : Rect S128x9216 := Rect.unit (s := S128x9216) ![0, 8192] S128x512.size inb_S128x9216_S128x512_0_8192
abbrev r0_62 : Rect S4x3072 := Rect.unit (s := S4x3072) ![0, 2048] S4x512.size inb_S4x3072_S4x512_0_2048
abbrev r0_63 : Rect S1x3072 := Rect.unit (s := S1x3072) ![0, 2048] S1x512.size inb_S1x3072_S1x512_0_2048
abbrev r0_64 : Rect S128x512 := Rect.unit (s := S128x512) ![0, 0] S128x512.size inb_S128x512_S128x512_0_0
abbrev r0_65 : Rect S1024x3072 := Rect.unit (s := S1024x3072) ![0, 2560] S1024x512.size inb_S1024x3072_S1024x512_0_2560
abbrev r0_66 : Rect S128x9216 := Rect.unit (s := S128x9216) ![0, 2560] S128x512.size inb_S128x9216_S128x512_0_2560
abbrev r0_67 : Rect S128x9216 := Rect.unit (s := S128x9216) ![0, 5632] S128x512.size inb_S128x9216_S128x512_0_5632
abbrev r0_68 : Rect S128x9216 := Rect.unit (s := S128x9216) ![0, 8704] S128x512.size inb_S128x9216_S128x512_0_8704
abbrev r0_69 : Rect S4x3072 := Rect.unit (s := S4x3072) ![0, 2560] S4x512.size inb_S4x3072_S4x512_0_2560
abbrev r0_70 : Rect S1x3072 := Rect.unit (s := S1x3072) ![0, 2560] S1x512.size inb_S1x3072_S1x512_0_2560

/-! ## What the body leaves in each output window's buffer -/

/-! ### Values of the body that the stores' payloads, spelt out, would write more than once

    Each is a vector the body binds (often a part call's result), stated over the input windows' blocks and
    numbered on from the skeleton's payload functions (`k0_pay67` …, after `k0_pay66`), so that
    `out0_W` and the values after it name it instead of spelling it out; the comment after each is the printed function's
    name for the value (a count appended where that name is bound again). -/

def k0_pay67 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : FVec F S128x1024 .bf16 :=
  k0_pay1 (View.ld x0 r0_0) (View.ld x3 r0_1) -- `v16`
def k0_pay68 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : FVec F S128x1024 .f32 :=
  k0_pay3 (View.ld x0 r0_0) (View.ld x3 r0_1) (View.ld x4 r0_3) (View.ld x4 r0_4) -- `v26`
def k0_pay69 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : FVec F S128x1024 .f32 :=
  k0_pay4 (View.ld x1 r0_6) -- `v30`
def k0_pay70 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : FVec F S128x2048 .f32 :=
  k0_pay17 (k0_pay13 (k0_pay67 x0 x1 x2 x3 x4 x5 x6 x7 x8 x9 x10 x11 x12 x13 x14 x15 x16) (View.ld x7 r0_11) (View.ld x13 r0_12)) (k0_pay15 (View.ld x16 r0_10)) (k0_pay16 (k0_pay67 x0 x1 x2 x3 x4 x5 x6 x7 x8 x9 x10 x11 x12 x13 x14 x15 x16) (View.ld x7 r0_11) (View.ld x13 r0_12)) -- `v113`
def k0_pay71 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : FVec F S128x512 .f32 :=
  k0_pay21 (k0_pay67 x0 x1 x2 x3 x4 x5 x6 x7 x8 x9 x10 x11 x12 x13 x14 x15 x16) (View.ld x6 r0_14) (View.ld x2 r0_15) (View.ld x2 r0_16) (View.ld x2 r0_17) (View.ld x11 r0_18) -- `v139`
def k0_pay72 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : FVec F S128x512 .f32 :=
  k0_pay28 (k0_pay67 x0 x1 x2 x3 x4 x5 x6 x7 x8 x9 x10 x11 x12 x13 x14 x15 x16) (View.ld x6 r0_25) -- `v166`
def k0_pay73 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : FVec F S128x512 .f32 :=
  k0_pay29 (View.ld x2 r0_26) -- `v168`
def k0_pay74 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : FVec F S128x512 .f32 :=
  k0_pay30 (View.ld x2 r0_27) -- `v170`
def k0_pay75 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : FVec F S128x512 .f32 :=
  k0_pay31 (View.ld x2 r0_28) -- `v172`
def k0_pay76 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : FVec F S128x512 .f32 :=
  k0_pay41 (k0_pay67 x0 x1 x2 x3 x4 x5 x6 x7 x8 x9 x10 x11 x12 x13 x14 x15 x16) (View.ld x6 r0_36) (View.ld x2 r0_37) (View.ld x2 r0_38) (View.ld x2 r0_39) (View.ld x11 r0_40) -- `v239`
def k0_pay77 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : FVec F S128x512 .f32 :=
  k0_pay48 (k0_pay67 x0 x1 x2 x3 x4 x5 x6 x7 x8 x9 x10 x11 x12 x13 x14 x15 x16) (View.ld x6 r0_47) -- `v266`
def k0_pay78 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : FVec F S128x512 .f32 :=
  k0_pay49 (View.ld x2 r0_49) -- `v270`
def k0_pay79 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : FVec F S128x512 .f32 :=
  k0_pay50 (View.ld x2 r0_50) -- `v272`
def k0_pay80 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : FVec F S4x512 .f32 :=
  k0_pay51 (View.ld x11 r0_51) -- `v274`
def k0_pay81 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : FVec F S128x512 .f32 :=
  k0_pay52 (View.ld x2 r0_48) (View.ld x11 r0_51) -- `v277`

/-- Window 17's staging buffer after the body, from the input windows' blocks: its 1 store as pieces, LAST
    FIRST (Lib/Pipeline/FrameBody.lean `View.canon`; the payloads are the skeleton's and the values stated above). -/
def out0_17 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : Vec F S128x1024 .f32 :=
  View.canon [⟨r0_0, k0_pay8 (k0_pay67 x0 x1 x2 x3 x4 x5 x6 x7 x8 x9 x10 x11 x12 x13 x14 x15 x16) (k0_pay2 (View.ld x0 r0_0) (View.ld x3 r0_1) (View.ld x4 r0_2)) (k0_pay68 x0 x1 x2 x3 x4 x5 x6 x7 x8 x9 x10 x11 x12 x13 x14 x15 x16) (k0_pay69 x0 x1 x2 x3 x4 x5 x6 x7 x8 x9 x10 x11 x12 x13 x14 x15 x16) (k0_pay5 (View.ld x10 r0_7)) (k0_pay6 (View.ld x1 r0_5) (View.ld x10 r0_7)) (k0_pay7 (View.ld x10 r0_7)) (View.ld x15 r0_8) (View.ld x9 r0_2)⟩]

/-- Its stores tile the buffer (checked by evaluation), so they cover it. -/
theorem cover0_17 (p0 : Vec F S128x1024 .f32) (y : S128x1024.Idx) :
    ∃ pc ∈ ([⟨r0_0, p0⟩] : List (View.Piece (Elt F) S128x1024 .f32)), y ∈ pc.1.set :=
  View.cover_of_tiled [⟨r0_0, p0⟩] S128x1024.size (by rfl) y

/-- Window 18's staging buffer after the body, from the input windows' blocks: its 1 store as pieces, LAST
    FIRST (Lib/Pipeline/FrameBody.lean `View.canon`; the payloads are the skeleton's and the values stated above). -/
def out0_18 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : Vec F S128x1024 .f32 :=
  View.canon [⟨r0_0, k0_pay9 (k0_pay67 x0 x1 x2 x3 x4 x5 x6 x7 x8 x9 x10 x11 x12 x13 x14 x15 x16) (View.ld x9 r0_3)⟩]

/-- Its stores tile the buffer (checked by evaluation), so they cover it. -/
theorem cover0_18 (p0 : Vec F S128x1024 .f32) (y : S128x1024.Idx) :
    ∃ pc ∈ ([⟨r0_0, p0⟩] : List (View.Piece (Elt F) S128x1024 .f32)), y ∈ pc.1.set :=
  View.cover_of_tiled [⟨r0_0, p0⟩] S128x1024.size (by rfl) y

/-- Window 19's staging buffer after the body, from the input windows' blocks: its 1 store as pieces, LAST
    FIRST (Lib/Pipeline/FrameBody.lean `View.canon`; the payloads are the skeleton's and the values stated above). -/
def out0_19 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : Vec F S128x1024 .f32 :=
  View.canon [⟨r0_0, k0_pay10 (k0_pay67 x0 x1 x2 x3 x4 x5 x6 x7 x8 x9 x10 x11 x12 x13 x14 x15 x16) (View.ld x9 r0_4)⟩]

/-- Its stores tile the buffer (checked by evaluation), so they cover it. -/
theorem cover0_19 (p0 : Vec F S128x1024 .f32) (y : S128x1024.Idx) :
    ∃ pc ∈ ([⟨r0_0, p0⟩] : List (View.Piece (Elt F) S128x1024 .f32)), y ∈ pc.1.set :=
  View.cover_of_tiled [⟨r0_0, p0⟩] S128x1024.size (by rfl) y

/-- Window 20's staging buffer after the body, from the input windows' blocks: its 1 store as pieces, LAST
    FIRST (Lib/Pipeline/FrameBody.lean `View.canon`; the payloads are the skeleton's and the values stated above). -/
def out0_20 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : Vec F S128x2048 .f32 :=
  View.canon [⟨r0_10, k0_pay11 (k0_pay67 x0 x1 x2 x3 x4 x5 x6 x7 x8 x9 x10 x11 x12 x13 x14 x15 x16) (View.ld x5 r0_9)⟩]

/-- Its stores tile the buffer (checked by evaluation), so they cover it. -/
theorem cover0_20 (p0 : Vec F S128x2048 .f32) (y : S128x2048.Idx) :
    ∃ pc ∈ ([⟨r0_10, p0⟩] : List (View.Piece (Elt F) S128x2048 .f32)), y ∈ pc.1.set :=
  View.cover_of_tiled [⟨r0_10, p0⟩] S128x2048.size (by rfl) y

/-- Window 21's staging buffer after the body, from the input windows' blocks: its 4 stores as pieces, LAST
    FIRST (Lib/Pipeline/FrameBody.lean `View.canon`; the payloads are the skeleton's and the values stated above). -/
def out0_21 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : Vec F S128x2048 .f32 :=
  View.canon [⟨r0_53, k0_pay53 (k0_pay77 x0 x1 x2 x3 x4 x5 x6 x7 x8 x9 x10 x11 x12 x13 x14 x15 x16) (k0_pay78 x0 x1 x2 x3 x4 x5 x6 x7 x8 x9 x10 x11 x12 x13 x14 x15 x16) (k0_pay79 x0 x1 x2 x3 x4 x5 x6 x7 x8 x9 x10 x11 x12 x13 x14 x15 x16) (k0_pay80 x0 x1 x2 x3 x4 x5 x6 x7 x8 x9 x10 x11 x12 x13 x14 x15 x16) (k0_pay81 x0 x1 x2 x3 x4 x5 x6 x7 x8 x9 x10 x11 x12 x13 x14 x15 x16) (View.ld x12 r0_52)⟩,
    ⟨r0_42, k0_pay42 (k0_pay76 x0 x1 x2 x3 x4 x5 x6 x7 x8 x9 x10 x11 x12 x13 x14 x15 x16) (View.ld x12 r0_41)⟩,
    ⟨r0_31, k0_pay32 (k0_pay72 x0 x1 x2 x3 x4 x5 x6 x7 x8 x9 x10 x11 x12 x13 x14 x15 x16) (k0_pay73 x0 x1 x2 x3 x4 x5 x6 x7 x8 x9 x10 x11 x12 x13 x14 x15 x16) (k0_pay74 x0 x1 x2 x3 x4 x5 x6 x7 x8 x9 x10 x11 x12 x13 x14 x15 x16) (k0_pay75 x0 x1 x2 x3 x4 x5 x6 x7 x8 x9 x10 x11 x12 x13 x14 x15 x16) (View.ld x11 r0_29) (View.ld x12 r0_30)⟩,
    ⟨r0_20, k0_pay22 (k0_pay71 x0 x1 x2 x3 x4 x5 x6 x7 x8 x9 x10 x11 x12 x13 x14 x15 x16) (View.ld x12 r0_19)⟩]

/-- Its stores tile the buffer (checked by evaluation), so they cover it. -/
theorem cover0_21 (p0 : Vec F S128x512 .f32) (p1 : Vec F S128x512 .f32) (p2 : Vec F S128x512 .f32) (p3 : Vec F S128x512 .f32) (y : S128x2048.Idx) :
    ∃ pc ∈ ([⟨r0_53, p0⟩, ⟨r0_42, p1⟩, ⟨r0_31, p2⟩, ⟨r0_20, p3⟩] : List (View.Piece (Elt F) S128x2048 .f32)), y ∈ pc.1.set :=
  View.cover_of_tiled [⟨r0_53, p0⟩, ⟨r0_42, p1⟩, ⟨r0_31, p2⟩, ⟨r0_20, p3⟩] S128x512.size (by rfl) y

/-- Window 22's staging buffer after the body, from the input windows' blocks: its 16 stores as pieces, LAST
    FIRST (Lib/Pipeline/FrameBody.lean `View.canon`; the payloads are the skeleton's and the values stated above). -/
def out0_22 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : Vec F S2048x128 .f32 :=
  View.canon [⟨r0_57, k0_pay58 (k0_pay70 x0 x1 x2 x3 x4 x5 x6 x7 x8 x9 x10 x11 x12 x13 x14 x15 x16) (k0_pay77 x0 x1 x2 x3 x4 x5 x6 x7 x8 x9 x10 x11 x12 x13 x14 x15 x16) (k0_pay78 x0 x1 x2 x3 x4 x5 x6 x7 x8 x9 x10 x11 x12 x13 x14 x15 x16) (k0_pay79 x0 x1 x2 x3 x4 x5 x6 x7 x8 x9 x10 x11 x12 x13 x14 x15 x16) (k0_pay80 x0 x1 x2 x3 x4 x5 x6 x7 x8 x9 x10 x11 x12 x13 x14 x15 x16) (k0_pay81 x0 x1 x2 x3 x4 x5 x6 x7 x8 x9 x10 x11 x12 x13 x14 x15 x16) (View.ld x12 r0_52)⟩,
    ⟨r0_56, k0_pay57 (k0_pay70 x0 x1 x2 x3 x4 x5 x6 x7 x8 x9 x10 x11 x12 x13 x14 x15 x16) (k0_pay77 x0 x1 x2 x3 x4 x5 x6 x7 x8 x9 x10 x11 x12 x13 x14 x15 x16) (k0_pay78 x0 x1 x2 x3 x4 x5 x6 x7 x8 x9 x10 x11 x12 x13 x14 x15 x16) (k0_pay79 x0 x1 x2 x3 x4 x5 x6 x7 x8 x9 x10 x11 x12 x13 x14 x15 x16) (k0_pay80 x0 x1 x2 x3 x4 x5 x6 x7 x8 x9 x10 x11 x12 x13 x14 x15 x16) (k0_pay81 x0 x1 x2 x3 x4 x5 x6 x7 x8 x9 x10 x11 x12 x13 x14 x15 x16) (View.ld x12 r0_52)⟩,
    ⟨r0_55, k0_pay56 (k0_pay70 x0 x1 x2 x3 x4 x5 x6 x7 x8 x9 x10 x11 x12 x13 x14 x15 x16) (k0_pay77 x0 x1 x2 x3 x4 x5 x6 x7 x8 x9 x10 x11 x12 x13 x14 x15 x16) (k0_pay78 x0 x1 x2 x3 x4 x5 x6 x7 x8 x9 x10 x11 x12 x13 x14 x15 x16) (k0_pay79 x0 x1 x2 x3 x4 x5 x6 x7 x8 x9 x10 x11 x12 x13 x14 x15 x16) (k0_pay80 x0 x1 x2 x3 x4 x5 x6 x7 x8 x9 x10 x11 x12 x13 x14 x15 x16) (k0_pay81 x0 x1 x2 x3 x4 x5 x6 x7 x8 x9 x10 x11 x12 x13 x14 x15 x16) (View.ld x12 r0_52)⟩,
    ⟨r0_54, k0_pay55 (k0_pay70 x0 x1 x2 x3 x4 x5 x6 x7 x8 x9 x10 x11 x12 x13 x14 x15 x16) (k0_pay77 x0 x1 x2 x3 x4 x5 x6 x7 x8 x9 x10 x11 x12 x13 x14 x15 x16) (k0_pay78 x0 x1 x2 x3 x4 x5 x6 x7 x8 x9 x10 x11 x12 x13 x14 x15 x16) (k0_pay79 x0 x1 x2 x3 x4 x5 x6 x7 x8 x9 x10 x11 x12 x13 x14 x15 x16) (k0_pay80 x0 x1 x2 x3 x4 x5 x6 x7 x8 x9 x10 x11 x12 x13 x14 x15 x16) (k0_pay81 x0 x1 x2 x3 x4 x5 x6 x7 x8 x9 x10 x11 x12 x13 x14 x15 x16) (View.ld x12 r0_52)⟩,
    ⟨r0_46, k0_pay47 (k0_pay70 x0 x1 x2 x3 x4 x5 x6 x7 x8 x9 x10 x11 x12 x13 x14 x15 x16) (k0_pay76 x0 x1 x2 x3 x4 x5 x6 x7 x8 x9 x10 x11 x12 x13 x14 x15 x16) (View.ld x12 r0_41)⟩,
    ⟨r0_45, k0_pay46 (k0_pay70 x0 x1 x2 x3 x4 x5 x6 x7 x8 x9 x10 x11 x12 x13 x14 x15 x16) (k0_pay76 x0 x1 x2 x3 x4 x5 x6 x7 x8 x9 x10 x11 x12 x13 x14 x15 x16) (View.ld x12 r0_41)⟩,
    ⟨r0_44, k0_pay45 (k0_pay70 x0 x1 x2 x3 x4 x5 x6 x7 x8 x9 x10 x11 x12 x13 x14 x15 x16) (k0_pay76 x0 x1 x2 x3 x4 x5 x6 x7 x8 x9 x10 x11 x12 x13 x14 x15 x16) (View.ld x12 r0_41)⟩,
    ⟨r0_43, k0_pay44 (k0_pay70 x0 x1 x2 x3 x4 x5 x6 x7 x8 x9 x10 x11 x12 x13 x14 x15 x16) (k0_pay76 x0 x1 x2 x3 x4 x5 x6 x7 x8 x9 x10 x11 x12 x13 x14 x15 x16) (View.ld x12 r0_41)⟩,
    ⟨r0_35, k0_pay37 (k0_pay33 (k0_pay70 x0 x1 x2 x3 x4 x5 x6 x7 x8 x9 x10 x11 x12 x13 x14 x15 x16) (k0_pay72 x0 x1 x2 x3 x4 x5 x6 x7 x8 x9 x10 x11 x12 x13 x14 x15 x16) (k0_pay73 x0 x1 x2 x3 x4 x5 x6 x7 x8 x9 x10 x11 x12 x13 x14 x15 x16) (k0_pay74 x0 x1 x2 x3 x4 x5 x6 x7 x8 x9 x10 x11 x12 x13 x14 x15 x16) (k0_pay75 x0 x1 x2 x3 x4 x5 x6 x7 x8 x9 x10 x11 x12 x13 x14 x15 x16) (View.ld x11 r0_29) (View.ld x12 r0_30))⟩,
    ⟨r0_34, k0_pay36 (k0_pay70 x0 x1 x2 x3 x4 x5 x6 x7 x8 x9 x10 x11 x12 x13 x14 x15 x16) (k0_pay72 x0 x1 x2 x3 x4 x5 x6 x7 x8 x9 x10 x11 x12 x13 x14 x15 x16) (k0_pay73 x0 x1 x2 x3 x4 x5 x6 x7 x8 x9 x10 x11 x12 x13 x14 x15 x16) (k0_pay74 x0 x1 x2 x3 x4 x5 x6 x7 x8 x9 x10 x11 x12 x13 x14 x15 x16) (k0_pay75 x0 x1 x2 x3 x4 x5 x6 x7 x8 x9 x10 x11 x12 x13 x14 x15 x16) (View.ld x11 r0_29) (View.ld x12 r0_30)⟩,
    ⟨r0_33, k0_pay35 (k0_pay70 x0 x1 x2 x3 x4 x5 x6 x7 x8 x9 x10 x11 x12 x13 x14 x15 x16) (k0_pay72 x0 x1 x2 x3 x4 x5 x6 x7 x8 x9 x10 x11 x12 x13 x14 x15 x16) (k0_pay73 x0 x1 x2 x3 x4 x5 x6 x7 x8 x9 x10 x11 x12 x13 x14 x15 x16) (k0_pay74 x0 x1 x2 x3 x4 x5 x6 x7 x8 x9 x10 x11 x12 x13 x14 x15 x16) (k0_pay75 x0 x1 x2 x3 x4 x5 x6 x7 x8 x9 x10 x11 x12 x13 x14 x15 x16) (View.ld x11 r0_29) (View.ld x12 r0_30)⟩,
    ⟨r0_32, k0_pay34 (k0_pay70 x0 x1 x2 x3 x4 x5 x6 x7 x8 x9 x10 x11 x12 x13 x14 x15 x16) (k0_pay72 x0 x1 x2 x3 x4 x5 x6 x7 x8 x9 x10 x11 x12 x13 x14 x15 x16) (k0_pay73 x0 x1 x2 x3 x4 x5 x6 x7 x8 x9 x10 x11 x12 x13 x14 x15 x16) (k0_pay74 x0 x1 x2 x3 x4 x5 x6 x7 x8 x9 x10 x11 x12 x13 x14 x15 x16) (k0_pay75 x0 x1 x2 x3 x4 x5 x6 x7 x8 x9 x10 x11 x12 x13 x14 x15 x16) (View.ld x11 r0_29) (View.ld x12 r0_30)⟩,
    ⟨r0_24, k0_pay27 (k0_pay70 x0 x1 x2 x3 x4 x5 x6 x7 x8 x9 x10 x11 x12 x13 x14 x15 x16) (k0_pay71 x0 x1 x2 x3 x4 x5 x6 x7 x8 x9 x10 x11 x12 x13 x14 x15 x16) (View.ld x12 r0_19)⟩,
    ⟨r0_23, k0_pay26 (k0_pay70 x0 x1 x2 x3 x4 x5 x6 x7 x8 x9 x10 x11 x12 x13 x14 x15 x16) (k0_pay71 x0 x1 x2 x3 x4 x5 x6 x7 x8 x9 x10 x11 x12 x13 x14 x15 x16) (View.ld x12 r0_19)⟩,
    ⟨r0_22, k0_pay25 (k0_pay70 x0 x1 x2 x3 x4 x5 x6 x7 x8 x9 x10 x11 x12 x13 x14 x15 x16) (k0_pay71 x0 x1 x2 x3 x4 x5 x6 x7 x8 x9 x10 x11 x12 x13 x14 x15 x16) (View.ld x12 r0_19)⟩,
    ⟨r0_21, k0_pay24 (k0_pay70 x0 x1 x2 x3 x4 x5 x6 x7 x8 x9 x10 x11 x12 x13 x14 x15 x16) (k0_pay71 x0 x1 x2 x3 x4 x5 x6 x7 x8 x9 x10 x11 x12 x13 x14 x15 x16) (View.ld x12 r0_19)⟩]

/-- Its stores tile the buffer (checked by evaluation), so they cover it. -/
theorem cover0_22 (p0 : Vec F S128x128 .f32) (p1 : Vec F S128x128 .f32) (p2 : Vec F S128x128 .f32) (p3 : Vec F S128x128 .f32) (p4 : Vec F S128x128 .f32) (p5 : Vec F S128x128 .f32) (p6 : Vec F S128x128 .f32) (p7 : Vec F S128x128 .f32) (p8 : Vec F S128x128 .f32) (p9 : Vec F S128x128 .f32) (p10 : Vec F S128x128 .f32) (p11 : Vec F S128x128 .f32) (p12 : Vec F S128x128 .f32) (p13 : Vec F S128x128 .f32) (p14 : Vec F S128x128 .f32) (p15 : Vec F S128x128 .f32) (y : S2048x128.Idx) :
    ∃ pc ∈ ([⟨r0_57, p0⟩, ⟨r0_56, p1⟩, ⟨r0_55, p2⟩, ⟨r0_54, p3⟩, ⟨r0_46, p4⟩, ⟨r0_45, p5⟩, ⟨r0_44, p6⟩, ⟨r0_43, p7⟩, ⟨r0_35, p8⟩, ⟨r0_34, p9⟩, ⟨r0_33, p10⟩, ⟨r0_32, p11⟩, ⟨r0_24, p12⟩, ⟨r0_23, p13⟩, ⟨r0_22, p14⟩, ⟨r0_21, p15⟩] : List (View.Piece (Elt F) S2048x128 .f32)), y ∈ pc.1.set :=
  View.cover_of_tiled [⟨r0_57, p0⟩, ⟨r0_56, p1⟩, ⟨r0_55, p2⟩, ⟨r0_54, p3⟩, ⟨r0_46, p4⟩, ⟨r0_45, p5⟩, ⟨r0_44, p6⟩, ⟨r0_43, p7⟩, ⟨r0_35, p8⟩, ⟨r0_34, p9⟩, ⟨r0_33, p10⟩, ⟨r0_32, p11⟩, ⟨r0_24, p12⟩, ⟨r0_23, p13⟩, ⟨r0_22, p14⟩, ⟨r0_21, p15⟩] S128x128.size (by rfl) y

/-- Window 23's staging buffer after the body, from the input windows' blocks: its 1 store as pieces, LAST
    FIRST (Lib/Pipeline/FrameBody.lean `View.canon`; the payloads are the skeleton's and the values stated above). -/
def out0_23 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : Vec F S128x128 .f32 :=
  View.canon [⟨r0_13, k0_pay14 (k0_pay67 x0 x1 x2 x3 x4 x5 x6 x7 x8 x9 x10 x11 x12 x13 x14 x15 x16) (View.ld x7 r0_11) (View.ld x13 r0_12) (View.ld x14 r0_12)⟩]

/-- Its stores tile the buffer (checked by evaluation), so they cover it. -/
theorem cover0_23 (p0 : Vec F S128x128 .f32) (y : S128x128.Idx) :
    ∃ pc ∈ ([⟨r0_13, p0⟩] : List (View.Piece (Elt F) S128x128 .f32)), y ∈ pc.1.set :=
  View.cover_of_tiled [⟨r0_13, p0⟩] S128x128.size (by rfl) y

/-- Window 24's staging buffer after the body, from the input windows' blocks: its 1 store as pieces, LAST
    FIRST (Lib/Pipeline/FrameBody.lean `View.canon`; the payloads are the skeleton's and the values stated above). -/
def out0_24 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : Vec F S128x512 .f32 :=
  View.canon [⟨r0_64, k0_pay62 (k0_pay67 x0 x1 x2 x3 x4 x5 x6 x7 x8 x9 x10 x11 x12 x13 x14 x15 x16) (View.ld x6 r0_58) (View.ld x2 r0_59) (View.ld x2 r0_60) (View.ld x2 r0_61) (View.ld x11 r0_62) (View.ld x12 r0_63)⟩]

/-- Its stores tile the buffer (checked by evaluation), so they cover it. -/
theorem cover0_24 (p0 : Vec F S128x512 .f32) (y : S128x512.Idx) :
    ∃ pc ∈ ([⟨r0_64, p0⟩] : List (View.Piece (Elt F) S128x512 .f32)), y ∈ pc.1.set :=
  View.cover_of_tiled [⟨r0_64, p0⟩] S128x512.size (by rfl) y

/-- Window 25's staging buffer after the body, from the input windows' blocks: its 1 store as pieces, LAST
    FIRST (Lib/Pipeline/FrameBody.lean `View.canon`; the payloads are the skeleton's and the values stated above). -/
def out0_25 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : Vec F S128x512 .f32 :=
  View.canon [⟨r0_64, k0_pay66 (k0_pay67 x0 x1 x2 x3 x4 x5 x6 x7 x8 x9 x10 x11 x12 x13 x14 x15 x16) (View.ld x6 r0_65) (View.ld x2 r0_66) (View.ld x2 r0_67) (View.ld x2 r0_68) (View.ld x11 r0_69) (View.ld x12 r0_70)⟩]

/-- Its stores tile the buffer (checked by evaluation), so they cover it. -/
theorem cover0_25 (p0 : Vec F S128x512 .f32) (y : S128x512.Idx) :
    ∃ pc ∈ ([⟨r0_64, p0⟩] : List (View.Piece (Elt F) S128x512 .f32)), y ∈ pc.1.set :=
  View.cover_of_tiled [⟨r0_64, p0⟩] S128x512.size (by rfl) y

/-- Window 26's staging buffer after the body, from the input windows' blocks: its 1 store as pieces, LAST
    FIRST (Lib/Pipeline/FrameBody.lean `View.canon`; the payloads are the skeleton's and the values stated above). -/
def out0_26 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : Vec F S128x1024 .f32 :=
  View.canon [⟨r0_0, k0_pay12 (k0_pay67 x0 x1 x2 x3 x4 x5 x6 x7 x8 x9 x10 x11 x12 x13 x14 x15 x16) (View.ld x8 r0_8)⟩]

/-- Its stores tile the buffer (checked by evaluation), so they cover it. -/
theorem cover0_26 (p0 : Vec F S128x1024 .f32) (y : S128x1024.Idx) :
    ∃ pc ∈ ([⟨r0_0, p0⟩] : List (View.Piece (Elt F) S128x1024 .f32)), y ∈ pc.1.set :=
  View.cover_of_tiled [⟨r0_0, p0⟩] S128x1024.size (by rfl) y

/-- Window 27's staging buffer after the body, from the input windows' blocks: its 2 stores as pieces, LAST
    FIRST (Lib/Pipeline/FrameBody.lean `View.canon`; the payloads are the skeleton's and the values stated above). -/
def out0_27 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : Vec F S128x2048 .f32 :=
  View.canon [⟨r0_6, k0_pay68 x0 x1 x2 x3 x4 x5 x6 x7 x8 x9 x10 x11 x12 x13 x14 x15 x16⟩,
    ⟨r0_5, k0_pay69 x0 x1 x2 x3 x4 x5 x6 x7 x8 x9 x10 x11 x12 x13 x14 x15 x16⟩]

/-- Its stores tile the buffer (checked by evaluation), so they cover it. -/
theorem cover0_27 (p0 : Vec F S128x1024 .f32) (p1 : Vec F S128x1024 .f32) (y : S128x2048.Idx) :
    ∃ pc ∈ ([⟨r0_6, p0⟩, ⟨r0_5, p1⟩] : List (View.Piece (Elt F) S128x2048 .f32)), y ∈ pc.1.set :=
  View.cover_of_tiled [⟨r0_6, p0⟩, ⟨r0_5, p1⟩] S128x1024.size (by rfl) y

/-- Window 28's staging buffer after the body, from the input windows' blocks: its 18 stores as pieces, LAST
    FIRST (Lib/Pipeline/FrameBody.lean `View.canon`; the payloads are the skeleton's and the values stated above). -/
def out0_28 (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) : Vec F S128x9216 .f32 :=
  View.canon [⟨r0_68, k0_pay63 (k0_pay67 x0 x1 x2 x3 x4 x5 x6 x7 x8 x9 x10 x11 x12 x13 x14 x15 x16) (View.ld x6 r0_65)⟩,
    ⟨r0_67, k0_pay65 (View.ld x2 r0_68)⟩,
    ⟨r0_66, k0_pay64 (View.ld x2 r0_67)⟩,
    ⟨r0_61, k0_pay59 (k0_pay67 x0 x1 x2 x3 x4 x5 x6 x7 x8 x9 x10 x11 x12 x13 x14 x15 x16) (View.ld x6 r0_58)⟩,
    ⟨r0_60, k0_pay61 (View.ld x2 r0_61)⟩,
    ⟨r0_59, k0_pay60 (View.ld x2 r0_60)⟩,
    ⟨r0_50, k0_pay77 x0 x1 x2 x3 x4 x5 x6 x7 x8 x9 x10 x11 x12 x13 x14 x15 x16⟩,
    ⟨r0_49, k0_pay79 x0 x1 x2 x3 x4 x5 x6 x7 x8 x9 x10 x11 x12 x13 x14 x15 x16⟩,
    ⟨r0_48, k0_pay78 x0 x1 x2 x3 x4 x5 x6 x7 x8 x9 x10 x11 x12 x13 x14 x15 x16⟩,
    ⟨r0_39, k0_pay38 (k0_pay67 x0 x1 x2 x3 x4 x5 x6 x7 x8 x9 x10 x11 x12 x13 x14 x15 x16) (View.ld x6 r0_36)⟩,
    ⟨r0_38, k0_pay40 (View.ld x2 r0_39)⟩,
    ⟨r0_37, k0_pay39 (View.ld x2 r0_38)⟩,
    ⟨r0_28, k0_pay72 x0 x1 x2 x3 x4 x5 x6 x7 x8 x9 x10 x11 x12 x13 x14 x15 x16⟩,
    ⟨r0_27, k0_pay75 x0 x1 x2 x3 x4 x5 x6 x7 x8 x9 x10 x11 x12 x13 x14 x15 x16⟩,
    ⟨r0_26, k0_pay74 x0 x1 x2 x3 x4 x5 x6 x7 x8 x9 x10 x11 x12 x13 x14 x15 x16⟩,
    ⟨r0_17, k0_pay18 (k0_pay67 x0 x1 x2 x3 x4 x5 x6 x7 x8 x9 x10 x11 x12 x13 x14 x15 x16) (View.ld x6 r0_14)⟩,
    ⟨r0_16, k0_pay20 (View.ld x2 r0_17)⟩,
    ⟨r0_15, k0_pay19 (View.ld x2 r0_16)⟩]

/-- Its stores tile the buffer (checked by evaluation), so they cover it. -/
theorem cover0_28 (p0 : Vec F S128x512 .f32) (p1 : Vec F S128x512 .f32) (p2 : Vec F S128x512 .f32) (p3 : Vec F S128x512 .f32) (p4 : Vec F S128x512 .f32) (p5 : Vec F S128x512 .f32) (p6 : Vec F S128x512 .f32) (p7 : Vec F S128x512 .f32) (p8 : Vec F S128x512 .f32) (p9 : Vec F S128x512 .f32) (p10 : Vec F S128x512 .f32) (p11 : Vec F S128x512 .f32) (p12 : Vec F S128x512 .f32) (p13 : Vec F S128x512 .f32) (p14 : Vec F S128x512 .f32) (p15 : Vec F S128x512 .f32) (p16 : Vec F S128x512 .f32) (p17 : Vec F S128x512 .f32) (y : S128x9216.Idx) :
    ∃ pc ∈ ([⟨r0_68, p0⟩, ⟨r0_67, p1⟩, ⟨r0_66, p2⟩, ⟨r0_61, p3⟩, ⟨r0_60, p4⟩, ⟨r0_59, p5⟩, ⟨r0_50, p6⟩, ⟨r0_49, p7⟩, ⟨r0_48, p8⟩, ⟨r0_39, p9⟩, ⟨r0_38, p10⟩, ⟨r0_37, p11⟩, ⟨r0_28, p12⟩, ⟨r0_27, p13⟩, ⟨r0_26, p14⟩, ⟨r0_17, p15⟩, ⟨r0_16, p16⟩, ⟨r0_15, p17⟩] : List (View.Piece (Elt F) S128x9216 .f32)), y ∈ pc.1.set :=
  View.cover_of_tiled [⟨r0_68, p0⟩, ⟨r0_67, p1⟩, ⟨r0_66, p2⟩, ⟨r0_61, p3⟩, ⟨r0_60, p4⟩, ⟨r0_59, p5⟩, ⟨r0_50, p6⟩, ⟨r0_49, p7⟩, ⟨r0_48, p8⟩, ⟨r0_39, p9⟩, ⟨r0_38, p10⟩, ⟨r0_37, p11⟩, ⟨r0_28, p12⟩, ⟨r0_27, p13⟩, ⟨r0_26, p14⟩, ⟨r0_17, p15⟩, ⟨r0_16, p16⟩, ⟨r0_15, p17⟩] S128x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S128x1024 .f32) (harg1 : arg1.IsWhole) (arg2 : Memref sig .tc .vmem S128x2048 .f32) (harg2 : arg2.IsWhole) (arg3 : Memref sig .tc .vmem S128x9216 .f32) (harg3 : arg3.IsWhole) (arg4 : Memref sig .tc .vmem S1x1024 .f32) (harg4 : arg4.IsWhole) (arg5 : Memref sig .tc .vmem S1024x3072 .bf16) (harg5 : arg5.IsWhole) (arg6 : Memref sig .tc .vmem S1024x2048 .bf16) (harg6 : arg6.IsWhole) (arg7 : Memref sig .tc .vmem S1024x3072 .bf16) (harg7 : arg7.IsWhole) (arg8 : Memref sig .tc .vmem S1024x128 .bf16) (harg8 : arg8.IsWhole) (arg9 : Memref sig .tc .vmem S1024x1024 .bf16) (harg9 : arg9.IsWhole) (arg10 : Memref sig .tc .vmem S1024x3072 .bf16) (harg10 : arg10.IsWhole) (arg11 : Memref sig .tc .vmem S3x1024 .f32) (harg11 : arg11.IsWhole) (arg12 : Memref sig .tc .vmem S4x3072 .f32) (harg12 : arg12.IsWhole) (arg13 : Memref sig .tc .vmem S1x3072 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1024x1024 .bf16) (harg16 : arg16.IsWhole) (arg17 : Memref sig .tc .vmem S128x2048 .bf16) (harg17 : arg17.IsWhole) (arg18 : Memref sig .tc .vmem S128x1024 .f32) (harg18 : arg18.IsWhole) (arg19 : Memref sig .tc .vmem S128x1024 .f32) (harg19 : arg19.IsWhole) (arg20 : Memref sig .tc .vmem S128x1024 .f32) (harg20 : arg20.IsWhole) (arg21 : Memref sig .tc .vmem S128x2048 .f32) (harg21 : arg21.IsWhole) (arg22 : Memref sig .tc .vmem S128x2048 .f32) (harg22 : arg22.IsWhole) (arg23 : Memref sig .tc .vmem S2048x128 .f32) (harg23 : arg23.IsWhole) (arg24 : Memref sig .tc .vmem S128x128 .f32) (harg24 : arg24.IsWhole) (arg25 : Memref sig .tc .vmem S128x512 .f32) (harg25 : arg25.IsWhole) (arg26 : Memref sig .tc .vmem S128x512 .f32) (harg26 : arg26.IsWhole) (arg27 : Memref sig .tc .vmem S128x1024 .f32) (harg27 : arg27.IsWhole) (arg28 : Memref sig .tc .vmem S128x2048 .f32) (harg28 : arg28.IsWhole) (arg29 : Memref sig .tc .vmem S128x9216 .f32) (harg29 : arg29.IsWhole)
    (x0 : Vec F S128x1024 .f32) (x1 : Vec F S128x2048 .f32) (x2 : Vec F S128x9216 .f32) (x3 : Vec F S1x1024 .f32) (x4 : Vec F S1024x3072 .bf16) (x5 : Vec F S1024x2048 .bf16) (x6 : Vec F S1024x3072 .bf16) (x7 : Vec F S1024x128 .bf16) (x8 : Vec F S1024x1024 .bf16) (x9 : Vec F S1024x3072 .bf16) (x10 : Vec F S3x1024 .f32) (x11 : Vec F S4x3072 .f32) (x12 : Vec F S1x3072 .f32) (x13 : Vec F S1x128 .f32) (x14 : Vec F S1x128 .f32) (x15 : Vec F S1024x1024 .bf16) (x16 : Vec F S128x2048 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out0_17 x0 x1 x2 x3 x4 x5 x6 x7 x8 x9 x10 x11 x12 x13 x14 x15 x16) ∗ owns (c : Thread nD τ) arg19 fullShare (out0_18 x0 x1 x2 x3 x4 x5 x6 x7 x8 x9 x10 x11 x12 x13 x14 x15 x16) ∗ owns (c : Thread nD τ) arg20 fullShare (out0_19 x0 x1 x2 x3 x4 x5 x6 x7 x8 x9 x10 x11 x12 x13 x14 x15 x16) ∗ owns (c : Thread nD τ) arg21 fullShare (out0_20 x0 x1 x2 x3 x4 x5 x6 x7 x8 x9 x10 x11 x12 x13 x14 x15 x16) ∗ owns (c : Thread nD τ) arg22 fullShare (out0_21 x0 x1 x2 x3 x4 x5 x6 x7 x8 x9 x10 x11 x12 x13 x14 x15 x16) ∗ owns (c : Thread nD τ) arg23 fullShare (out0_22 x0 x1 x2 x3 x4 x5 x6 x7 x8 x9 x10 x11 x12 x13 x14 x15 x16) ∗ owns (c : Thread nD τ) arg24 fullShare (out0_23 x0 x1 x2 x3 x4 x5 x6 x7 x8 x9 x10 x11 x12 x13 x14 x15 x16) ∗ owns (c : Thread nD τ) arg25 fullShare (out0_24 x0 x1 x2 x3 x4 x5 x6 x7 x8 x9 x10 x11 x12 x13 x14 x15 x16) ∗ owns (c : Thread nD τ) arg26 fullShare (out0_25 x0 x1 x2 x3 x4 x5 x6 x7 x8 x9 x10 x11 x12 x13 x14 x15 x16) ∗ owns (c : Thread nD τ) arg27 fullShare (out0_26 x0 x1 x2 x3 x4 x5 x6 x7 x8 x9 x10 x11 x12 x13 x14 x15 x16) ∗ owns (c : Thread nD τ) arg28 fullShare (out0_27 x0 x1 x2 x3 x4 x5 x6 x7 x8 x9 x10 x11 x12 x13 x14 x15 x16) ∗ owns (c : Thread nD τ) arg29 fullShare (out0_28 x0 x1 x2 x3 x4 x5 x6 x7 x8 x9 x10 x11 x12 x13 x14 x15 x16)) -∗ K ⟨⟩))
      ⊢ wp frame (wpE (defs₀ (F := F)) Variants.none c none) E (cc0_sample_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_sample_front_eq_skeleton]; unfold cc0_sample_front_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _ _ _ _)).trans ?_
    rfl
  isplitl [H22]
  · iexists _; isplitr
    swap; · iexact H22
    ipureintro
    refine (View.read_writes_eq_canon _ _ _ (cover0_22 _ _ _ _ _ _ _ _ _ _ _ _ _ _ _ _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _ _)).trans ?_
    rfl
  iexists _; isplitr
  swap; · iexact H28
  ipureintro
  refine (View.read_writes_eq_canon _ _ _ (cover0_28 _ _ _ _ _ _ _ _ _ _ _ _ _ _ _ _ _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 29, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t))

set_option maxHeartbeats 3200000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 3200000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- THE FRAME: `Cert.quiescent_FrontIdeal`'s statement (Defs.lean) at any `F` — Proof.lean cites it at `Bits`:
    `theorem Cert.Proof.claim : Cert.Claim := ⟨Cert.FrontIdeal.Gen.facts, fun m ρ _ => Cert.FrontIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.FrontIdeal.Gen

end
-- ==== Proof.FrontRows.lean ====
/-
  The row functions of the layer's first stage for one token per sequence: the sections of the projected row, the short
  convolutions over the kept rows and the new row, and the rows that are kept for the next token.
-/
module

public import proofs.«01_k».proof.Proof.Rows

@[expose] public section

noncomputable section

namespace Cert.Rows

open Idealize.ShloMosaic

/-- Entry `o + q` of a projected row. -/
abbrev at' {n : ℕ} (p : Fin 12320 → EReal) (o : ℕ) (h : o + n ≤ 12320) (q : Fin n) : EReal := p ⟨o + q.val, by omega⟩

/-- The gated product that the first convolution runs over. -/
def fresh (p : Fin 12320 → EReal) (q : Fin 1024) : EReal := at' p 1024 (by decide) q * at' p 2048 (by decide) q

/-- The first branch: the convolution of the two kept rows `a`, `b` and the new one, gated by the row, projected, and gated
    again. -/
def branch (p : Fin 12320 → EReal) (a b : Fin 1024 → EReal) (cw : Fin 3 → Fin 1024 → EReal) (W : Fin 1024 → Fin 1024 → EReal)
    (q : Fin 1024) : EReal :=
  Ideal.logistic (at' p 9248 (by decide) q)
    * mm (fun j => at' p 0 (by decide) j * (a j * cw 0 j + b j * cw 1 j + fresh p j * cw 2 j)) W q

/-- The second convolution at one feature, with its bias and activation: the three kept values, the new one, the four taps. -/
def taps4 (s : Fin 3 → EReal) (d : EReal) (cw : Fin 4 → EReal) (bias : EReal) : EReal :=
  silu (s 0 * cw 0 + s 1 * cw 1 + s 2 * cw 2 + d * cw 3 + bias)

/-- The second convolution of a token: `s` the three kept rows. -/
def act (p : Fin 12320 → EReal) (s : Fin 3 → Fin 3072 → EReal) (cw : Fin 4 → Fin 3072 → EReal) (bias : Fin 3072 → EReal) (j : Fin 3072) : EReal :=
  taps4 (fun t => s t j) (at' p 5120 (by decide) j) (fun t => cw t j) (bias j)

/-- The first convolution's kept rows for the next token, flat: the later old row, then the new one. -/
def keep2 (p : Fin 12320 → EReal) (b : Fin 1024 → EReal) (i : Fin 2048) : EReal :=
  if h : i.val < 1024 then b ⟨i.val, h⟩ else fresh p ⟨i.val - 1024, by omega⟩

/-- The second convolution's kept rows for the next token, flat: the two later old rows, then the new one. -/
def keep3 (p : Fin 12320 → EReal) (s : Fin 3 → Fin 3072 → EReal) (i : Fin 9216) : EReal :=
  if h : i.val < 6144 then s ⟨i.val / 3072 + 1, by omega⟩ ⟨i.val % 3072, by omega⟩
  else at' p 5120 (by decide) (⟨i.val - 6144, by omega⟩ : Fin 3072)

end Cert.Rows

end
-- ==== Proof.FrontKernel.lean ====
/-
  The first stage's payloads over the block of 128 tokens, read at an index as the layer's row functions.
-/
module

public import proofs.«01_k».proof.Proof.FrontFrameIdeal
public import proofs.«01_k».proof.Proof.FrontRows
public import Idealize.ShloMosaic.Lib.Pointwise

@[expose] public section

set_option maxRecDepth 16384

noncomputable section

namespace Cert.FrontIdeal.Rd

open Cert.FrontIdeal Cert.FrontIdeal.Gen Idealize.ShloMosaic Cert

/-- A product of a row of the block and a matrix's column. -/
abbrev prod {n : ℕ} (v : FVec Ideal S128x1024 .bf16) (M : FVec Ideal ⟨2, ![1024, n]⟩ .bf16) (r : Fin 128) (q : Fin n) : EReal :=
  Rows.mm (fun k => v (ix2 r k)) (fun k j => M (ix2 k j)) q

/-- The normalized rows. -/
theorem pay1_apply (v0 : Vec Ideal S128x1024 .f32) (v2 : Vec Ideal S1x1024 .f32) (r : Fin 128) (q : Fin 1024) :
    k0_pay1 (F := Ideal) v0 v2 (ix2 r q) = Rows.rms (fun k => v0 (ix2 r k)) (fun k => v2 (ix2 0 k)) q := by
  unfold Rows.rms Rows.eps Rows.width
  pointwise [k0_pay1]

/-- The first section of the projected rows. -/
theorem pay2_apply (v0 : Vec Ideal S128x1024 .f32) (v2 : Vec Ideal S1x1024 .f32) (v17 : Vec Ideal S1024x1024 .bf16) (r : Fin 128) (q : Fin 1024) :
    k0_pay2 (F := Ideal) v0 v2 v17 (ix2 r q) = prod (k0_pay1 v0 v2) v17 r q := by
  unfold prod Rows.mm k0_pay2
  generalize k0_pay1 (F := Ideal) v0 v2 = y
  pointwise

/-- The first convolution's new row. -/
theorem pay3_apply (v0 : Vec Ideal S128x1024 .f32) (v2 : Vec Ideal S1x1024 .f32) (v20 v23 : Vec Ideal S1024x1024 .bf16) (r : Fin 128) (q : Fin 1024) :
    k0_pay3 (F := Ideal) v0 v2 v20 v23 (ix2 r q) = prod (k0_pay1 v0 v2) v20 r q * prod (k0_pay1 v0 v2) v23 r q := by
  unfold prod Rows.mm k0_pay3
  generalize k0_pay1 (F := Ideal) v0 v2 = y
  pointwise

/-- A kept row passes unchanged. -/
theorem pay4_apply (v : Vec Ideal S128x1024 .f32) (r : Fin 128) (q : Fin 1024) : k0_pay4 (F := Ideal) v (ix2 r q) = v (ix2 r q) := by
  pointwise [k0_pay4]

/-- The first branch. -/
theorem pay8_apply (v16 : FVec Ideal S128x1024 .bf16) (v19 v26 v30 : FVec Ideal S128x1024 .f32) (v31 : Vec Ideal S3x1024 .f32)
    (v27 : Vec Ideal S128x1024 .f32) (v48 v51 : Vec Ideal S1024x1024 .bf16) (r : Fin 128) (q : Fin 1024) :
    k0_pay8 (F := Ideal) v16 v19 v26 v30 (k0_pay5 v31) (k0_pay6 v27 v31) (k0_pay7 v31) v48 v51 (ix2 r q)
      = Ideal.logistic (prod v16 v51 r q)
        * Rows.mm (fun j => v19 (ix2 r j) * (v27 (ix2 r j) * v31 (ix2 0 j) + v30 (ix2 r j) * v31 (ix2 1 j) + v26 (ix2 r j) * v31 (ix2 2 j)))
            (fun k j => v48 (ix2 k j)) q := by
  unfold prod Rows.mm
  pointwise [k0_pay8, k0_pay5, k0_pay6, k0_pay7]

/-- The second gate. -/
theorem pay9_apply (v : FVec Ideal S128x1024 .bf16) (M : Vec Ideal S1024x1024 .bf16) (r : Fin 128) (q : Fin 1024) :
    k0_pay9 (F := Ideal) v M (ix2 r q) = Ideal.logistic (prod v M r q) := by
  unfold prod Rows.mm
  pointwise [k0_pay9]

/-- The third gate. -/
theorem pay10_apply (v : FVec Ideal S128x1024 .bf16) (M : Vec Ideal S1024x1024 .bf16) (r : Fin 128) (q : Fin 1024) :
    k0_pay10 (F := Ideal) v M (ix2 r q) = Ideal.logistic (prod v M r q) := by
  unfold prod Rows.mm
  pointwise [k0_pay10]

/-- The recurrence's gate. -/
theorem pay11_apply (v : FVec Ideal S128x1024 .bf16) (M : Vec Ideal S1024x2048 .bf16) (r : Fin 128) (q : Fin 2048) :
    k0_pay11 (F := Ideal) v M (ix2 r q) = prod v M r q := by
  unfold prod Rows.mm
  pointwise [k0_pay11]

/-- The queries. -/
theorem pay12_apply (v : FVec Ideal S128x1024 .bf16) (M : Vec Ideal S1024x1024 .bf16) (r : Fin 128) (q : Fin 1024) :
    k0_pay12 (F := Ideal) v M (ix2 r q) = prod v M r q := by
  unfold prod Rows.mm
  pointwise [k0_pay12]

/-- The second convolution's new values, first block of columns. -/
theorem pay18_apply (v : FVec Ideal S128x1024 .bf16) (M : Vec Ideal S1024x512 .bf16) (r : Fin 128) (q : Fin 512) :
    k0_pay18 (F := Ideal) v M (ix2 r q) = prod v M r q := by
  unfold prod Rows.mm
  pointwise [k0_pay18]

/-- The second convolution's new values, second block of columns. -/
theorem pay28_apply (v : FVec Ideal S128x1024 .bf16) (M : Vec Ideal S1024x512 .bf16) (r : Fin 128) (q : Fin 512) :
    k0_pay28 (F := Ideal) v M (ix2 r q) = prod v M r q := by
  unfold prod Rows.mm
  pointwise [k0_pay28]

/-- The second convolution's new values, third block of columns. -/
theorem pay38_apply (v : FVec Ideal S128x1024 .bf16) (M : Vec Ideal S1024x512 .bf16) (r : Fin 128) (q : Fin 512) :
    k0_pay38 (F := Ideal) v M (ix2 r q) = prod v M r q := by
  unfold prod Rows.mm
  pointwise [k0_pay38]

/-- The second convolution's new values, fourth block of columns. -/
theorem pay48_apply (v : FVec Ideal S128x1024 .bf16) (M : Vec Ideal S1024x512 .bf16) (r : Fin 128) (q : Fin 512) :
    k0_pay48 (F := Ideal) v M (ix2 r q) = prod v M r q := by
  unfold prod Rows.mm
  pointwise [k0_pay48]

/-- The second convolution's new values, fifth block of columns. -/
theorem pay59_apply (v : FVec Ideal S128x1024 .bf16) (M : Vec Ideal S1024x512 .bf16) (r : Fin 128) (q : Fin 512) :
    k0_pay59 (F := Ideal) v M (ix2 r q) = prod v M r q := by
  unfold prod Rows.mm
  pointwise [k0_pay59]

/-- The second convolution's new values, last block of columns. -/
theorem pay63_apply (v : FVec Ideal S128x1024 .bf16) (M : Vec Ideal S1024x512 .bf16) (r : Fin 128) (q : Fin 512) :
    k0_pay63 (F := Ideal) v M (ix2 r q) = prod v M r q := by
  unfold prod Rows.mm
  pointwise [k0_pay63]

/-- The second convolution with its activation, at an index of a block of 512 columns. -/
abbrev conv4 (v : FVec Ideal S128x1024 .bf16) (M : Vec Ideal S1024x512 .bf16) (s0 s1 s2 : Vec Ideal S128x512 .f32) (cw : Vec Ideal S4x512 .f32)
    (b : Vec Ideal S1x512 .f32) (r : Fin 128) (q : Fin 512) : EReal :=
  Rows.silu (s0 (ix2 r q) * cw (ix2 0 q) + s1 (ix2 r q) * cw (ix2 1 q) + s2 (ix2 r q) * cw (ix2 2 q) + prod v M r q * cw (ix2 3 q) + b (ix2 0 q))

section
variable (v : FVec Ideal S128x1024 .bf16) (M : Vec Ideal S1024x512 .bf16) (s0 s1 s2 : Vec Ideal S128x512 .f32) (cw : Vec Ideal S4x512 .f32)
    (b : Vec Ideal S1x512 .f32) (r : Fin 128) (q : Fin 512)

/-- The first block of columns of the second convolution. -/
theorem act0_apply : (k0_pay22 (k0_pay21 v M s0 s1 s2 cw) b : FVec Ideal S128x512 .f32) (ix2 r q) = conv4 v M s0 s1 s2 cw b r q := by
  unfold conv4 prod Rows.mm Rows.silu
  pointwise [k0_pay22, k0_pay21, k0_pay18, k0_pay19, k0_pay20]

/-- The second block of columns of the second convolution. -/
theorem act1_apply : (k0_pay32 (k0_pay28 v M) (k0_pay29 s0) (k0_pay30 s1) (k0_pay31 s2) cw b : FVec Ideal S128x512 .f32) (ix2 r q) = conv4 v M s0 s1 s2 cw b r q := by
  unfold conv4 prod Rows.mm Rows.silu
  pointwise [k0_pay32, k0_pay28, k0_pay29, k0_pay30, k0_pay31]

/-- The third block of columns of the second convolution. -/
theorem act2_apply : (k0_pay42 (k0_pay41 v M s0 s1 s2 cw) b : FVec Ideal S128x512 .f32) (ix2 r q) = conv4 v M s0 s1 s2 cw b r q := by
  unfold conv4 prod Rows.mm Rows.silu
  pointwise [k0_pay42, k0_pay41, k0_pay38, k0_pay39, k0_pay40]

/-- The fourth block of columns of the second convolution. -/
theorem act3_apply : (k0_pay53 (k0_pay48 v M) (k0_pay49 s1) (k0_pay50 s2) (k0_pay51 cw) (k0_pay52 s0 cw) b : FVec Ideal S128x512 .f32) (ix2 r q) = conv4 v M s0 s1 s2 cw b r q := by
  unfold conv4 prod Rows.mm Rows.silu
  pointwise [k0_pay53, k0_pay48, k0_pay49, k0_pay50, k0_pay51, k0_pay52]

/-- The fifth block of columns of the second convolution. -/
theorem act4_apply : (k0_pay62 v M s0 s1 s2 cw b : FVec Ideal S128x512 .f32) (ix2 r q) = conv4 v M s0 s1 s2 cw b r q := by
  unfold conv4 prod Rows.mm Rows.silu
  pointwise [k0_pay62, k0_pay59, k0_pay60, k0_pay61]

/-- The last block of columns of the second convolution. -/
theorem act5_apply : (k0_pay66 v M s0 s1 s2 cw b : FVec Ideal S128x512 .f32) (ix2 r q) = conv4 v M s0 s1 s2 cw b r q := by
  unfold conv4 prod Rows.mm Rows.silu
  pointwise [k0_pay66, k0_pay63, k0_pay64, k0_pay65]

end

end Cert.FrontIdeal.Rd

end
-- ==== Proof.FrontBlock.lean ====
/-
  What the first stage's body leaves in its result windows, read at an index as the layer's row functions, for any input
  windows that hold the arguments' rows (`Reads`).
-/
module

public import proofs.«01_k».proof.Proof.FrontKernel
public import Idealize.ShloMosaic.Lib.Pipeline.ValueKit

@[expose] public section

set_option maxRecDepth 16384

noncomputable section

namespace Cert.FrontIdeal.Rd

open Cert.FrontIdeal Cert.FrontIdeal.Gen Idealize.ShloMosaic Cert

/-- A load of some columns at an index. -/
theorem ld_cols {a b n : ℕ} {e : EltTy} (X : Vec Ideal ⟨2, ![a, b]⟩ e) (o : ℕ) (inb) (k : Fin a) (j : Fin n) (i : Fin b) (hi : i.val = o + j.val) :
    View.ld X (Rect.unit (s := ⟨2, ![a, b]⟩) ![0, o] ![a, n] inb) (ix2 k j) = X (ix2 k i) :=
  View.ld_unit_apply_of X _ _ inb _ _ fun d => by
    fin_cases d
    · show k.val = 0 + k.val; omega
    · exact hi

/-- Where a store of some columns puts an index. -/
theorem emb_cols {a b n : ℕ} (o : ℕ) (inb) (k : Fin a) (j : Fin n) (i : Fin b) (hi : i.val = o + j.val) :
    (Rect.unit (s := ⟨2, ![a, b]⟩) ![0, o] ![a, n] inb).emb (ix2 k j) = ix2 k i :=
  funext fun d => Fin.ext <| (Rect.idx_unit_val _ _ inb _ d).trans <| by
    fin_cases d
    · show 0 + k.val = k.val; omega
    · exact hi.symm

/-- The offsets of a whole window. -/
theorem whole2 : (![0, 0] : Fin 2 → ℕ) = fun _ => 0 := by decide

/-- A projected row. -/
abbrev pr (X : Fin 128 → Fin 1024 → EReal) (w : Fin 1024 → EReal) (W : Fin 1024 → Fin 12320 → EReal) (r : Fin 128) : Fin 12320 → EReal :=
  Rows.mm (Rows.rms (X r) w) W

variable {x0 : Vec Ideal S128x1024 .f32} {x1 : Vec Ideal S128x2048 .f32} {x2 : Vec Ideal S128x9216 .f32} {x3 : Vec Ideal S1x1024 .f32}
  {x4 : Vec Ideal S1024x3072 .bf16} {x5 : Vec Ideal S1024x2048 .bf16} {x6 : Vec Ideal S1024x3072 .bf16} {x7 : Vec Ideal S1024x128 .bf16}
  {x8 : Vec Ideal S1024x1024 .bf16} {x9 : Vec Ideal S1024x3072 .bf16} {x10 : Vec Ideal S3x1024 .f32} {x11 : Vec Ideal S4x3072 .f32}
  {x12 : Vec Ideal S1x3072 .f32} {x13 x14 : Vec Ideal S1x128 .f32} {x15 : Vec Ideal S1024x1024 .bf16} {x16 : Vec Ideal S128x2048 .bf16}
  {X : Fin 128 → Fin 1024 → EReal} {w : Fin 1024 → EReal} {W : Fin 1024 → Fin 12320 → EReal} {B : Fin 128 → Fin 2 → Fin 1024 → EReal}
  {S : Fin 128 → Fin 3 → Fin 3072 → EReal} {cw : Fin 3 → Fin 1024 → EReal} {cs : Fin 4 → Fin 3072 → EReal} {bias : Fin 3072 → EReal}
  {Wo : Fin 1024 → Fin 1024 → EReal}

/-- The input windows hold the arguments: the rows, the kept rows, the weights, and the projection's sections. -/
structure Reads (x0 : Vec Ideal S128x1024 .f32) (x1 : Vec Ideal S128x2048 .f32) (x2 : Vec Ideal S128x9216 .f32) (x3 : Vec Ideal S1x1024 .f32)
    (x4 : Vec Ideal S1024x3072 .bf16) (x5 : Vec Ideal S1024x2048 .bf16) (x6 : Vec Ideal S1024x3072 .bf16)
    (x8 : Vec Ideal S1024x1024 .bf16) (x9 : Vec Ideal S1024x3072 .bf16) (x10 : Vec Ideal S3x1024 .f32) (x11 : Vec Ideal S4x3072 .f32)
    (x12 : Vec Ideal S1x3072 .f32) (x15 : Vec Ideal S1024x1024 .bf16)
    (X : Fin 128 → Fin 1024 → EReal) (w : Fin 1024 → EReal) (W : Fin 1024 → Fin 12320 → EReal) (B : Fin 128 → Fin 2 → Fin 1024 → EReal)
    (S : Fin 128 → Fin 3 → Fin 3072 → EReal) (cw : Fin 3 → Fin 1024 → EReal) (cs : Fin 4 → Fin 3072 → EReal) (bias : Fin 3072 → EReal)
    (Wo : Fin 1024 → Fin 1024 → EReal) : Prop where
  h0 : ∀ (r : Fin 128) (k : Fin 1024), x0 (ix2 r k) = X r k
  h1 : ∀ (r : Fin 128) (t : Fin 2) (j : Fin 1024), x1 (ix2 r (⟨1024 * t.val + j.val, by omega⟩ : Fin 2048)) = B r t j
  h2 : ∀ (r : Fin 128) (t : Fin 3) (j : Fin 3072), x2 (ix2 r (⟨3072 * t.val + j.val, by omega⟩ : Fin 9216)) = S r t j
  h3 : ∀ k : Fin 1024, x3 (ix2 0 k) = w k
  h4 : ∀ (k : Fin 1024) (j : Fin 3072), x4 (ix2 k j) = W k ⟨0 + j.val, by omega⟩
  h5 : ∀ (k : Fin 1024) (j : Fin 2048), x5 (ix2 k j) = W k ⟨3072 + j.val, by omega⟩
  h6 : ∀ (k : Fin 1024) (j : Fin 3072), x6 (ix2 k j) = W k ⟨5120 + j.val, by omega⟩
  h8 : ∀ (k : Fin 1024) (j : Fin 1024), x8 (ix2 k j) = W k ⟨8224 + j.val, by omega⟩
  h9 : ∀ (k : Fin 1024) (j : Fin 3072), x9 (ix2 k j) = W k ⟨9248 + j.val, by omega⟩
  h10 : ∀ (t : Fin 3) (j : Fin 1024), x10 (ix2 t j) = cw t j
  h11 : ∀ (t : Fin 4) (j : Fin 3072), x11 (ix2 t j) = cs t j
  h12 : ∀ j : Fin 3072, x12 (ix2 0 j) = bias j
  h15 : ∀ (k j : Fin 1024), x15 (ix2 k j) = Wo k j

variable (H : Reads x0 x1 x2 x3 x4 x5 x6 x8 x9 x10 x11 x12 x15 X w W B S cw cs bias Wo)
include H

/-- A section of the projected row: the product with the matrix whose columns are the section's. -/
theorem sec {n : ℕ} (M : FVec Ideal ⟨2, ![1024, n]⟩ .bf16) (o : ℕ) (ho : o + n ≤ 12320)
    (hM : ∀ (k : Fin 1024) (j : Fin n), M (ix2 k j) = W k ⟨o + j.val, by omega⟩) (r : Fin 128) (q : Fin n) :
    prod (k0_pay1 x0 x3) M r q = Rows.at' (pr X w W r) o ho q := by
  have e : ∀ k, k0_pay1 (F := Ideal) x0 x3 (ix2 r k) = Rows.rms (X r) w k := fun k => by
    rw [pay1_apply, show (fun k => x0 (ix2 r k)) = X r from funext (H.h0 r), show (fun k => x3 (ix2 0 k)) = w from funext H.h3]
  unfold prod Rows.at' pr Rows.mm
  exact Finset.sum_congr rfl fun k _ => congrArg₂ (· * ·) (e k) (hM k q)

/-- A section of the first matrix window. -/
theorem sec4 (o : ℕ) (ho : o + 1024 ≤ 3072) (inb) (r : Fin 128) (q : Fin 1024) :
    prod (k0_pay1 x0 x3) (View.ld x4 (Rect.unit (s := S1024x3072) ![0, o] S1024x1024.size inb)) r q = Rows.at' (pr X w W r) o (by omega) q :=
  sec H _ o _ (fun k j => (ld_cols x4 o _ k j ⟨o + j.val, by omega⟩ rfl).trans ((H.h4 k _).trans
    (congrArg (W k) (Fin.ext (by show 0 + (o + j.val) = o + j.val; omega))))) r q

/-- A section of the gates' matrix window. -/
theorem sec9 (o : ℕ) (ho : o + 1024 ≤ 3072) (inb) (r : Fin 128) (q : Fin 1024) :
    prod (k0_pay1 x0 x3) (View.ld x9 (Rect.unit (s := S1024x3072) ![0, o] S1024x1024.size inb)) r q = Rows.at' (pr X w W r) (9248 + o) (by omega) q :=
  sec H _ _ _ (fun k j => (ld_cols x9 o _ k j ⟨o + j.val, by omega⟩ rfl).trans ((H.h9 k _).trans
    (congrArg (W k) (Fin.ext (by show 9248 + (o + j.val) = 9248 + o + j.val; omega))))) r q

/-- The second convolution's new row on a block of columns. -/
theorem sec6 (o : ℕ) (ho : o + 512 ≤ 3072) (inb) (r : Fin 128) (q : Fin 512) (i : Fin 3072) (hi : i.val = o + q.val) :
    prod (k0_pay1 x0 x3) (View.ld x6 (Rect.unit (s := S1024x3072) ![0, o] S1024x512.size inb)) r q = Rows.at' (pr X w W r) 5120 (by decide) i :=
  (sec H _ (5120 + o) (by omega) (fun k j => (ld_cols x6 o _ k j ⟨o + j.val, by omega⟩ rfl).trans ((H.h6 k _).trans
    (congrArg (W k) (Fin.ext (by show 5120 + (o + j.val) = 5120 + o + j.val; omega))))) r q).trans
    (congrArg (pr X w W r) (Fin.ext (by show 5120 + o + q.val = 5120 + i.val; omega)))

/-- The first branch's window. -/
theorem out17 (r : Fin 128) (q : Fin 1024) : (out0_17 x0 x1 x2 x3 x4 x5 x6 x7 x8 x9 x10 x11 x12 x13 x14 x15 x16 : Vec Ideal S128x1024 .f32) (ix2 r q) = Rows.branch (pr X w W r) (B r 0) (B r 1) cw Wo q := by
  unfold out0_17 k0_pay69 k0_pay68 k0_pay67
  frame_out
  refine (pay8_apply _ _ _ _ _ _ _ _ r q).trans ?_
  unfold Rows.branch Rows.mm
  refine congrArg₂ (· * ·) (congrArg Ideal.logistic (sec9 H 0 (by decide) _ r q)) (Finset.sum_congr rfl fun j _ => congrArg₂ (· * ·) ?_ (H.h15 j q))
  have a : (k0_pay2 x0 x3 (View.ld x4 r0_2) : FVec Ideal S128x1024 .f32) (ix2 r j) = Rows.at' (pr X w W r) 0 (by decide) j :=
    (pay2_apply _ _ _ r j).trans (sec4 H 0 (by decide) _ r j)
  have b : (k0_pay3 x0 x3 (View.ld x4 r0_3) (View.ld x4 r0_4) : FVec Ideal S128x1024 .f32) (ix2 r j) = Rows.fresh (pr X w W r) j :=
    (pay3_apply _ _ _ _ r j).trans (congrArg₂ (· * ·) (sec4 H 1024 (by decide) _ r j) (sec4 H 2048 (by decide) _ r j))
  have c : (k0_pay4 (View.ld x1 r0_6) : FVec Ideal S128x1024 .f32) (ix2 r j) = B r 1 j :=
    (pay4_apply _ r j).trans ((ld_cols x1 1024 _ r j (⟨1024 * (1 : Fin 2).val + j.val, by show 1024 * 1 + j.val < 2048; omega⟩) rfl).trans (H.h1 r 1 j))
  have d : (View.ld x1 r0_5 : Vec Ideal S128x1024 .f32) (ix2 r j) = B r 0 j :=
    (ld_cols x1 0 _ r j (⟨1024 * (0 : Fin 2).val + j.val, by show 1024 * 0 + j.val < 2048; omega⟩) rfl).trans (H.h1 r 0 j)
  exact congrArg₂ (· * ·) a (congrArg₂ (· + ·) (congrArg₂ (· + ·) (congrArg₂ (· * ·) d (H.h10 0 j)) (congrArg₂ (· * ·) c (H.h10 1 j)))
    (congrArg₂ (· * ·) b (H.h10 2 j)))

/-- The second gate's window. -/
theorem out18 (r : Fin 128) (q : Fin 1024) : (out0_18 x0 x1 x2 x3 x4 x5 x6 x7 x8 x9 x10 x11 x12 x13 x14 x15 x16 : Vec Ideal S128x1024 .f32) (ix2 r q) = Ideal.logistic (Rows.at' (pr X w W r) 10272 (by decide) q) := by
  unfold out0_18 k0_pay67
  frame_out
  exact (pay9_apply _ _ r q).trans (congrArg Ideal.logistic (sec9 H 1024 (by decide) _ r q))

/-- The third gate's window. -/
theorem out19 (r : Fin 128) (q : Fin 1024) : (out0_19 x0 x1 x2 x3 x4 x5 x6 x7 x8 x9 x10 x11 x12 x13 x14 x15 x16 : Vec Ideal S128x1024 .f32) (ix2 r q) = Ideal.logistic (Rows.at' (pr X w W r) 11296 (by decide) q) := by
  unfold out0_19 k0_pay67
  frame_out
  exact (pay10_apply _ _ r q).trans (congrArg Ideal.logistic (sec9 H 2048 (by decide) _ r q))

/-- The window of the recurrence's gate. -/
theorem out20 (r : Fin 128) (q : Fin 2048) : (out0_20 x0 x1 x2 x3 x4 x5 x6 x7 x8 x9 x10 x11 x12 x13 x14 x15 x16 : Vec Ideal S128x2048 .f32) (ix2 r q) = Rows.at' (pr X w W r) 3072 (by decide) q := by
  unfold out0_20 k0_pay67
  frame_out
  exact (pay11_apply _ _ r q).trans (sec H _ 3072 _ H.h5 r q)

/-- The queries' window. -/
theorem out26 (r : Fin 128) (q : Fin 1024) : (out0_26 x0 x1 x2 x3 x4 x5 x6 x7 x8 x9 x10 x11 x12 x13 x14 x15 x16 : Vec Ideal S128x1024 .f32) (ix2 r q) = Rows.at' (pr X w W r) 8224 (by decide) q := by
  unfold out0_26 k0_pay67
  frame_out
  exact (pay12_apply _ _ r q).trans (sec H _ 8224 _ H.h8 r q)

/-- A value of the second convolution's kept rows. -/
theorem kept (t : Fin 3) (o : ℕ) (inb) (r : Fin 128) (q : Fin 512) (i : Fin 3072) (hi : 3072 * t.val + i.val = o + q.val) :
    View.ld x2 (Rect.unit (s := S128x9216) ![0, o] S128x512.size inb) (ix2 r q) = S r t i :=
  (ld_cols x2 o _ r q ⟨3072 * t.val + i.val, by omega⟩ hi).trans (H.h2 r t i)

/-- The second convolution on a block of columns. -/
theorem conv_block (o o1 o2 : ℕ) (ho : o + 512 ≤ 3072) (e1 : o1 = 3072 + o) (e2 : o2 = 6144 + o) (i6 i20 i21 i22 i11 i12) (r : Fin 128) (q : Fin 512)
    (i : Fin 3072) (hi : i.val = o + q.val) :
    conv4 (k0_pay1 x0 x3) (View.ld x6 (Rect.unit (s := S1024x3072) ![0, o] S1024x512.size i6)) (View.ld x2 (Rect.unit (s := S128x9216) ![0, o] S128x512.size i20))
      (View.ld x2 (Rect.unit (s := S128x9216) ![0, o1] S128x512.size i21)) (View.ld x2 (Rect.unit (s := S128x9216) ![0, o2] S128x512.size i22))
      (View.ld x11 (Rect.unit (s := S4x3072) ![0, o] S4x512.size i11)) (View.ld x12 (Rect.unit (s := S1x3072) ![0, o] S1x512.size i12)) r q
      = Rows.act (pr X w W r) (S r) cs bias i := by
  have k : ∀ t : Fin 4, View.ld x11 (Rect.unit (s := S4x3072) ![0, o] S4x512.size i11) (ix2 t q) = cs t i := fun t =>
    (ld_cols x11 o _ t q i hi).trans (H.h11 t i)
  have b : View.ld x12 (Rect.unit (s := S1x3072) ![0, o] S1x512.size i12) (ix2 0 q) = bias i := (ld_cols x12 o _ 0 q i hi).trans (H.h12 i)
  unfold conv4 Rows.act Rows.taps4
  refine congrArg Rows.silu (congrArg₂ (· + ·) (congrArg₂ (· + ·) (congrArg₂ (· + ·) (congrArg₂ (· + ·) (congrArg₂ (· * ·) ?_ (k 0))
    (congrArg₂ (· * ·) ?_ (k 1))) (congrArg₂ (· * ·) ?_ (k 2))) (congrArg₂ (· * ·) (sec6 H o ho _ r q i hi) (k 3))) b)
  · exact kept H 0 o _ r q i (by show 3072 * 0 + i.val = o + q.val; omega)
  · exact kept H 1 o1 _ r q i (by show 3072 * 1 + i.val = o1 + q.val; omega)
  · exact kept H 2 o2 _ r q i (by show 3072 * 2 + i.val = o2 + q.val; omega)

/-- The window of the recurrence's writing keys. -/
theorem out24 (r : Fin 128) (q : Fin 512) : (out0_24 x0 x1 x2 x3 x4 x5 x6 x7 x8 x9 x10 x11 x12 x13 x14 x15 x16 : Vec Ideal S128x512 .f32) (ix2 r q) = Rows.act (pr X w W r) (S r) cs bias ⟨2048 + q.val, by omega⟩ := by
  unfold out0_24 k0_pay67
  frame_out
  exact (act4_apply _ _ _ _ _ _ _ r q).trans (conv_block H 2048 5120 8192 (by decide) rfl rfl _ _ _ _ _ _ r q _ rfl)

/-- The window of the recurrence's reading keys. -/
theorem out25 (r : Fin 128) (q : Fin 512) : (out0_25 x0 x1 x2 x3 x4 x5 x6 x7 x8 x9 x10 x11 x12 x13 x14 x15 x16 : Vec Ideal S128x512 .f32) (ix2 r q) = Rows.act (pr X w W r) (S r) cs bias ⟨2560 + q.val, by omega⟩ := by
  unfold out0_25 k0_pay67
  frame_out
  exact (act5_apply _ _ _ _ _ _ _ r q).trans (conv_block H 2560 5632 8704 (by decide) rfl rfl _ _ _ _ _ _ r q _ rfl)

/-- A stored block of the recurrence's inputs. -/
theorem act_piece (pay : FVec Ideal S128x512 .f32) (o : ℕ) (ho : o + 512 ≤ 2048) (iR)
    (hp : ∀ (r : Fin 128) (q : Fin 512), pay (ix2 r q) = Rows.act (pr X w W r) (S r) cs bias ⟨o + q.val, by omega⟩) (x : S128x512.Idx) :
    pay x = (fun i : S128x2048.Idx => Rows.act (pr X w W (i 0)) (S (i 0)) cs bias ⟨0 + (i 1).val, by have h : (i 1).val < 2048 := (i 1).isLt; omega⟩)
      ((Rect.unit (s := S128x2048) ![0, o] S128x512.size iR).emb x) := by
  idx_vars x
  refine (hp _ _).trans (Eq.trans ?_ (congrArg (fun i : S128x2048.Idx => Rows.act (pr X w W (i 0)) (S (i 0)) cs bias
    ⟨0 + (i 1).val, by have h : (i 1).val < 2048 := (i 1).isLt; omega⟩) (emb_cols o iR x0 x1 ⟨o + x1.val, by omega⟩ rfl)).symm)
  exact congrArg (Rows.act (pr X w W x0) (S x0) cs bias) (Fin.ext (by show o + x1.val = 0 + (o + x1.val); omega))

/-- The window of the recurrence's inputs. -/
theorem out21 (r : Fin 128) (q : Fin 2048) : (out0_21 x0 x1 x2 x3 x4 x5 x6 x7 x8 x9 x10 x11 x12 x13 x14 x15 x16 : Vec Ideal S128x2048 .f32) (ix2 r q) = Rows.act (pr X w W r) (S r) cs bias ⟨0 + q.val, by omega⟩ := by
  unfold out0_21 k0_pay81 k0_pay80 k0_pay79 k0_pay78 k0_pay77 k0_pay76 k0_pay75 k0_pay74 k0_pay73 k0_pay72 k0_pay71 k0_pay67
  rw [show View.ld x0 r0_0 = x0 from View.ld_unit_zero whole2 _ _, show View.ld x3 r0_1 = x3 from View.ld_unit_zero whole2 _ _]
  refine View.canon_apply_of_pieces (Val := Elt Ideal) (fun i : S128x2048.Idx => Rows.act (pr X w W (i 0)) (S (i 0)) cs bias
    ⟨0 + (i 1).val, by have h : (i 1).val < 2048 := (i 1).isLt; omega⟩) _ ?_ (ix2 r q) (cover0_21 _ _ _ _ _)
  refine List.forall_mem_cons.2 ⟨act_piece H _ 1536 (by decide) inb_S128x2048_S128x512_0_1536 fun r q => (act3_apply _ _ _ _ _ _ _ r q).trans
    (conv_block H 1536 4608 7680 (by decide) rfl rfl _ _ _ _ _ _ r q _ rfl), ?_⟩
  refine List.forall_mem_cons.2 ⟨act_piece H _ 1024 (by decide) inb_S128x2048_S128x512_0_1024 fun r q => (act2_apply _ _ _ _ _ _ _ r q).trans
    (conv_block H 1024 4096 7168 (by decide) rfl rfl _ _ _ _ _ _ r q _ rfl), ?_⟩
  refine List.forall_mem_cons.2 ⟨act_piece H _ 512 (by decide) inb_S128x2048_S128x512_0_512 fun r q => (act1_apply _ _ _ _ _ _ _ r q).trans
    (conv_block H 512 3584 6656 (by decide) rfl rfl _ _ _ _ _ _ r q _ rfl), ?_⟩
  refine List.forall_mem_cons.2 ⟨act_piece H _ 0 (by decide) inb_S128x2048_S128x512_0_0 fun r q => (act0_apply _ _ _ _ _ _ _ r q).trans
    (conv_block H 0 3072 6144 (by decide) rfl rfl _ _ _ _ _ _ r q _ rfl), ?_⟩
  exact fun _ h => absurd h List.not_mem_nil

/-- A stored half of the first convolution's kept rows. -/
theorem keep2_piece (pay : FVec Ideal S128x1024 .f32) (o : ℕ) (ho : o + 1024 ≤ 2048) (iR)
    (hp : ∀ (r : Fin 128) (q : Fin 1024), pay (ix2 r q) = Rows.keep2 (pr X w W r) (B r 1) ⟨o + q.val, by omega⟩) (x : S128x1024.Idx) :
    pay x = (fun i : S128x2048.Idx => Rows.keep2 (pr X w W (i 0)) (B (i 0) 1) (i 1)) ((Rect.unit (s := S128x2048) ![0, o] S128x1024.size iR).emb x) := by
  idx_vars x
  exact (hp _ _).trans (congrArg (fun i : S128x2048.Idx => Rows.keep2 (pr X w W (i 0)) (B (i 0) 1) (i 1)) (emb_cols o iR x0 x1 ⟨o + x1.val, by omega⟩ rfl)).symm

/-- The window of the first convolution's kept rows. -/
theorem out27 (r : Fin 128) (q : Fin 2048) : (out0_27 x0 x1 x2 x3 x4 x5 x6 x7 x8 x9 x10 x11 x12 x13 x14 x15 x16 : Vec Ideal S128x2048 .f32) (ix2 r q) = Rows.keep2 (pr X w W r) (B r 1) q := by
  unfold out0_27 k0_pay69 k0_pay68
  rw [show View.ld x0 r0_0 = x0 from View.ld_unit_zero whole2 _ _, show View.ld x3 r0_1 = x3 from View.ld_unit_zero whole2 _ _]
  refine View.canon_apply_of_pieces (Val := Elt Ideal) (fun i : S128x2048.Idx => Rows.keep2 (pr X w W (i 0)) (B (i 0) 1) (i 1)) _ ?_ (ix2 r q) (cover0_27 _ _ _)
  refine List.forall_mem_cons.2 ⟨keep2_piece H _ 1024 (by decide) inb_S128x2048_S128x1024_0_1024 fun r j => ?_, ?_⟩
  · refine (pay3_apply _ _ _ _ r j).trans ((congrArg₂ (· * ·) (sec4 H 1024 (by decide) _ r j) (sec4 H 2048 (by decide) _ r j)).trans ?_)
    refine Eq.trans ?_ (dif_neg (show ¬ 1024 + j.val < 1024 by omega)).symm
    exact congrArg (Rows.fresh (pr X w W r)) (Fin.ext (by show j.val = 1024 + j.val - 1024; omega))
  refine List.forall_mem_cons.2 ⟨keep2_piece H _ 0 (by decide) inb_S128x2048_S128x1024_0_0 fun r j => ?_, fun _ h => absurd h List.not_mem_nil⟩
  refine (pay4_apply _ r j).trans ((ld_cols x1 1024 _ r j (⟨1024 * (1 : Fin 2).val + j.val, by show 1024 * 1 + j.val < 2048; omega⟩) rfl).trans ((H.h1 r 1 j).trans ?_))
  refine Eq.trans ?_ (dif_pos (show 0 + j.val < 1024 by omega)).symm
  exact congrArg (B r 1) (Fin.ext (by show j.val = 0 + j.val; omega))

/-- A block of values passes unchanged. -/
theorem cast_apply (v : Vec Ideal S128x512 .f32) (r : Fin 128) (q : Fin 512) :
    (shapeCast S128x512 v shapeCasts_S128x512_S128x512 : FVec Ideal S128x512 .f32) (ix2 r q) = v (ix2 r q) := by
  clear H
  pointwise

/-- A stored block of the second convolution's kept rows. -/
theorem keep3_piece (pay : FVec Ideal S128x512 .f32) (o : ℕ) (ho : o + 512 ≤ 9216) (iR)
    (hp : ∀ (r : Fin 128) (q : Fin 512), pay (ix2 r q) = Rows.keep3 (pr X w W r) (S r) ⟨o + q.val, by omega⟩) (x : S128x512.Idx) :
    pay x = (fun i : S128x9216.Idx => Rows.keep3 (pr X w W (i 0)) (S (i 0)) (i 1)) ((Rect.unit (s := S128x9216) ![0, o] S128x512.size iR).emb x) := by
  idx_vars x
  exact (hp _ _).trans (congrArg (fun i : S128x9216.Idx => Rows.keep3 (pr X w W (i 0)) (S (i 0)) (i 1)) (emb_cols o iR x0 x1 ⟨o + x1.val, by omega⟩ rfl)).symm

/-- A block of the new row. -/
theorem new_piece (pay : FVec Ideal S128x512 .f32) (o oo : ℕ) (ho : o + 512 ≤ 3072) (eo : oo = 6144 + o) (i6 iR)
    (hp : ∀ (r : Fin 128) (q : Fin 512), pay (ix2 r q) = prod (k0_pay1 x0 x3) (View.ld x6 (Rect.unit (s := S1024x3072) ![0, o] S1024x512.size i6)) r q)
    (x : S128x512.Idx) :
    pay x = (fun i : S128x9216.Idx => Rows.keep3 (pr X w W (i 0)) (S (i 0)) (i 1)) ((Rect.unit (s := S128x9216) ![0, oo] S128x512.size iR).emb x) :=
  keep3_piece H pay oo (by omega) iR (fun r q => (hp r q).trans ((sec6 H o ho _ r q ⟨o + q.val, by omega⟩ rfl).trans (by
    refine Eq.trans ?_ (dif_neg (show ¬ oo + q.val < 6144 by omega)).symm
    exact congrArg (Rows.at' (pr X w W r) 5120 (by decide)) (Fin.ext (by show o + q.val = oo + q.val - 6144; omega))))) x

/-- A block of an old row that is kept. -/
theorem old_piece (pay : FVec Ideal S128x512 .f32) (t : ℕ) (ht : t < 2) (o oi oo : ℕ) (ho : o + 512 ≤ 3072) (eo : oo = 3072 * t + o)
    (ei : oi = 3072 * (t + 1) + o) (i2 iR)
    (hp : pay = (shapeCast S128x512 (View.ld x2 (Rect.unit (s := S128x9216) ![0, oi] S128x512.size i2) : Vec Ideal S128x512 .f32) shapeCasts_S128x512_S128x512 : FVec Ideal S128x512 .f32))
    (x : S128x512.Idx) :
    pay x = (fun i : S128x9216.Idx => Rows.keep3 (pr X w W (i 0)) (S (i 0)) (i 1)) ((Rect.unit (s := S128x9216) ![0, oo] S128x512.size iR).emb x) :=
  keep3_piece H pay oo (by omega) iR (fun r q => ((congrFun hp _).trans (cast_apply H _ r q)).trans ((kept H ⟨t + 1, by omega⟩ oi _ r q ⟨o + q.val, by omega⟩
    (by show 3072 * (t + 1) + (o + q.val) = oi + q.val; omega)).trans (by
    refine Eq.trans ?_ (dif_pos (show oo + q.val < 6144 by omega)).symm
    exact congrArg₂ (S r) (Fin.ext (by show t + 1 = (oo + q.val) / 3072 + 1; omega)) (Fin.ext (by show o + q.val = (oo + q.val) % 3072; omega))))) x

/-- The window of the second convolution's kept rows. -/
theorem out28 (r : Fin 128) (q : Fin 9216) : (out0_28 x0 x1 x2 x3 x4 x5 x6 x7 x8 x9 x10 x11 x12 x13 x14 x15 x16 : Vec Ideal S128x9216 .f32) (ix2 r q) = Rows.keep3 (pr X w W r) (S r) q := by
  unfold out0_28 k0_pay79 k0_pay78 k0_pay77 k0_pay75 k0_pay74 k0_pay72 k0_pay67
  rw [show View.ld x0 r0_0 = x0 from View.ld_unit_zero whole2 _ _, show View.ld x3 r0_1 = x3 from View.ld_unit_zero whole2 _ _]
  refine View.canon_apply_of_pieces (Val := Elt Ideal) (fun i : S128x9216.Idx => Rows.keep3 (pr X w W (i 0)) (S (i 0)) (i 1)) _ ?_ (ix2 r q)
    (cover0_28 _ _ _ _ _ _ _ _ _ _ _ _ _ _ _ _ _ _ _)
  refine List.forall_mem_cons.2 ⟨new_piece H _ 2560 8704 (by decide) rfl inb_S1024x3072_S1024x512_0_2560 inb_S128x9216_S128x512_0_8704 (pay63_apply _ _), ?_⟩
  refine List.forall_mem_cons.2 ⟨old_piece H _ 1 (by decide) 2560 8704 5632 (by decide) rfl rfl inb_S128x9216_S128x512_0_8704 inb_S128x9216_S128x512_0_5632 rfl, ?_⟩
  refine List.forall_mem_cons.2 ⟨old_piece H _ 0 (by decide) 2560 5632 2560 (by decide) rfl rfl inb_S128x9216_S128x512_0_5632 inb_S128x9216_S128x512_0_2560 rfl, ?_⟩
  refine List.forall_mem_cons.2 ⟨new_piece H _ 2048 8192 (by decide) rfl inb_S1024x3072_S1024x512_0_2048 inb_S128x9216_S128x512_0_8192 (pay59_apply _ _), ?_⟩
  refine List.forall_mem_cons.2 ⟨old_piece H _ 1 (by decide) 2048 8192 5120 (by decide) rfl rfl inb_S128x9216_S128x512_0_8192 inb_S128x9216_S128x512_0_5120 rfl, ?_⟩
  refine List.forall_mem_cons.2 ⟨old_piece H _ 0 (by decide) 2048 5120 2048 (by decide) rfl rfl inb_S128x9216_S128x512_0_5120 inb_S128x9216_S128x512_0_2048 rfl, ?_⟩
  refine List.forall_mem_cons.2 ⟨new_piece H _ 1536 7680 (by decide) rfl inb_S1024x3072_S1024x512_0_1536 inb_S128x9216_S128x512_0_7680 (pay48_apply _ _), ?_⟩
  refine List.forall_mem_cons.2 ⟨old_piece H _ 1 (by decide) 1536 7680 4608 (by decide) rfl rfl inb_S128x9216_S128x512_0_7680 inb_S128x9216_S128x512_0_4608 rfl, ?_⟩
  refine List.forall_mem_cons.2 ⟨old_piece H _ 0 (by decide) 1536 4608 1536 (by decide) rfl rfl inb_S128x9216_S128x512_0_4608 inb_S128x9216_S128x512_0_1536 rfl, ?_⟩
  refine List.forall_mem_cons.2 ⟨new_piece H _ 1024 7168 (by decide) rfl inb_S1024x3072_S1024x512_0_1024 inb_S128x9216_S128x512_0_7168 (pay38_apply _ _), ?_⟩
  refine List.forall_mem_cons.2 ⟨old_piece H _ 1 (by decide) 1024 7168 4096 (by decide) rfl rfl inb_S128x9216_S128x512_0_7168 inb_S128x9216_S128x512_0_4096 rfl, ?_⟩
  refine List.forall_mem_cons.2 ⟨old_piece H _ 0 (by decide) 1024 4096 1024 (by decide) rfl rfl inb_S128x9216_S128x512_0_4096 inb_S128x9216_S128x512_0_1024 rfl, ?_⟩
  refine List.forall_mem_cons.2 ⟨new_piece H _ 512 6656 (by decide) rfl inb_S1024x3072_S1024x512_0_512 inb_S128x9216_S128x512_0_6656 (pay28_apply _ _), ?_⟩
  refine List.forall_mem_cons.2 ⟨old_piece H _ 1 (by decide) 512 6656 3584 (by decide) rfl rfl inb_S128x9216_S128x512_0_6656 inb_S128x9216_S128x512_0_3584 rfl, ?_⟩
  refine List.forall_mem_cons.2 ⟨old_piece H _ 0 (by decide) 512 3584 512 (by decide) rfl rfl inb_S128x9216_S128x512_0_3584 inb_S128x9216_S128x512_0_512 rfl, ?_⟩
  refine List.forall_mem_cons.2 ⟨new_piece H _ 0 6144 (by decide) rfl inb_S1024x3072_S1024x512_0_0 inb_S128x9216_S128x512_0_6144 (pay18_apply _ _), ?_⟩
  refine List.forall_mem_cons.2 ⟨old_piece H _ 1 (by decide) 0 6144 3072 (by decide) rfl rfl inb_S128x9216_S128x512_0_6144 inb_S128x9216_S128x512_0_3072 rfl, ?_⟩
  refine List.forall_mem_cons.2 ⟨old_piece H _ 0 (by decide) 0 3072 0 (by decide) rfl rfl inb_S128x9216_S128x512_0_3072 inb_S128x9216_S128x512_0_0 rfl, ?_⟩
  exact fun _ h => absurd h List.not_mem_nil

end Cert.FrontIdeal.Rd

end
-- ==== Proof.FrontHost.lean ====
/-
  The first stage's windows as its host operations leave them: every one an argument re-shaped, cut or rounded.
-/
module

public import proofs.«01_k».proof.Proof.FrontBlock
public import Idealize.ShloMosaic.Lib.StableHlo.Run
public import Idealize.ShloMosaic.Lib.Claim

@[expose] public section

set_option maxRecDepth 16384

noncomputable section

namespace Cert.FrontIdeal.Rd

open Cert.FrontIdeal Cert.FrontIdeal.Gen Idealize.ShloMosaic Idealize.ShloMosaic.TcCoe Idealize.SL.Sem Cert
open Idealize.ShloMosaic.Pipeline (Dat)

/-- A run of the projection's columns, flattened, cut out and rounded: in plain mathematics the columns themselves. -/
theorem cols_apply {n : ℕ} (X : Vec Ideal S1x1024x12320 .f32) (o : ℕ) (hs : S1024x12320.Slices ![0, o] ⟨2, ![1024, n]⟩)
    (ho : o + n ≤ 12320) (k : Fin 1024) (j : Fin n) :
    (truncf .bf16 (extractStridedSlice ⟨2, ![1024, n]⟩ ![0, o] (shapeCast S1024x12320 X shapeCasts_S1x1024x12320_S1024x12320) hs : FVec Ideal ⟨2, ![1024, n]⟩ .f32) bitsLt_bf16_f32 : FVec Ideal ⟨2, ![1024, n]⟩ .bf16) (ix2 k j)
      = X (ix3 0 k ⟨o + j.val, by omega⟩) := by
  pointwise

/-- Two kept rows of 1024 entries laid side by side. -/
theorem side2_apply (X : Vec Ideal S1x128x2x1024 .f32) (r : Fin 128) (t : Fin 2) (j : Fin 1024) :
    shapeCast S128x2048 (shapeCast S128x2x1024 X shapeCasts_S1x128x2x1024_S128x2x1024) shapeCasts_S128x2x1024_S128x2048 (ix2 r (⟨1024 * t.val + j.val, by omega⟩ : Fin 2048))
      = X (ix4 0 r t j) := by
  pointwise

/-- Three kept rows of 3072 entries laid side by side. -/
theorem side3_apply (X : Vec Ideal S1x128x3x3072 .f32) (r : Fin 128) (t : Fin 3) (j : Fin 3072) :
    shapeCast S128x9216 (shapeCast S128x3x3072 X shapeCasts_S1x128x3x3072_S128x3x3072) shapeCasts_S128x3x3072_S128x9216 (ix2 r (⟨3072 * t.val + j.val, by omega⟩ : Fin 9216))
      = X (ix4 0 r t j) := by
  pointwise

/-- Rows with their middle axis of one dropped. -/
theorem rows_apply (X : Vec Ideal S128x1x1024 .f32) (r : Fin 128) (k : Fin 1024) :
    shapeCast S128x1024 X shapeCasts_S128x1x1024_S128x1024 (ix2 r k) = X (ix3 r 0 k) := by
  pointwise

/-- The weights through the flat shape and back. -/
theorem flat1024_apply (X : Vec Ideal S1x1024 .f32) (k : Fin 1024) :
    shapeCast S1x1024 (shapeCast S1024 X shapeCasts_S1x1024_S1024) shapeCasts_S1024_S1x1024 (ix2 0 k) = X (ix2 0 k) := by
  pointwise

/-- The bias through the flat shape and back. -/
theorem flat3072_apply (X : Vec Ideal S1x3072 .f32) (k : Fin 3072) :
    shapeCast S1x3072 (shapeCast S3072 X shapeCasts_S1x3072_S3072) shapeCasts_S3072_S1x3072 (ix2 0 k) = X (ix2 0 k) := by
  pointwise

/-- Three taps with their first axis of one dropped. -/
theorem taps3_apply (X : Vec Ideal S1x3x1024 .f32) (t : Fin 3) (k : Fin 1024) :
    shapeCast S3x1024 X shapeCasts_S1x3x1024_S3x1024 (ix2 t k) = X (ix3 0 t k) := by
  pointwise

/-- Four taps with their first axis of one dropped. -/
theorem taps4_apply (X : Vec Ideal S1x4x3072 .f32) (t : Fin 4) (k : Fin 3072) :
    shapeCast S4x3072 X shapeCasts_S1x4x3072_S4x3072 (ix2 t k) = X (ix3 0 t k) := by
  pointwise

/-- The branch's projection with its first axis dropped and rounded: in plain mathematics the matrix itself. -/
theorem proj_apply (X : Vec Ideal S1x1024x1024 .f32) (k j : Fin 1024) :
    (truncf .bf16 (shapeCast S1024x1024 X shapeCasts_S1x1024x1024_S1024x1024 : FVec Ideal S1024x1024 .f32) bitsLt_bf16_f32 : FVec Ideal S1024x1024 .bf16) (ix2 k j)
      = X (ix3 0 k j) := by
  pointwise

variable (m : (ℓ : Loc nD τ sig) → Buf (Elt Ideal) ℓ)

/-- The rows as the kernel's window reads them. -/
theorem v37_apply (c : Dev nD) (r : Fin 128) (k : Fin 1024) :
    (V m c main_v37 : Vec Ideal S128x1024 .f32) (ix2 r k) = (m ((c : Thread nD τ).loc main_arg0) : Vec Ideal S128x1x1024 .f32) (ix3 r 0 k) := by
  have e : (V m c main_v37 : Vec Ideal S128x1024 .f32)
      = shapeCast S128x1024 (m ((c : Thread nD τ).loc main_arg0) : Vec Ideal S128x1x1024 .f32) shapeCasts_S128x1x1024_S128x1024 := by
    unfold V
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  exact (congrFun e _).trans (rows_apply (m ((c : Thread nD τ).loc main_arg0)) r k)

/-- The first convolution's kept rows as the kernel's window reads them: side by side. -/
theorem v39_apply (c : Dev nD) (r : Fin 128) (t : Fin 2) (j : Fin 1024) :
    (V m c main_v39 : Vec Ideal S128x2048 .f32) (ix2 r (⟨1024 * t.val + j.val, by omega⟩ : Fin 2048))
      = (m ((c : Thread nD τ).loc main_arg1) : Vec Ideal S1x128x2x1024 .f32) (ix4 0 r t j) := by
  have e : (V m c main_v39 : Vec Ideal S128x2048 .f32)
      = shapeCast S128x2048 (shapeCast S128x2x1024 (m ((c : Thread nD τ).loc main_arg1) : Vec Ideal S1x128x2x1024 .f32) shapeCasts_S1x128x2x1024_S128x2x1024) shapeCasts_S128x2x1024_S128x2048 := by
    unfold V
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  exact (congrFun e _).trans (side2_apply (m ((c : Thread nD τ).loc main_arg1)) r t j)

/-- The second convolution's kept rows as the kernel's window reads them. -/
theorem v41_apply (c : Dev nD) (r : Fin 128) (t : Fin 3) (j : Fin 3072) :
    (V m c main_v41 : Vec Ideal S128x9216 .f32) (ix2 r (⟨3072 * t.val + j.val, by omega⟩ : Fin 9216))
      = (m ((c : Thread nD τ).loc main_arg2) : Vec Ideal S1x128x3x3072 .f32) (ix4 0 r t j) := by
  have e : (V m c main_v41 : Vec Ideal S128x9216 .f32)
      = shapeCast S128x9216 (shapeCast S128x3x3072 (m ((c : Thread nD τ).loc main_arg2) : Vec Ideal S1x128x3x3072 .f32) shapeCasts_S1x128x3x3072_S128x3x3072) shapeCasts_S128x3x3072_S128x9216 := by
    unfold V
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  exact (congrFun e _).trans (side3_apply (m ((c : Thread nD τ).loc main_arg2)) r t j)

/-- The normalization's weights as the kernel's window reads them. -/
theorem v15_apply (c : Dev nD) (k : Fin 1024) :
    (V m c main_v15 : Vec Ideal S1x1024 .f32) (ix2 0 k) = (m ((c : Thread nD τ).loc main_arg3) : Vec Ideal S1x1024 .f32) (ix2 0 k) := by
  have e : (V m c main_v15 : Vec Ideal S1x1024 .f32)
      = shapeCast S1x1024 (shapeCast S1024 (m ((c : Thread nD τ).loc main_arg3) : Vec Ideal S1x1024 .f32) shapeCasts_S1x1024_S1024) shapeCasts_S1024_S1x1024 := by
    unfold V
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  exact (congrFun e _).trans (flat1024_apply (m ((c : Thread nD τ).loc main_arg3)) k)

/-- The second convolution's bias as the kernel's window reads it. -/
theorem v23_apply (c : Dev nD) (k : Fin 3072) :
    (V m c main_v23 : Vec Ideal S1x3072 .f32) (ix2 0 k) = (m ((c : Thread nD τ).loc main_arg8) : Vec Ideal S1x3072 .f32) (ix2 0 k) := by
  have e : (V m c main_v23 : Vec Ideal S1x3072 .f32)
      = shapeCast S1x3072 (shapeCast S3072 (m ((c : Thread nD τ).loc main_arg8) : Vec Ideal S1x3072 .f32) shapeCasts_S1x3072_S3072) shapeCasts_S3072_S1x3072 := by
    unfold V
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  exact (congrFun e _).trans (flat3072_apply (m ((c : Thread nD τ).loc main_arg8)) k)

/-- The first convolution's taps as the kernel's window reads them. -/
theorem v25_apply (c : Dev nD) (t : Fin 3) (k : Fin 1024) :
    (V m c main_v25 : Vec Ideal S3x1024 .f32) (ix2 t k) = (m ((c : Thread nD τ).loc main_arg5) : Vec Ideal S1x3x1024 .f32) (ix3 0 t k) := by
  have e : (V m c main_v25 : Vec Ideal S3x1024 .f32)
      = shapeCast S3x1024 (m ((c : Thread nD τ).loc main_arg5) : Vec Ideal S1x3x1024 .f32) shapeCasts_S1x3x1024_S3x1024 := by
    unfold V
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  exact (congrFun e _).trans (taps3_apply (m ((c : Thread nD τ).loc main_arg5)) t k)

/-- The second convolution's taps as the kernel's window reads them. -/
theorem v24_apply (c : Dev nD) (t : Fin 4) (k : Fin 3072) :
    (V m c main_v24 : Vec Ideal S4x3072 .f32) (ix2 t k) = (m ((c : Thread nD τ).loc main_arg7) : Vec Ideal S1x4x3072 .f32) (ix3 0 t k) := by
  have e : (V m c main_v24 : Vec Ideal S4x3072 .f32)
      = shapeCast S4x3072 (m ((c : Thread nD τ).loc main_arg7) : Vec Ideal S1x4x3072 .f32) shapeCasts_S1x4x3072_S4x3072 := by
    unfold V
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  exact (congrFun e _).trans (taps4_apply (m ((c : Thread nD τ).loc main_arg7)) t k)

/-- The first branch's projection as the kernel's window reads it. -/
theorem v27_apply (c : Dev nD) (k j : Fin 1024) :
    (V m c main_v27 : Vec Ideal S1024x1024 .bf16) (ix2 k j) = (m ((c : Thread nD τ).loc main_arg6) : Vec Ideal S1x1024x1024 .f32) (ix3 0 k j) := by
  have e : (V m c main_v27 : Vec Ideal S1024x1024 .bf16)
      = (truncf .bf16 (shapeCast S1024x1024 (m ((c : Thread nD τ).loc main_arg6) : Vec Ideal S1x1024x1024 .f32) shapeCasts_S1x1024x1024_S1024x1024 : FVec Ideal S1024x1024 .f32) bitsLt_bf16_f32 : FVec Ideal S1024x1024 .bf16) := by
    unfold V
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  exact (congrFun e _).trans (proj_apply (m ((c : Thread nD τ).loc main_arg6)) k j)

/-- The projection's columns from 0 on as the kernel's window reads them. -/
theorem v2_apply (c : Dev nD) (k : Fin 1024) (j : Fin 3072) :
    (V m c main_v2 : Vec Ideal S1024x3072 .bf16) (ix2 k j) = (m ((c : Thread nD τ).loc main_arg4) : Vec Ideal S1x1024x12320 .f32) (ix3 0 k ⟨0 + j.val, by omega⟩) := by
  have e : (V m c main_v2 : Vec Ideal S1024x3072 .bf16)
      = (truncf .bf16 (extractStridedSlice S1024x3072 ![0, 0] (shapeCast S1024x12320 (m ((c : Thread nD τ).loc main_arg4) : Vec Ideal S1x1024x12320 .f32) shapeCasts_S1x1024x12320_S1024x12320) slices_S1024x12320_S1024x3072_0_0 : FVec Ideal S1024x3072 .f32) bitsLt_bf16_f32 : FVec Ideal S1024x3072 .bf16) := by
    unfold V
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  exact (congrFun e _).trans (cols_apply (m ((c : Thread nD τ).loc main_arg4)) 0 slices_S1024x12320_S1024x3072_0_0 (by decide) k j)

/-- The projection's columns from 3072 on as the kernel's window reads them. -/
theorem v4_apply (c : Dev nD) (k : Fin 1024) (j : Fin 2048) :
    (V m c main_v4 : Vec Ideal S1024x2048 .bf16) (ix2 k j) = (m ((c : Thread nD τ).loc main_arg4) : Vec Ideal S1x1024x12320 .f32) (ix3 0 k ⟨3072 + j.val, by omega⟩) := by
  have e : (V m c main_v4 : Vec Ideal S1024x2048 .bf16)
      = (truncf .bf16 (extractStridedSlice S1024x2048 ![0, 3072] (shapeCast S1024x12320 (m ((c : Thread nD τ).loc main_arg4) : Vec Ideal S1x1024x12320 .f32) shapeCasts_S1x1024x12320_S1024x12320) slices_S1024x12320_S1024x2048_0_3072 : FVec Ideal S1024x2048 .f32) bitsLt_bf16_f32 : FVec Ideal S1024x2048 .bf16) := by
    unfold V
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  exact (congrFun e _).trans (cols_apply (m ((c : Thread nD τ).loc main_arg4)) 3072 slices_S1024x12320_S1024x2048_0_3072 (by decide) k j)

/-- The projection's columns from 5120 on as the kernel's window reads them. -/
theorem v6_apply (c : Dev nD) (k : Fin 1024) (j : Fin 3072) :
    (V m c main_v6 : Vec Ideal S1024x3072 .bf16) (ix2 k j) = (m ((c : Thread nD τ).loc main_arg4) : Vec Ideal S1x1024x12320 .f32) (ix3 0 k ⟨5120 + j.val, by omega⟩) := by
  have e : (V m c main_v6 : Vec Ideal S1024x3072 .bf16)
      = (truncf .bf16 (extractStridedSlice S1024x3072 ![0, 5120] (shapeCast S1024x12320 (m ((c : Thread nD τ).loc main_arg4) : Vec Ideal S1x1024x12320 .f32) shapeCasts_S1x1024x12320_S1024x12320) slices_S1024x12320_S1024x3072_0_5120 : FVec Ideal S1024x3072 .f32) bitsLt_bf16_f32 : FVec Ideal S1024x3072 .bf16) := by
    unfold V
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  exact (congrFun e _).trans (cols_apply (m ((c : Thread nD τ).loc main_arg4)) 5120 slices_S1024x12320_S1024x3072_0_5120 (by decide) k j)

/-- The projection's columns from 8224 on as the kernel's window reads them. -/
theorem v11_apply (c : Dev nD) (k : Fin 1024) (j : Fin 1024) :
    (V m c main_v11 : Vec Ideal S1024x1024 .bf16) (ix2 k j) = (m ((c : Thread nD τ).loc main_arg4) : Vec Ideal S1x1024x12320 .f32) (ix3 0 k ⟨8224 + j.val, by omega⟩) := by
  have e : (V m c main_v11 : Vec Ideal S1024x1024 .bf16)
      = (truncf .bf16 (extractStridedSlice S1024x1024 ![0, 8224] (shapeCast S1024x12320 (m ((c : Thread nD τ).loc main_arg4) : Vec Ideal S1x1024x12320 .f32) shapeCasts_S1x1024x12320_S1024x12320) slices_S1024x12320_S1024x1024_0_8224 : FVec Ideal S1024x1024 .f32) bitsLt_bf16_f32 : FVec Ideal S1024x1024 .bf16) := by
    unfold V
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  exact (congrFun e _).trans (cols_apply (m ((c : Thread nD τ).loc main_arg4)) 8224 slices_S1024x12320_S1024x1024_0_8224 (by decide) k j)

/-- The projection's columns from 9248 on as the kernel's window reads them. -/
theorem v13_apply (c : Dev nD) (k : Fin 1024) (j : Fin 3072) :
    (V m c main_v13 : Vec Ideal S1024x3072 .bf16) (ix2 k j) = (m ((c : Thread nD τ).loc main_arg4) : Vec Ideal S1x1024x12320 .f32) (ix3 0 k ⟨9248 + j.val, by omega⟩) := by
  have e : (V m c main_v13 : Vec Ideal S1024x3072 .bf16)
      = (truncf .bf16 (extractStridedSlice S1024x3072 ![0, 9248] (shapeCast S1024x12320 (m ((c : Thread nD τ).loc main_arg4) : Vec Ideal S1x1024x12320 .f32) shapeCasts_S1x1024x12320_S1024x12320) slices_S1024x12320_S1024x3072_0_9248 : FVec Ideal S1024x3072 .f32) bitsLt_bf16_f32 : FVec Ideal S1024x3072 .bf16) := by
    unfold V
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  exact (congrFun e _).trans (cols_apply (m ((c : Thread nD τ).loc main_arg4)) 9248 slices_S1024x12320_S1024x3072_0_9248 (by decide) k j)

end Cert.FrontIdeal.Rd

end
-- ==== Proof.FrontValue.lean ====
/-
  The first stage's result arrays at the end of a run: every one at each token is a row function of the arguments.
-/
module

public import proofs.«01_k».proof.Proof.FrontHost
public import Idealize.ShloMosaic.Lib.StableHlo.Run
public import Idealize.ShloMosaic.Lib.Claim

@[expose] public section

set_option maxRecDepth 16384

noncomputable section

namespace Cert.FrontIdeal.Rd

open Cert.FrontIdeal Cert.FrontIdeal.Gen Idealize.ShloMosaic Idealize.ShloMosaic.TcCoe Idealize.SL.Sem Cert
open Idealize.ShloMosaic.Pipeline (Dat)

variable (m : (ℓ : Loc nD τ sig) → Buf (Elt Ideal) ℓ)

/-- The one grid point reads and writes every array whole. -/
theorem idx_facts : ∀ t : Fin cfg0.N, win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_8.index t = ![0, 0] ∧ win0_9.index t = ![0, 0]
    ∧ win0_10.index t = ![0, 0] ∧ win0_11.index t = ![0, 0] ∧ win0_12.index t = ![0, 0] ∧ win0_15.index t = ![0, 0] :=
  (by decide +kernel : ∀ t : Fin grid0.N, _)

/-- The result windows too. -/
theorem out_facts : ∀ t : Fin cfg0.N, win0_17.index t = ![0, 0] ∧ win0_18.index t = ![0, 0] ∧ win0_19.index t = ![0, 0] ∧ win0_20.index t = ![0, 0] ∧ win0_21.index t = ![0, 0]
    ∧ win0_24.index t = ![0, 0] ∧ win0_25.index t = ![0, 0] ∧ win0_26.index t = ![0, 0] ∧ win0_27.index t = ![0, 0] ∧ win0_28.index t = ![0, 0] :=
  (by decide +kernel : ∀ t : Fin grid0.N, _)

section
variable (a0 : Vec Ideal S128x1x1024 .f32) (a1 : Vec Ideal S1x128x2x1024 .f32) (a2 : Vec Ideal S1x128x3x3072 .f32) (a3 : Vec Ideal S1x1024 .f32)
  (a4 : Vec Ideal S1x1024x12320 .f32) (a5 : Vec Ideal S1x3x1024 .f32) (a6 : Vec Ideal S1x1024x1024 .f32) (a7 : Vec Ideal S1x4x3072 .f32)
  (a8 : Vec Ideal S1x3072 .f32)

/-- A row of the argument, normalized and projected. -/
def P (r : Fin 128) : Fin 12320 → EReal := pr (fun r k => a0 (ix3 r 0 k)) (fun k => a3 (ix2 0 k)) (fun k j => a4 (ix3 0 k j)) r

/-- The first branch of every token. -/
def GBranch : Vec Ideal S128x1024 .f32 := fun i =>
  Rows.branch (P a0 a3 a4 (i 0)) (fun j => a1 (ix4 0 (i 0) 0 j)) (fun j => a1 (ix4 0 (i 0) 1 j)) (fun t j => a5 (ix3 0 t j)) (fun k j => a6 (ix3 0 k j)) (i 1)

/-- A section of every token's projected row. -/
def GSec (n o : ℕ) (h : o + n ≤ 12320) : Vec Ideal ⟨2, ![128, n]⟩ .f32 := fun i => Rows.at' (P a0 a3 a4 (i 0)) o h (i 1)

/-- A gate of every token. -/
def GGate (o : ℕ) (h : o + 1024 ≤ 12320) : Vec Ideal S128x1024 .f32 := fun i => Ideal.logistic (Rows.at' (P a0 a3 a4 (i 0)) o h (i 1))

/-- Columns of every token's second convolution with its activation. -/
def GAct (n o : ℕ) (h : o + n ≤ 3072) : Vec Ideal ⟨2, ![128, n]⟩ .f32 := fun i =>
  Rows.act (P a0 a3 a4 (i 0)) (fun t j => a2 (ix4 0 (i 0) t j)) (fun t j => a7 (ix3 0 t j)) (fun j => a8 (ix2 0 j))
    ⟨o + (i 1).val, by have : (i 1).val < n := (i 1).isLt; omega⟩

/-- The first convolution's kept rows for the next token. -/
def GKeep2 : Vec Ideal S128x2048 .f32 := fun i => Rows.keep2 (P a0 a3 a4 (i 0)) (fun j => a1 (ix4 0 (i 0) 1 j)) (i 1)

/-- The second convolution's kept rows for the next token. -/
def GKeep3 : Vec Ideal S128x9216 .f32 := fun i => Rows.keep3 (P a0 a3 a4 (i 0)) (fun t j => a2 (ix4 0 (i 0) t j)) (i 1)
end

set_option maxHeartbeats 1600000 in
/-- At the grid point the input windows hold the arguments. -/
theorem reads (c : Dev nD) (t : Fin cfg0.N) :
    Reads (iblk m c 0 t) (iblk m c 1 t) (iblk m c 2 t) (iblk m c 3 t) (iblk m c 4 t) (iblk m c 5 t) (iblk m c 6 t) (iblk m c 8 t) (iblk m c 9 t)
      (iblk m c 10 t) (iblk m c 11 t) (iblk m c 12 t) (iblk m c 15 t)
      (fun r k => (m ((c : Thread nD τ).loc main_arg0) : Vec Ideal S128x1x1024 .f32) (ix3 r 0 k))
      (fun k => (m ((c : Thread nD τ).loc main_arg3) : Vec Ideal S1x1024 .f32) (ix2 0 k))
      (fun k j => (m ((c : Thread nD τ).loc main_arg4) : Vec Ideal S1x1024x12320 .f32) (ix3 0 k j))
      (fun r t j => (m ((c : Thread nD τ).loc main_arg1) : Vec Ideal S1x128x2x1024 .f32) (ix4 0 r t j))
      (fun r t j => (m ((c : Thread nD τ).loc main_arg2) : Vec Ideal S1x128x3x3072 .f32) (ix4 0 r t j))
      (fun t j => (m ((c : Thread nD τ).loc main_arg5) : Vec Ideal S1x3x1024 .f32) (ix3 0 t j))
      (fun t j => (m ((c : Thread nD τ).loc main_arg7) : Vec Ideal S1x4x3072 .f32) (ix3 0 t j))
      (fun j => (m ((c : Thread nD τ).loc main_arg8) : Vec Ideal S1x3072 .f32) (ix2 0 j))
      (fun k j => (m ((c : Thread nD τ).loc main_arg6) : Vec Ideal S1x1024x1024 .f32) (ix3 0 k j)) := by
  obtain ⟨e0, e1, e2, e3, e4, e5, e6, e8, e9, e10, e11, e12, e15⟩ := idx_facts t
  constructor
  · intro r k
    refine Eq.trans ?_ (v37_apply m c r k)
    blk_simp [iblk]
    refine congrArg _ ?_
    blk_ext [e0]
  · intro r u j
    refine Eq.trans ?_ (v39_apply m c r u j)
    blk_simp [iblk]
    refine congrArg _ ?_
    blk_ext [e1]
  · intro r u j
    refine Eq.trans ?_ (v41_apply m c r u j)
    blk_simp [iblk]
    refine congrArg _ ?_
    blk_ext [e2]
  · intro k
    refine Eq.trans ?_ (v15_apply m c k)
    blk_simp [iblk]
    refine congrArg _ ?_
    blk_ext [e3]
  · intro k j
    refine Eq.trans ?_ (v2_apply m c k j)
    blk_simp [iblk]
    refine congrArg _ ?_
    blk_ext [e4]
  · intro k j
    refine Eq.trans ?_ (v4_apply m c k j)
    blk_simp [iblk]
    refine congrArg _ ?_
    blk_ext [e5]
  · intro k j
    refine Eq.trans ?_ (v6_apply m c k j)
    blk_simp [iblk]
    refine congrArg _ ?_
    blk_ext [e6]
  · intro k j
    refine Eq.trans ?_ (v11_apply m c k j)
    blk_simp [iblk]
    refine congrArg _ ?_
    blk_ext [e8]
  · intro k j
    refine Eq.trans ?_ (v13_apply m c k j)
    blk_simp [iblk]
    refine congrArg _ ?_
    blk_ext [e9]
  · intro u j
    refine Eq.trans ?_ (v25_apply m c u j)
    blk_simp [iblk]
    refine congrArg _ ?_
    blk_ext [e10]
  · intro u j
    refine Eq.trans ?_ (v24_apply m c u j)
    blk_simp [iblk]
    refine congrArg _ ?_
    blk_ext [e11]
  · intro j
    refine Eq.trans ?_ (v23_apply m c j)
    blk_simp [iblk]
    refine congrArg _ ?_
    blk_ext [e12]
  · intro k j
    refine Eq.trans ?_ (v27_apply m c k j)
    blk_simp [iblk]
    refine congrArg _ ?_
    blk_ext [e15]

/-- The first branch after the run, of the arguments. -/
abbrev R17 (c : Dev nD) : Buf (Elt Ideal) ((c : Thread nD τ).loc main_v42_0) :=
  GBranch (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))

/-- The result array after the run holds it. -/
theorem final17 (c : Dev nD) : (dats m 0 c).arrAt 17 cfg0.N = R17 m c := by
  refine (dats m 0 c).arrAt_eq_of_covers 17 _ (by decide +kernel) fun t hf y => ?_
  obtain ⟨f17, f18, f19, f20, f21, f24, f25, f26, f27, f28⟩ := out_facts t
  blk_simp
  rw [after0_17]
  idx_vars y
  have hE : (win0_17.blk t).view.emb (ix2 y0 y1) = ix2 y0 y1 := by blk_ext [f17]
  exact (out17 (reads m c t) y0 y1).trans (congrArg (R17 m c) hE).symm

/-- The second gate after the run, of the arguments. -/
abbrev R18 (c : Dev nD) : Buf (Elt Ideal) ((c : Thread nD τ).loc main_v42_1) :=
  GGate (m ((c : Thread nD τ).loc main_arg0)) (m ((c : Thread nD τ).loc main_arg3)) (m ((c : Thread nD τ).loc main_arg4)) 10272 (by decide)

/-- The result array after the run holds it. -/
theorem final18 (c : Dev nD) : (dats m 0 c).arrAt 18 cfg0.N = R18 m c := by
  refine (dats m 0 c).arrAt_eq_of_covers 18 _ (by decide +kernel) fun t hf y => ?_
  obtain ⟨f17, f18, f19, f20, f21, f24, f25, f26, f27, f28⟩ := out_facts t
  blk_simp
  rw [after0_18]
  idx_vars y
  have hE : (win0_18.blk t).view.emb (ix2 y0 y1) = ix2 y0 y1 := by blk_ext [f18]
  exact (out18 (reads m c t) y0 y1).trans (congrArg (R18 m c) hE).symm

/-- The third gate after the run, of the arguments. -/
abbrev R19 (c : Dev nD) : Buf (Elt Ideal) ((c : Thread nD τ).loc main_v42_2) :=
  GGate (m ((c : Thread nD τ).loc main_arg0)) (m ((c : Thread nD τ).loc main_arg3)) (m ((c : Thread nD τ).loc main_arg4)) 11296 (by decide)

/-- The result array after the run holds it. -/
theorem final19 (c : Dev nD) : (dats m 0 c).arrAt 19 cfg0.N = R19 m c := by
  refine (dats m 0 c).arrAt_eq_of_covers 19 _ (by decide +kernel) fun t hf y => ?_
  obtain ⟨f17, f18, f19, f20, f21, f24, f25, f26, f27, f28⟩ := out_facts t
  blk_simp
  rw [after0_19]
  idx_vars y
  have hE : (win0_19.blk t).view.emb (ix2 y0 y1) = ix2 y0 y1 := by blk_ext [f19]
  exact (out19 (reads m c t) y0 y1).trans (congrArg (R19 m c) hE).symm

/-- The recurrence's gate after the run, of the arguments. -/
abbrev R20 (c : Dev nD) : Buf (Elt Ideal) ((c : Thread nD τ).loc main_v42_3) :=
  GSec (m ((c : Thread nD τ).loc main_arg0)) (m ((c : Thread nD τ).loc main_arg3)) (m ((c : Thread nD τ).loc main_arg4)) 2048 3072 (by decide)

/-- The result array after the run holds it. -/
theorem final20 (c : Dev nD) : (dats m 0 c).arrAt 20 cfg0.N = R20 m c := by
  refine (dats m 0 c).arrAt_eq_of_covers 20 _ (by decide +kernel) fun t hf y => ?_
  obtain ⟨f17, f18, f19, f20, f21, f24, f25, f26, f27, f28⟩ := out_facts t
  blk_simp
  rw [after0_20]
  idx_vars y
  have hE : (win0_20.blk t).view.emb (ix2 y0 y1) = ix2 y0 y1 := by blk_ext [f20]
  exact (out20 (reads m c t) y0 y1).trans (congrArg (R20 m c) hE).symm

/-- The recurrence's inputs after the run, of the arguments. -/
abbrev R21 (c : Dev nD) : Buf (Elt Ideal) ((c : Thread nD τ).loc main_v42_4) :=
  GAct (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg8)) 2048 0 (by decide)

/-- The result array after the run holds it. -/
theorem final21 (c : Dev nD) : (dats m 0 c).arrAt 21 cfg0.N = R21 m c := by
  refine (dats m 0 c).arrAt_eq_of_covers 21 _ (by decide +kernel) fun t hf y => ?_
  obtain ⟨f17, f18, f19, f20, f21, f24, f25, f26, f27, f28⟩ := out_facts t
  blk_simp
  rw [after0_21]
  idx_vars y
  have hE : (win0_21.blk t).view.emb (ix2 y0 y1) = ix2 y0 y1 := by blk_ext [f21]
  exact (out21 (reads m c t) y0 y1).trans (congrArg (R21 m c) hE).symm

/-- The recurrence's writing keys after the run, of the arguments. -/
abbrev R24 (c : Dev nD) : Buf (Elt Ideal) ((c : Thread nD τ).loc main_v42_7) :=
  GAct (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg8)) 512 2048 (by decide)

/-- The result array after the run holds it. -/
theorem final24 (c : Dev nD) : (dats m 0 c).arrAt 24 cfg0.N = R24 m c := by
  refine (dats m 0 c).arrAt_eq_of_covers 24 _ (by decide +kernel) fun t hf y => ?_
  obtain ⟨f17, f18, f19, f20, f21, f24, f25, f26, f27, f28⟩ := out_facts t
  blk_simp
  rw [after0_24]
  idx_vars y
  have hE : (win0_24.blk t).view.emb (ix2 y0 y1) = ix2 y0 y1 := by blk_ext [f24]
  exact (out24 (reads m c t) y0 y1).trans (congrArg (R24 m c) hE).symm

/-- The recurrence's reading keys after the run, of the arguments. -/
abbrev R25 (c : Dev nD) : Buf (Elt Ideal) ((c : Thread nD τ).loc main_v42_8) :=
  GAct (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg8)) 512 2560 (by decide)

/-- The result array after the run holds it. -/
theorem final25 (c : Dev nD) : (dats m 0 c).arrAt 25 cfg0.N = R25 m c := by
  refine (dats m 0 c).arrAt_eq_of_covers 25 _ (by decide +kernel) fun t hf y => ?_
  obtain ⟨f17, f18, f19, f20, f21, f24, f25, f26, f27, f28⟩ := out_facts t
  blk_simp
  rw [after0_25]
  idx_vars y
  have hE : (win0_25.blk t).view.emb (ix2 y0 y1) = ix2 y0 y1 := by blk_ext [f25]
  exact (out25 (reads m c t) y0 y1).trans (congrArg (R25 m c) hE).symm

/-- The queries after the run, of the arguments. -/
abbrev R26 (c : Dev nD) : Buf (Elt Ideal) ((c : Thread nD τ).loc main_v42_9) :=
  GSec (m ((c : Thread nD τ).loc main_arg0)) (m ((c : Thread nD τ).loc main_arg3)) (m ((c : Thread nD τ).loc main_arg4)) 1024 8224 (by decide)

/-- The result array after the run holds it. -/
theorem final26 (c : Dev nD) : (dats m 0 c).arrAt 26 cfg0.N = R26 m c := by
  refine (dats m 0 c).arrAt_eq_of_covers 26 _ (by decide +kernel) fun t hf y => ?_
  obtain ⟨f17, f18, f19, f20, f21, f24, f25, f26, f27, f28⟩ := out_facts t
  blk_simp
  rw [after0_26]
  idx_vars y
  have hE : (win0_26.blk t).view.emb (ix2 y0 y1) = ix2 y0 y1 := by blk_ext [f26]
  exact (out26 (reads m c t) y0 y1).trans (congrArg (R26 m c) hE).symm

/-- The first convolution's kept rows after the run, of the arguments. -/
abbrev R27 (c : Dev nD) : Buf (Elt Ideal) ((c : Thread nD τ).loc main_v42_10) :=
  GKeep2 (m ((c : Thread nD τ).loc main_arg0)) (m ((c : Thread nD τ).loc main_arg1)) (m ((c : Thread nD τ).loc main_arg3)) (m ((c : Thread nD τ).loc main_arg4))

/-- The result array after the run holds it. -/
theorem final27 (c : Dev nD) : (dats m 0 c).arrAt 27 cfg0.N = R27 m c := by
  refine (dats m 0 c).arrAt_eq_of_covers 27 _ (by decide +kernel) fun t hf y => ?_
  obtain ⟨f17, f18, f19, f20, f21, f24, f25, f26, f27, f28⟩ := out_facts t
  blk_simp
  rw [after0_27]
  idx_vars y
  have hE : (win0_27.blk t).view.emb (ix2 y0 y1) = ix2 y0 y1 := by blk_ext [f27]
  exact (out27 (reads m c t) y0 y1).trans (congrArg (R27 m c) hE).symm

/-- The second convolution's kept rows after the run, of the arguments. -/
abbrev R28 (c : Dev nD) : Buf (Elt Ideal) ((c : Thread nD τ).loc main_v42_11) :=
  GKeep3 (m ((c : Thread nD τ).loc main_arg0)) (m ((c : Thread nD τ).loc main_arg2)) (m ((c : Thread nD τ).loc main_arg3)) (m ((c : Thread nD τ).loc main_arg4))

/-- The result array after the run holds it. -/
theorem final28 (c : Dev nD) : (dats m 0 c).arrAt 28 cfg0.N = R28 m c := by
  refine (dats m 0 c).arrAt_eq_of_covers 28 _ (by decide +kernel) fun t hf y => ?_
  obtain ⟨f17, f18, f19, f20, f21, f24, f25, f26, f27, f28⟩ := out_facts t
  blk_simp
  rw [after0_28]
  idx_vars y
  have hE : (win0_28.blk t).view.emb (ix2 y0 y1) = ix2 y0 y1 := by blk_ext [f28]
  exact (out28 (reads m c t) y0 y1).trans (congrArg (R28 m c) hE).symm

set_option maxHeartbeats 1600000 in
/-- A run ends with the ten result arrays at their functions of the arguments, which it leaves as they were. -/
theorem run (ρ : Dev nD → PrngReg) : θ_run defs (onTc (τ := τ) (main (F := Ideal))) ⟨m, fun _ => 0, ρ⟩ (fun r => ∀ c : Dev nD,
      r.2.mem ((c : Thread nD τ).loc main_v42_0) = R17 m c ∧
      r.2.mem ((c : Thread nD τ).loc main_v42_1) = R18 m c ∧
      r.2.mem ((c : Thread nD τ).loc main_v42_2) = R19 m c ∧
      r.2.mem ((c : Thread nD τ).loc main_v42_3) = R20 m c ∧
      r.2.mem ((c : Thread nD τ).loc main_v42_4) = R21 m c ∧
      r.2.mem ((c : Thread nD τ).loc main_v42_7) = R24 m c ∧
      r.2.mem ((c : Thread nD τ).loc main_v42_8) = R25 m c ∧
      r.2.mem ((c : Thread nD τ).loc main_v42_9) = R26 m c ∧
      r.2.mem ((c : Thread nD τ).loc main_v42_10) = R27 m c ∧
      r.2.mem ((c : Thread nD τ).loc main_v42_11) = R28 m c ∧
      (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10))) :=
  (θ_run defs _ _).mono (fun r h c => ⟨((h.1 c).1 17).trans (final17 m c), ((h.1 c).1 18).trans (final18 m c), ((h.1 c).1 19).trans (final19 m c), ((h.1 c).1 20).trans (final20 m c), ((h.1 c).1 21).trans (final21 m c), ((h.1 c).1 24).trans (final24 m c), ((h.1 c).1 25).trans (final25 m c), ((h.1 c).1 26).trans (final26 m c), ((h.1 c).1 27).trans (final27 m c), ((h.1 c).1 28).trans (final28 m c), h.2 c⟩)
    (θ_run_and (run_main m ρ) (unchanged m ρ))

end Cert.FrontIdeal.Rd

end
-- ==== Proof.FrontRef.lean ====
/-
  The first stage's reference, read at an index as the layer's row functions.
-/
module

public import proofs.«01_k».proof.Proof.Gen.PlainFrontIdeal.Read
public import proofs.«01_k».proof.Proof.FrontRows
public import Idealize.ShloMosaic.Lib.Pointwise

@[expose] public section

set_option maxRecDepth 16384

noncomputable section

namespace Cert.PlainFrontIdeal.Rd

open Cert.PlainFrontIdeal Cert.PlainFrontIdeal.Gen Cert.PlainFrontIdeal.Read Idealize.ShloMosaic Cert

variable (x0 : Vec Ideal S128x1x1024 .f32) (x1 : Vec Ideal S1x128x2x1024 .f32) (x2 : Vec Ideal S1x128x3x3072 .f32) (x3 : Vec Ideal S1x1024 .f32)
  (x4 : Vec Ideal S1x1024x12320 .f32) (x5 : Vec Ideal S1x3x1024 .f32) (x6 : Vec Ideal S1x1024x1024 .f32) (x7 : Vec Ideal S1x4x3072 .f32)
  (x8 : Vec Ideal S1x3072 .f32)

/-- The normalized rows. -/
theorem v13_apply (r : Fin 128) (q : Fin 1024) :
    val_main_v13 (F := Ideal) x0 x3 (ix3 r 0 q) = Rows.rms (fun k => x0 (ix3 r 0 k)) (fun k => x3 (ix2 0 k)) q := by
  unfold Rows.rms Rows.eps Rows.width
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- A row, normalized and projected. -/
def proj (r : Fin 128) : Fin 12320 → EReal :=
  Rows.mm (Rows.rms (fun k => x0 (ix3 r 0 k)) (fun k => x3 (ix2 0 k))) (fun k j => x4 (ix3 0 k j))

/-- The projected rows. -/
theorem v15_apply (r : Fin 128) (q : Fin 12320) : val_main_v15 (F := Ideal) x0 x3 x4 (ix3 r 0 q) = proj x0 x3 x4 r q := by
  unfold proj Rows.mm
  simp only [← v13_apply]
  pointwise [val_main_v15, val_main_v14]

/-- The section that gates the first convolution. -/
theorem v16_apply (r : Fin 128) (q : Fin 1024) : val_main_v16 (F := Ideal) x0 x3 x4 (ix3 r 0 q) = Rows.at' (proj x0 x3 x4 r) 0 (by decide) q := by
  refine Eq.trans ?_ (v15_apply x0 x3 x4 r _)
  unfold val_main_v16
  generalize val_main_v15 (F := Ideal) x0 x3 x4 = y
  pointwise

/-- The first convolution's first factor. -/
theorem v17_apply (r : Fin 128) (q : Fin 1024) : val_main_v17 (F := Ideal) x0 x3 x4 (ix3 r 0 q) = Rows.at' (proj x0 x3 x4 r) 1024 (by decide) q := by
  refine Eq.trans ?_ (v15_apply x0 x3 x4 r _)
  unfold val_main_v17
  generalize val_main_v15 (F := Ideal) x0 x3 x4 = y
  pointwise

/-- Its second factor. -/
theorem v18_apply (r : Fin 128) (q : Fin 1024) : val_main_v18 (F := Ideal) x0 x3 x4 (ix3 r 0 q) = Rows.at' (proj x0 x3 x4 r) 2048 (by decide) q := by
  refine Eq.trans ?_ (v15_apply x0 x3 x4 r _)
  unfold val_main_v18
  generalize val_main_v15 (F := Ideal) x0 x3 x4 = y
  pointwise

/-- The recurrence's gate. -/
theorem v19_apply (r : Fin 128) (q : Fin 2048) : val_main_v19 (F := Ideal) x0 x3 x4 (ix3 r 0 q) = Rows.at' (proj x0 x3 x4 r) 3072 (by decide) q := by
  refine Eq.trans ?_ (v15_apply x0 x3 x4 r _)
  unfold val_main_v19
  generalize val_main_v15 (F := Ideal) x0 x3 x4 = y
  pointwise

/-- The second convolution's new row. -/
theorem v20_apply (r : Fin 128) (q : Fin 3072) : val_main_v20 (F := Ideal) x0 x3 x4 (ix3 r 0 q) = Rows.at' (proj x0 x3 x4 r) 5120 (by decide) q := by
  refine Eq.trans ?_ (v15_apply x0 x3 x4 r _)
  unfold val_main_v20
  generalize val_main_v15 (F := Ideal) x0 x3 x4 = y
  pointwise

/-- The queries. -/
theorem v22_apply (r : Fin 128) (q : Fin 1024) : val_main_v22 (F := Ideal) x0 x3 x4 (ix3 r 0 q) = Rows.at' (proj x0 x3 x4 r) 8224 (by decide) q := by
  refine Eq.trans ?_ (v15_apply x0 x3 x4 r _)
  unfold val_main_v22
  generalize val_main_v15 (F := Ideal) x0 x3 x4 = y
  pointwise

/-- The three gates. -/
theorem v23_apply (r : Fin 128) (q : Fin 3072) : val_main_v23 (F := Ideal) x0 x3 x4 (ix3 r 0 q) = Rows.at' (proj x0 x3 x4 r) 9248 (by decide) q := by
  refine Eq.trans ?_ (v15_apply x0 x3 x4 r _)
  unfold val_main_v23
  generalize val_main_v15 (F := Ideal) x0 x3 x4 = y
  pointwise

/-- The first convolution's new row. -/
theorem v24_apply (r : Fin 128) (q : Fin 1024) : val_main_v24 (F := Ideal) x0 x3 x4 (ix3 r 0 q) = Rows.fresh (proj x0 x3 x4 r) q := by
  unfold Rows.fresh
  rw [← v17_apply, ← v18_apply]
  rfl

/-- Kept row 0 of the first convolution. -/
theorem v28_apply (r : Fin 128) (q : Fin 1024) : val_main_v28 (F := Ideal) x0 x1 x3 x4 (ix3 r 0 q) = x1 (ix4 0 r 0 q) := by
  unfold val_main_v28 val_main_v27
  generalize val_main_v24 (F := Ideal) x0 x3 x4 = y
  pointwise [val_main_v25]

/-- Kept row 1 of the first convolution. -/
theorem v34_apply (r : Fin 128) (q : Fin 1024) : val_main_v34 (F := Ideal) x0 x1 x3 x4 (ix3 r 0 q) = x1 (ix4 0 r 1 q) := by
  unfold val_main_v34 val_main_v27
  generalize val_main_v24 (F := Ideal) x0 x3 x4 = y
  pointwise [val_main_v25]

/-- The convolution's last row is the new one. -/
theorem v41_apply (r : Fin 128) (q : Fin 1024) : val_main_v41 (F := Ideal) x0 x1 x3 x4 (ix3 r 0 q) = Rows.fresh (proj x0 x3 x4 r) q := by
  rw [← v24_apply]
  unfold val_main_v41 val_main_v27
  generalize val_main_v24 (F := Ideal) x0 x3 x4 = y
  pointwise [val_main_v25]

/-- The first convolution. -/
theorem v47_apply (r : Fin 128) (q : Fin 1024) : val_main_v47 (F := Ideal) x0 x1 x3 x4 x5 (ix3 r 0 q)
    = x1 (ix4 0 r 0 q) * x5 (ix3 0 0 q) + x1 (ix4 0 r 1 q) * x5 (ix3 0 1 q) + Rows.fresh (proj x0 x3 x4 r) q * x5 (ix3 0 2 q) := by
  rw [← v28_apply x0 x1 x3 x4, ← v34_apply x0 x1 x3 x4, ← v41_apply x0 x1 x3 x4]
  unfold val_main_v47 val_main_v46 val_main_v40 val_main_v39 val_main_v33
  generalize val_main_v28 (F := Ideal) x0 x1 x3 x4 = a
  generalize val_main_v34 (F := Ideal) x0 x1 x3 x4 = b
  generalize val_main_v41 (F := Ideal) x0 x1 x3 x4 = d
  pointwise [val_main_v45, val_main_v44, val_main_v43, val_main_v42, val_main_v38, val_main_v37, val_main_v36, val_main_v35, val_main_v32, val_main_v31, val_main_v30, val_main_v29, val_main_v26]

/-- The gated convolution. -/
theorem v49_apply (r : Fin 128) (q : Fin 1024) : val_main_v49 (F := Ideal) x0 x1 x3 x4 x5 (ix3 r 0 q)
    = Rows.at' (proj x0 x3 x4 r) 0 (by decide) q
      * (x1 (ix4 0 r 0 q) * x5 (ix3 0 0 q) + x1 (ix4 0 r 1 q) * x5 (ix3 0 1 q) + Rows.fresh (proj x0 x3 x4 r) q * x5 (ix3 0 2 q)) := by
  rw [← v47_apply, ← v16_apply]
  rfl

/-- The gates. -/
theorem v96_apply (r : Fin 128) (q : Fin 3072) :
    val_main_v96 (F := Ideal) x0 x3 x4 (ix3 r 0 q) = Ideal.logistic (Rows.at' (proj x0 x3 x4 r) 9248 (by decide) q) := by
  rw [← v23_apply]
  unfold Ideal.logistic val_main_v96 val_main_v94 val_main_v92 val_main_v91
  generalize val_main_v23 (F := Ideal) x0 x3 x4 = y
  pointwise [val_main_v95, val_main_v93, val_main_cst_2, val_main_cst_3]

/-- The first branch. -/
theorem v101_apply (r : Fin 128) (q : Fin 1024) : val_main_v101 (F := Ideal) x0 x1 x3 x4 x5 x6 (ix2 r q)
    = Rows.branch (proj x0 x3 x4 r) (fun j => x1 (ix4 0 r 0 j)) (fun j => x1 (ix4 0 r 1 j)) (fun t j => x5 (ix3 0 t j)) (fun k j => x6 (ix3 0 k j)) q := by
  have e : (fun j => val_main_v49 (F := Ideal) x0 x1 x3 x4 x5 (ix3 r 0 j)) = _ := funext fun j => v49_apply x0 x1 x3 x4 x5 r j
  unfold Rows.branch
  rw [← e, show Rows.at' (proj x0 x3 x4 r) 9248 (by decide) q = Rows.at' (proj x0 x3 x4 r) 9248 (by decide) (⟨q.val, by omega⟩ : Fin 3072) from rfl,
    ← v96_apply]
  unfold Rows.mm val_main_v101 val_main_v100 val_main_v97 val_main_v51
  generalize val_main_v49 (F := Ideal) x0 x1 x3 x4 x5 = y
  generalize val_main_v96 (F := Ideal) x0 x3 x4 = g
  pointwise [val_main_v50]

/-- The second gate. -/
theorem v102_apply (r : Fin 128) (q : Fin 1024) :
    val_main_v102 (F := Ideal) x0 x3 x4 (ix2 r q) = Ideal.logistic (Rows.at' (proj x0 x3 x4 r) 10272 (by decide) q) := by
  rw [show Rows.at' (proj x0 x3 x4 r) 10272 (by decide) q = Rows.at' (proj x0 x3 x4 r) 9248 (by decide) (⟨1024 + q.val, by omega⟩ : Fin 3072) from
    congrArg (proj x0 x3 x4 r) (Fin.ext (by show 10272 + q.val = 9248 + (1024 + q.val); omega)), ← v96_apply]
  unfold val_main_v102 val_main_v98
  generalize val_main_v96 (F := Ideal) x0 x3 x4 = g
  pointwise

/-- The third gate. -/
theorem v103_apply (r : Fin 128) (q : Fin 1024) :
    val_main_v103 (F := Ideal) x0 x3 x4 (ix2 r q) = Ideal.logistic (Rows.at' (proj x0 x3 x4 r) 11296 (by decide) q) := by
  rw [show Rows.at' (proj x0 x3 x4 r) 11296 (by decide) q = Rows.at' (proj x0 x3 x4 r) 9248 (by decide) (⟨2048 + q.val, by omega⟩ : Fin 3072) from
    congrArg (proj x0 x3 x4 r) (Fin.ext (by show 11296 + q.val = 9248 + (2048 + q.val); omega)), ← v96_apply]
  unfold val_main_v103 val_main_v99
  generalize val_main_v96 (F := Ideal) x0 x3 x4 = g
  pointwise

/-- The recurrence's gate, flat. -/
theorem v104_apply (r : Fin 128) (q : Fin 2048) :
    val_main_v104 (F := Ideal) x0 x3 x4 (ix2 r q) = Rows.at' (proj x0 x3 x4 r) 3072 (by decide) q := by
  rw [← v19_apply]
  unfold val_main_v104
  generalize val_main_v19 (F := Ideal) x0 x3 x4 = g
  pointwise

/-- The queries, flat. -/
theorem v108_apply (r : Fin 128) (q : Fin 1024) :
    val_main_v108 (F := Ideal) x0 x3 x4 (ix2 r q) = Rows.at' (proj x0 x3 x4 r) 8224 (by decide) q := by
  rw [← v22_apply]
  unfold val_main_v108
  generalize val_main_v22 (F := Ideal) x0 x3 x4 = g
  pointwise

/-- Kept row 0 of the second convolution. -/
theorem v55_apply (r : Fin 128) (q : Fin 3072) : val_main_v55 (F := Ideal) x0 x2 x3 x4 (ix3 r 0 q) = x2 (ix4 0 r 0 q) := by
  unfold val_main_v55 val_main_v54
  generalize val_main_v20 (F := Ideal) x0 x3 x4 = y
  pointwise [val_main_v52]

/-- Kept row 1 of the second convolution. -/
theorem v61_apply (r : Fin 128) (q : Fin 3072) : val_main_v61 (F := Ideal) x0 x2 x3 x4 (ix3 r 0 q) = x2 (ix4 0 r 1 q) := by
  unfold val_main_v61 val_main_v54
  generalize val_main_v20 (F := Ideal) x0 x3 x4 = y
  pointwise [val_main_v52]

/-- Kept row 2 of the second convolution. -/
theorem v68_apply (r : Fin 128) (q : Fin 3072) : val_main_v68 (F := Ideal) x0 x2 x3 x4 (ix3 r 0 q) = x2 (ix4 0 r 2 q) := by
  unfold val_main_v68 val_main_v54
  generalize val_main_v20 (F := Ideal) x0 x3 x4 = y
  pointwise [val_main_v52]

/-- Its last row is the new one. -/
theorem v75_apply (r : Fin 128) (q : Fin 3072) : val_main_v75 (F := Ideal) x0 x2 x3 x4 (ix3 r 0 q) = Rows.at' (proj x0 x3 x4 r) 5120 (by decide) q := by
  rw [← v20_apply]
  unfold val_main_v75 val_main_v54
  generalize val_main_v20 (F := Ideal) x0 x3 x4 = y
  pointwise [val_main_v52]

/-- The second convolution with its bias. -/
theorem v86_apply (r : Fin 128) (q : Fin 3072) : val_main_v86 (F := Ideal) x0 x2 x3 x4 x7 x8 (ix3 r 0 q)
    = x2 (ix4 0 r 0 q) * x7 (ix3 0 0 q) + x2 (ix4 0 r 1 q) * x7 (ix3 0 1 q) + x2 (ix4 0 r 2 q) * x7 (ix3 0 2 q)
      + Rows.at' (proj x0 x3 x4 r) 5120 (by decide) q * x7 (ix3 0 3 q) + x8 (ix2 0 q) := by
  rw [← v55_apply x0 x2 x3 x4, ← v61_apply x0 x2 x3 x4, ← v68_apply x0 x2 x3 x4, ← v75_apply x0 x2 x3 x4]
  unfold val_main_v86 val_main_v81 val_main_v80 val_main_v74 val_main_v73 val_main_v67 val_main_v66 val_main_v60
  generalize val_main_v55 (F := Ideal) x0 x2 x3 x4 = a
  generalize val_main_v61 (F := Ideal) x0 x2 x3 x4 = b
  generalize val_main_v68 (F := Ideal) x0 x2 x3 x4 = c
  generalize val_main_v75 (F := Ideal) x0 x2 x3 x4 = d
  pointwise [val_main_v59, val_main_v58, val_main_v57, val_main_v56, val_main_v65, val_main_v64, val_main_v63, val_main_v62, val_main_v72, val_main_v71, val_main_v70, val_main_v69, val_main_v79, val_main_v78, val_main_v77, val_main_v76, val_main_v53, val_main_v83, val_main_v84, val_main_v85]

/-- The second convolution with its activation. -/
theorem v87_apply (r : Fin 128) (q : Fin 3072) : val_main_v87 (F := Ideal) x0 x2 x3 x4 x7 x8 (ix3 r 0 q)
    = Rows.act (proj x0 x3 x4 r) (fun t j => x2 (ix4 0 r t j)) (fun t j => x7 (ix3 0 t j)) (fun j => x8 (ix2 0 j)) q := by
  unfold Rows.act Rows.taps4
  rw [← v86_apply]
  unfold Rows.silu Ideal.logistic val_main_v87 val_main_call0_v5 val_main_call0_v3 val_main_call0_v1 val_main_call0_v0
  generalize val_main_v86 (F := Ideal) x0 x2 x3 x4 x7 x8 = y
  pointwise [val_main_call0_v4, val_main_call0_v2, val_main_call0_cst, val_main_call0_cst_0]

/-- The recurrence's inputs, flat. -/
theorem v105_apply (r : Fin 128) (q : Fin 2048) : val_main_v105 (F := Ideal) x0 x2 x3 x4 x7 x8 (ix2 r q)
    = Rows.act (proj x0 x3 x4 r) (fun t j => x2 (ix4 0 r t j)) (fun t j => x7 (ix3 0 t j)) (fun j => x8 (ix2 0 j)) ⟨0 + q.val, by omega⟩ := by
  rw [← v87_apply]
  unfold val_main_v105 val_main_v88
  generalize val_main_v87 (F := Ideal) x0 x2 x3 x4 x7 x8 = y
  pointwise

/-- The recurrence's writing keys, flat. -/
theorem v106_apply (r : Fin 128) (q : Fin 512) : val_main_v106 (F := Ideal) x0 x2 x3 x4 x7 x8 (ix2 r q)
    = Rows.act (proj x0 x3 x4 r) (fun t j => x2 (ix4 0 r t j)) (fun t j => x7 (ix3 0 t j)) (fun j => x8 (ix2 0 j)) ⟨2048 + q.val, by omega⟩ := by
  rw [← v87_apply]
  unfold val_main_v106 val_main_v89
  generalize val_main_v87 (F := Ideal) x0 x2 x3 x4 x7 x8 = y
  pointwise

/-- The recurrence's reading keys, flat. -/
theorem v107_apply (r : Fin 128) (q : Fin 512) : val_main_v107 (F := Ideal) x0 x2 x3 x4 x7 x8 (ix2 r q)
    = Rows.act (proj x0 x3 x4 r) (fun t j => x2 (ix4 0 r t j)) (fun t j => x7 (ix3 0 t j)) (fun j => x8 (ix2 0 j)) ⟨2560 + q.val, by omega⟩ := by
  rw [← v87_apply]
  unfold val_main_v107 val_main_v90
  generalize val_main_v87 (F := Ideal) x0 x2 x3 x4 x7 x8 = y
  pointwise

/-- The first convolution's kept rows for the next token. -/
theorem v109_apply (r : Fin 128) (q : Fin 2048) : val_main_v109 (F := Ideal) x0 x1 x3 x4 (ix2 r q)
    = Rows.keep2 (proj x0 x3 x4 r) (fun j => x1 (ix4 0 r 1 j)) q := by
  have e := v24_apply x0 x3 x4 r
  unfold Rows.keep2 val_main_v109 val_main_v48 val_main_v27
  simp only [← e]
  generalize val_main_v24 (F := Ideal) x0 x3 x4 = y
  clear e
  pointwise [val_main_v25]
  by_cases h : q.val < 1024
  · refine (dif_pos (by omega)).trans (Eq.trans ?_ (dif_pos h).symm)
    exact congrArg₂ (fun a b => x1 (ix4 0 r a b)) (Fin.ext (by show 1 + q.val / 1024 = 1; omega)) (Fin.ext (by show q.val % 1024 = q.val; omega))
  · refine (dif_neg (by omega)).trans (Eq.trans ?_ (dif_neg h).symm)
    exact congrArg₂ (fun a b => y (ix3 r a b)) (Subsingleton.elim _ _) (Fin.ext (by show q.val % 1024 = q.val - 1024; omega))

/-- The second convolution's kept rows for the next token. -/
theorem v110_apply (r : Fin 128) (q : Fin 9216) : val_main_v110 (F := Ideal) x0 x2 x3 x4 (ix2 r q)
    = Rows.keep3 (proj x0 x3 x4 r) (fun t j => x2 (ix4 0 r t j)) q := by
  have e := v20_apply x0 x3 x4 r
  unfold Rows.keep3 val_main_v110 val_main_v82 val_main_v54
  simp only [← e]
  generalize val_main_v20 (F := Ideal) x0 x3 x4 = y
  clear e
  pointwise [val_main_v52]
  by_cases h : q.val < 6144
  · refine (dif_pos (by omega)).trans (Eq.trans ?_ (dif_pos h).symm)
    exact congrArg (fun a => x2 (ix4 0 r a _)) (Fin.ext (by show 1 + q.val / 3072 = q.val / 3072 + 1; omega))
  · refine (dif_neg (by omega)).trans (Eq.trans ?_ (dif_neg h).symm)
    exact congrArg₂ (fun a b => y (ix3 r a b)) (Subsingleton.elim _ _) (Fin.ext (by show q.val % 3072 = q.val - 6144; omega))

end Cert.PlainFrontIdeal.Rd

end
-- ==== Proof.FrontClaim.lean ====
/-
  The claims of the sample's first call: the runs leave their arguments as they were, the ideal program is the kernel's own,
  and the kernel's ten results over the extended reals are the reference's.
-/
module

public import proofs.«01_k».proof.Defs
public import proofs.«01_k».proof.Proof.FrontFrame
public import proofs.«01_k».proof.Proof.Gen.PlainFrontIdeal.Run
public import proofs.«01_k».proof.Proof.FrontValue
public import proofs.«01_k».proof.Proof.FrontRef
public import Idealize.ShloMosaic.Lib.Quiescent

@[expose] public section

set_option maxRecDepth 16384

noncomputable section

namespace Cert.FrontClaim

open Idealize.ShloMosaic Idealize.ShloMosaic.TcCoe Idealize.SL.Sem

/-- The kernel's program runs and leaves its arguments as they were. -/
theorem frame_k : Cert.quiescent_Front := fun m ρ _ => Cert.Front.Gen.frame m ρ
/-- So does its ideal program. -/
theorem frame_i : Cert.quiescent_FrontIdeal := fun m ρ _ => Cert.FrontIdeal.Gen.frame m ρ
/-- So does the reference. -/
theorem frame_r : Cert.quiescent_PlainFrontIdeal := fun m ρ _ =>
  (θ_run Cert.PlainFrontIdeal.defs _ _).mono (fun r h => ⟨fun c => (h c).2.2.2.2.2.2.2.2.2.2, sem_eq_zero_of_no_sems (by decide) r.2⟩)
    (Cert.PlainFrontIdeal.Value.run (F := Ideal) m ρ)
/-- The ideal program is the kernel's own: no operation was replaced. -/
theorem preserves : Cert.preserves_Front_FrontIdeal := trivial

section
variable (x0 : Vec Ideal Cert.PlainFrontIdeal.S128x1x1024 .f32)
  (x1 : Vec Ideal Cert.PlainFrontIdeal.S1x128x2x1024 .f32)
  (x2 : Vec Ideal Cert.PlainFrontIdeal.S1x128x3x3072 .f32)
  (x3 : Vec Ideal Cert.PlainFrontIdeal.S1x1024 .f32)
  (x4 : Vec Ideal Cert.PlainFrontIdeal.S1x1024x12320 .f32)
  (x5 : Vec Ideal Cert.PlainFrontIdeal.S1x3x1024 .f32)
  (x6 : Vec Ideal Cert.PlainFrontIdeal.S1x1024x1024 .f32)
  (x7 : Vec Ideal Cert.PlainFrontIdeal.S1x4x3072 .f32)
  (x8 : Vec Ideal Cert.PlainFrontIdeal.S1x3072 .f32)

/-- The reference's first branch of every token: the kernel's function of the arguments. -/
theorem ref_v101 : Cert.PlainFrontIdeal.Read.val_main_v101 (F := Ideal) x0 x1 x3 x4 x5 x6 = Cert.FrontIdeal.Rd.GBranch x0 x1 x3 x4 x5 x6 := by
  funext i
  idx_vars i
  exact Cert.PlainFrontIdeal.Rd.v101_apply x0 x1 x3 x4 x5 x6 i0 i1

/-- The reference's second gate: the kernel's function of the arguments. -/
theorem ref_v102 : Cert.PlainFrontIdeal.Read.val_main_v102 (F := Ideal) x0 x3 x4 = Cert.FrontIdeal.Rd.GGate x0 x3 x4 10272 (by decide) := by
  funext i
  idx_vars i
  exact Cert.PlainFrontIdeal.Rd.v102_apply x0 x3 x4 i0 i1

/-- The reference's third gate: the kernel's function of the arguments. -/
theorem ref_v103 : Cert.PlainFrontIdeal.Read.val_main_v103 (F := Ideal) x0 x3 x4 = Cert.FrontIdeal.Rd.GGate x0 x3 x4 11296 (by decide) := by
  funext i
  idx_vars i
  exact Cert.PlainFrontIdeal.Rd.v103_apply x0 x3 x4 i0 i1

/-- The reference's gate of the recurrence: the kernel's function of the arguments. -/
theorem ref_v104 : Cert.PlainFrontIdeal.Read.val_main_v104 (F := Ideal) x0 x3 x4 = Cert.FrontIdeal.Rd.GSec x0 x3 x4 2048 3072 (by decide) := by
  funext i
  idx_vars i
  exact Cert.PlainFrontIdeal.Rd.v104_apply x0 x3 x4 i0 i1

/-- The reference's recurrence's input: the kernel's function of the arguments. -/
theorem ref_v105 : Cert.PlainFrontIdeal.Read.val_main_v105 (F := Ideal) x0 x2 x3 x4 x7 x8 = Cert.FrontIdeal.Rd.GAct x0 x2 x3 x4 x7 x8 2048 0 (by decide) := by
  funext i
  idx_vars i
  exact Cert.PlainFrontIdeal.Rd.v105_apply x0 x2 x3 x4 x7 x8 i0 i1

/-- The reference's recurrence's first pairing: the kernel's function of the arguments. -/
theorem ref_v106 : Cert.PlainFrontIdeal.Read.val_main_v106 (F := Ideal) x0 x2 x3 x4 x7 x8 = Cert.FrontIdeal.Rd.GAct x0 x2 x3 x4 x7 x8 512 2048 (by decide) := by
  funext i
  idx_vars i
  exact Cert.PlainFrontIdeal.Rd.v106_apply x0 x2 x3 x4 x7 x8 i0 i1

/-- The reference's recurrence's second pairing: the kernel's function of the arguments. -/
theorem ref_v107 : Cert.PlainFrontIdeal.Read.val_main_v107 (F := Ideal) x0 x2 x3 x4 x7 x8 = Cert.FrontIdeal.Rd.GAct x0 x2 x3 x4 x7 x8 512 2560 (by decide) := by
  funext i
  idx_vars i
  exact Cert.PlainFrontIdeal.Rd.v107_apply x0 x2 x3 x4 x7 x8 i0 i1

/-- The reference's attention's queries: the kernel's function of the arguments. -/
theorem ref_v108 : Cert.PlainFrontIdeal.Read.val_main_v108 (F := Ideal) x0 x3 x4 = Cert.FrontIdeal.Rd.GSec x0 x3 x4 1024 8224 (by decide) := by
  funext i
  idx_vars i
  exact Cert.PlainFrontIdeal.Rd.v108_apply x0 x3 x4 i0 i1

/-- The reference's first convolution's kept rows: the kernel's function of the arguments. -/
theorem ref_v109 : Cert.PlainFrontIdeal.Read.val_main_v109 (F := Ideal) x0 x1 x3 x4 = Cert.FrontIdeal.Rd.GKeep2 x0 x1 x3 x4 := by
  funext i
  idx_vars i
  exact Cert.PlainFrontIdeal.Rd.v109_apply x0 x1 x3 x4 i0 i1

/-- The reference's second convolution's kept rows: the kernel's function of the arguments. -/
theorem ref_v110 : Cert.PlainFrontIdeal.Read.val_main_v110 (F := Ideal) x0 x2 x3 x4 = Cert.FrontIdeal.Rd.GKeep3 x0 x2 x3 x4 := by
  funext i
  idx_vars i
  exact Cert.PlainFrontIdeal.Rd.v110_apply x0 x2 x3 x4 i0 i1

end

/-- Over the extended reals the kernel and the reference compute the same ten arrays of arguments that agree. -/
theorem algebraic : Cert.algebraic_FrontIdeal_PlainFrontIdeal := by
  intro m ρ m' ρ' _ hag
  refine ⟨fun c => Cert.FrontIdeal.Rd.R17 m c, fun c => Cert.FrontIdeal.Rd.R18 m c, fun c => Cert.FrontIdeal.Rd.R19 m c, fun c => Cert.FrontIdeal.Rd.R20 m c, fun c => Cert.FrontIdeal.Rd.R21 m c, fun c => Cert.FrontIdeal.Rd.R24 m c, fun c => Cert.FrontIdeal.Rd.R25 m c, fun c => Cert.FrontIdeal.Rd.R26 m c, fun c => Cert.FrontIdeal.Rd.R27 m c, fun c => Cert.FrontIdeal.Rd.R28 m c, Cert.FrontIdeal.Rd.run m ρ, ?_⟩
  refine (θ_run Cert.PlainFrontIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2⟩)
      (Cert.PlainFrontIdeal.Value.run (F := Ideal) m' ρ')
  all_goals obtain ⟨h0, h1, h2, h3, h4, h5, h6, h7, h8, h9, h10⟩ := hag c
  · rw [Cert.PlainFrontIdeal.Read.val_main_v101_eq, h0, h1, h3, h4, h5, h6]
    exact ref_v101 _ _ _ _ _ _
  · rw [h0, h3, h4]
    exact ref_v102 _ _ _
  · rw [h0, h3, h4]
    exact ref_v103 _ _ _
  · rw [h0, h3, h4]
    exact ref_v104 _ _ _
  · rw [Cert.PlainFrontIdeal.Read.val_main_v105_eq, h0, h2, h3, h4, h7, h8]
    exact ref_v105 _ _ _ _ _ _
  · rw [Cert.PlainFrontIdeal.Read.val_main_v106_eq, h0, h2, h3, h4, h7, h8]
    exact ref_v106 _ _ _ _ _ _
  · rw [Cert.PlainFrontIdeal.Read.val_main_v107_eq, h0, h2, h3, h4, h7, h8]
    exact ref_v107 _ _ _ _ _ _
  · rw [h0, h3, h4]
    exact ref_v108 _ _ _
  · rw [h0, h1, h3, h4]
    exact ref_v109 _ _ _ _
  · rw [h0, h2, h3, h4]
    exact ref_v110 _ _ _ _

end Cert.FrontClaim

end
-- ==== Proof.lean ====
/-
  The certificate's claims, gathered from the calls' modules.
-/
module

public import proofs.«01_k».proof.Defs
public import proofs.«01_k».proof.Proof.MixClaim
public import proofs.«01_k».proof.Proof.FfnClaim
public import proofs.«01_k».proof.Proof.MemClaim
public import proofs.«01_k».proof.Proof.BackClaim
public import proofs.«01_k».proof.Proof.FrontClaim

@[expose] public section

noncomputable section

namespace Cert.Proof

/-- Every claim of the certificate. -/
theorem claim : Cert.Claim :=
  ⟨Cert.Mix.Gen.facts, Cert.MixIdeal.Gen.facts, Cert.PlainMixIdeal.Gen.facts, Cert.Ffn.Gen.facts, Cert.FfnIdeal.Gen.facts,
    Cert.PlainFfnIdeal.Gen.facts, Cert.Mem.Gen.facts, Cert.MemIdeal.Gen.facts, Cert.PlainMemIdeal.Gen.facts,
    Cert.Front.Gen.facts, Cert.FrontIdeal.Gen.facts, Cert.PlainFrontIdeal.Gen.facts,
    Cert.Back.Gen.facts, Cert.BackIdeal.Gen.facts, Cert.PlainBackIdeal.Gen.facts,
    Cert.MixClaim.frame_k, Cert.MixClaim.frame_i, Cert.MixClaim.frame_r,
    Cert.FfnClaim.frame_k, Cert.FfnClaim.frame_i, Cert.FfnClaim.frame_r,
    Cert.MemClaim.frame_k, Cert.MemClaim.frame_i, Cert.MemClaim.frame_r,
    Cert.FrontClaim.frame_k, Cert.FrontClaim.frame_i, Cert.FrontClaim.frame_r,
    Cert.BackClaim.frame_k, Cert.BackClaim.frame_i, Cert.BackClaim.frame_r,
    Cert.MixClaim.preserves, Cert.MixClaim.algebraic, Cert.FfnClaim.preserves, Cert.FfnClaim.algebraic,
    Cert.MemClaim.preserves, Cert.MemClaim.algebraic,
    Cert.FrontClaim.preserves, Cert.FrontClaim.algebraic, Cert.BackClaim.preserves, Cert.BackClaim.algebraic⟩

end Cert.Proof

end
